-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2048x3 : Shape := ⟨2, ![2048, 3]⟩
abbrev S4096x12 : Shape := ⟨2, ![4096, 12]⟩
abbrev S4096x20 : Shape := ⟨2, ![4096, 20]⟩
abbrev S4096x4 : Shape := ⟨2, ![4096, 4]⟩
abbrev S_ : Shape := ⟨0, ![]⟩

class Facts : Prop where
  bcast_S_S4096x4 : S_.BroadcastsInDim S4096x4 (![] : Fin 0 → Fin S4096x4.rank)
  reducesTo_S4096x4_S_d0_1 : S4096x4.ReducesTo [0, 1] S_
  h_S_ : 0 < S_.numel

variable [Facts]

def fn {F : FTy → Type} [FloatOps F] (main_arg0 : FVec F S2048x3 .f32) (main_arg1 : FVec F S2048x3 .f32) (main_arg2 : FVec F S4096x12 .f32) (main_arg3 : FVec F S4096x20 .f32) (main_arg4 : IVec S4096x4 32) (main_arg5 : IVec S4096x4 32) : IVec S_ 1 :=
  let main_c : IVec S_ 32 := constantI S_ 32 0#32
  let main_v0 : IVec S4096x4 32 := broadcastInDim S4096x4 ![] bcast_S_S4096x4 main_c
  let main_v1 : IVec S4096x4 1 := cmpi .sge main_arg4 main_v0
  let main_c_0 : IVec S_ 32 := constantI S_ 32 4096#32
  let main_v2 : IVec S4096x4 32 := broadcastInDim S4096x4 ![] bcast_S_S4096x4 main_c_0
  let main_v3 : IVec S4096x4 1 := cmpi .slt main_arg4 main_v2
  let main_v4 : IVec S4096x4 1 := andi main_v1 main_v3
  let main_c_1 : IVec S_ 1 := constantI S_ 1 1#1
  let main_v5 : IVec S_ 1 := (fun x v => Host.reduce IntOp.andi x v reducesTo_S4096x4_S_d0_1 h_S_) main_v4 main_c_1
  let main_c_2 : IVec S_ 32 := constantI S_ 32 0#32
  let main_v6 : IVec S4096x4 32 := broadcastInDim S4096x4 ![] bcast_S_S4096x4 main_c_2
  let main_v7 : IVec S4096x4 1 := cmpi .sge main_arg5 main_v6
  let main_c_3 : IVec S_ 32 := constantI S_ 32 4096#32
  let main_v8 : IVec S4096x4 32 := broadcastInDim S4096x4 ![] bcast_S_S4096x4 main_c_3
  let main_v9 : IVec S4096x4 1 := cmpi .slt main_arg5 main_v8
  let main_v10 : IVec S4096x4 1 := andi main_v7 main_v9
  let main_c_4 : IVec S_ 1 := constantI S_ 1 1#1
  let main_v11 : IVec S_ 1 := (fun x v => Host.reduce IntOp.andi x v reducesTo_S4096x4_S_d0_1 h_S_) main_v10 main_c_4
  let main_v12 : IVec S_ 1 := andi main_v5 main_v11
  main_v12
-- ==== Kernel.lean ====
abbrev S2048x3 : Shape := ⟨2, ![2048, 3]⟩
abbrev S4096x12 : Shape := ⟨2, ![4096, 12]⟩
abbrev S4096x20 : Shape := ⟨2, ![4096, 20]⟩
abbrev S4096x4 : Shape := ⟨2, ![4096, 4]⟩
abbrev S4096x28 : Shape := ⟨2, ![4096, 28]⟩
abbrev S28x4096 : Shape := ⟨2, ![28, 4096]⟩
abbrev S_ : Shape := ⟨0, ![]⟩
abbrev S63 : Shape := ⟨1, ![63]⟩
abbrev S1 : Shape := ⟨1, ![1]⟩
abbrev S64 : Shape := ⟨1, ![64]⟩
abbrev S64x1 : Shape := ⟨2, ![64, 1]⟩
abbrev S3x2048 : Shape := ⟨2, ![3, 2048]⟩
abbrev S3x64x2048 : Shape := ⟨3, ![3, 64, 2048]⟩
abbrev S24x2048 : Shape := ⟨2, ![24, 2048]⟩
abbrev S1x2048 : Shape := ⟨2, ![1, 2048]⟩
abbrev S512x12 : Shape := ⟨2, ![512, 12]⟩
abbrev S512x1 : Shape := ⟨2, ![512, 1]⟩
abbrev S512x2048 : Shape := ⟨2, ![512, 2048]⟩
abbrev S2048 : Shape := ⟨1, ![2048]⟩
abbrev S28x2048 : Shape := ⟨2, ![28, 2048]⟩
abbrev S28x512 : Shape := ⟨2, ![28, 512]⟩
abbrev S4x2048 : Shape := ⟨2, ![4, 2048]⟩
abbrev S8x2048 : Shape := ⟨2, ![8, 2048]⟩
abbrev S64x2048 : Shape := ⟨2, ![64, 2048]⟩
abbrev S1x64x2048 : Shape := ⟨3, ![1, 64, 2048]⟩
abbrev S2048x64x3 : Shape := ⟨3, ![2048, 64, 3]⟩

abbrev nBuf : Space → Nat
  | .hbm => 48
  | .vmem => 10
  | .smem => 0
  | _ => 0

abbrev bufTy : (tb : Table) → Fin (tcTables nBuf tb) → BufTy
  | .hbm, ⟨0, _⟩ => ⟨S2048x3, .f32⟩
  | .hbm, ⟨1, _⟩ => ⟨S2048x3, .f32⟩
  | .hbm, ⟨2, _⟩ => ⟨S4096x12, .f32⟩
  | .hbm, ⟨3, _⟩ => ⟨S4096x20, .f32⟩
  | .hbm, ⟨4, _⟩ => ⟨S4096x4, .i32⟩
  | .hbm, ⟨5, _⟩ => ⟨S4096x4, .i32⟩
  | .hbm, ⟨6, _⟩ => ⟨S4096x4, .f32⟩
  | .hbm, ⟨7, _⟩ => ⟨S4096x4, .f32⟩
  | .hbm, ⟨8, _⟩ => ⟨S4096x28, .f32⟩
  | .hbm, ⟨9, _⟩ => ⟨S28x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S63, .f32⟩
  | .hbm, ⟨18, _⟩ => ⟨S_, .f32⟩
  | .hbm, ⟨19, _⟩ => ⟨S63, .f32⟩
  | .hbm, ⟨20, _⟩ => ⟨S63, .f32⟩
  | .hbm, ⟨21, _⟩ => ⟨S1, .f32⟩
  | .hbm, ⟨22, _⟩ => ⟨S_, .f32⟩
  | .hbm, ⟨23, _⟩ => ⟨S63, .f32⟩
  | .hbm, ⟨24, _⟩ => ⟨S63, .f32⟩
  | .hbm, ⟨25, _⟩ => ⟨S63, .f32⟩
  | .hbm, ⟨26, _⟩ => ⟨S63, .f32⟩
  | .hbm, ⟨27, _⟩ => ⟨S1, .f32⟩
  | .hbm, ⟨28, _⟩ => ⟨S63, .f32⟩
  | .hbm, ⟨29, _⟩ => ⟨S63, .f32⟩
  | .hbm, ⟨30, _⟩ => ⟨S63, .f32⟩
  | .hbm, ⟨31, _⟩ => ⟨S1, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S64x1, .f32⟩
  | .hbm, ⟨44, _⟩ => ⟨S3x2048, .f32⟩
  | .hbm, ⟨45, _⟩ => ⟨S3x2048, .f32⟩
  | .hbm, ⟨46, _⟩ => ⟨S3x64x2048, .f32⟩
  | .hbm, ⟨47, _⟩ => ⟨S2048x64x3, .f32⟩
  | .local _ .vmem, ⟨0, _⟩ => ⟨S3x2048, .f32⟩
  | .local _ .vmem, ⟨1, _⟩ => ⟨S3x2048, .f32⟩
  | .local _ .vmem, ⟨2, _⟩ => ⟨S4096x12, .f32⟩
  | .local _ .vmem, ⟨3, _⟩ => ⟨S28x4096, .f32⟩
  | .local _ .vmem, ⟨4, _⟩ => ⟨S64x1, .f32⟩
  | .local _ .vmem, ⟨5, _⟩ => ⟨S3x64x2048, .f32⟩
  | .local _ .vmem, ⟨6, _⟩ => ⟨S24x2048, .f32⟩
  | .local _ .vmem, ⟨7, _⟩ => ⟨S24x2048, .f32⟩
  | .local _ .vmem, ⟨8, _⟩ => ⟨S24x2048, .f32⟩
  | .local _ .vmem, ⟨9, _⟩ => ⟨S24x2048, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_cst_2 : Ref sig .tc := ⟨.hbm, 36, rfl⟩
abbrev main_v7 : Ref sig .tc := ⟨.hbm, 37, rfl⟩
abbrev main_v8 : Ref sig .tc := ⟨.hbm, 38, rfl⟩
abbrev main_cst_3 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v756 : BitVec 32 := Scalar.muli arg10 c512_i32
  let v757 : Index := Scalar.indexCast v756
  let c0_323 : Index := 0#32
  ![v757.toNat, 0]
@[reducible] def k0_t2_loop : Scf.Loop 32 :=
  let c0_i32_16 : BitVec 32 := 0#32
  let c16_i32 : BitVec 32 := 16#32
  let v32 : BitVec 32 := Scalar.addi c0_i32_16 c16_i32
  let c1_i32_17 : BitVec 32 := 1#32
  ⟨c0_i32_16, v32, c1_i32_17⟩
@[reducible] def k0_t3_loop : Scf.Loop 32 :=
  let c0_i32_325 : BitVec 32 := 0#32
  let c8_i32_326 : BitVec 32 := 8#32
  let v762 : BitVec 32 := Scalar.addi c0_i32_325 c8_i32_326
  let c1_i32_327 : BitVec 32 := 1#32
  ⟨c0_i32_325, v762, c1_i32_327⟩
def k0_off2 (k0_t3 : Fin k0_t3_loop.trips) : Fin 2 → Nat :=
  let c0_353 : Index := 0#32
  let c0_i32_325 : BitVec 32 := 0#32
  let c1_i32_327 : BitVec 32 := 1#32
  let arg19 : BitVec 32 := Scf.iv c0_i32_325 c1_i32_327 k0_t3
  let c512_i32_352 : BitVec 32 := 512#32
  let v999 : BitVec 32 := Scalar.muli arg19 c512_i32_352
  let v1000 : Index := Scalar.indexCast v999
  ![0, v1000.toNat]
def k0_off3 (k0_t2 : Fin k0_t2_loop.trips) : Fin 2 → Nat :=
  let c0_i32_16 : BitVec 32 := 0#32
  let c1_i32_17 : BitVec 32 := 1#32
  let arg10 : BitVec 32 := Scf.iv c0_i32_16 c1_i32_17 k0_t2
  let c1_i32_344 : BitVec 32 := 1#32
  let v971 : BitVec 32 := Scalar.addi arg10 c1_i32_344
  let v972 : Index := Scalar.indexCast v971
  let c0_345 : Index := 0#32
  ![v972.toNat, 0]
abbrev stage0_0 : Fin 1 → Memref sig .tc .vmem S3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x3 : Shape := ⟨2, ![2048, 3]⟩
abbrev S4096x12 : Shape := ⟨2, ![4096, 12]⟩
abbrev S4096x20 : Shape := ⟨2, ![4096, 20]⟩
abbrev S4096x4 : Shape := ⟨2, ![4096, 4]⟩
abbrev S2048 : Shape := ⟨1, ![2048]⟩
abbrev S2048x4 : Shape := ⟨2, ![2048, 4]⟩
abbrev S_ : Shape := ⟨0, ![]⟩
abbrev S63 : Shape := ⟨1, ![63]⟩
abbrev S1 : Shape := ⟨1, ![1]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S4096x9 : Shape := ⟨2, ![4096, 9]⟩
abbrev S4096x3x3 : Shape := ⟨3, ![4096, 3, 3]⟩
abbrev S4096x3 : Shape := ⟨2, ![4096, 3]⟩
abbrev S4096x1 : Shape := ⟨2, ![4096, 1]⟩
abbrev S4096 : Shape := ⟨1, ![4096]⟩
abbrev S4096x3x4 : Shape := ⟨3, ![4096, 3, 4]⟩
abbrev S4096x4x3 : Shape := ⟨3, ![4096, 4, 3]⟩
abbrev S4096x3x2048 : Shape := ⟨3, ![4096, 3, 2048]⟩
abbrev S4096x3x1 : Shape := ⟨3, ![4096, 3, 1]⟩
abbrev S4096x2048 : Shape := ⟨2, ![4096, 2048]⟩
abbrev S16x2048x3 : Shape := ⟨3, ![16, 2048, 3]⟩
abbrev S16x2048 : Shape := ⟨2, ![16, 2048]⟩
abbrev S2048x4x3 : Shape := ⟨3, ![2048, 4, 3]⟩
abbrev S2048x1x3 : Shape := ⟨3, ![2048, 1, 3]⟩
abbrev S1x2048x4 : Shape := ⟨3, ![1, 2048, 4]⟩
abbrev S2x2048x4 : Shape := ⟨3, ![2, 2048, 4]⟩
abbrev S2048x2 : Shape := ⟨2, ![2048, 2]⟩
abbrev S1x2048x3 : Shape := ⟨3, ![1, 2048, 3]⟩
abbrev S1x2048 : Shape := ⟨2, ![1, 2048]⟩
abbrev S2048x16x3 : Shape := ⟨3, ![2048, 16, 3]⟩
abbrev S2048x17x3 : Shape := ⟨3, ![2048, 17, 3]⟩
abbrev S2048x16 : Shape := ⟨2, ![2048, 16]⟩
abbrev S2048x17 : Shape := ⟨2, ![2048, 17]⟩
abbrev S2048x1x17 : Shape := ⟨3, ![2048, 1, 17]⟩
abbrev S2048x64x1 : Shape := ⟨3, ![2048, 64, 1]⟩
abbrev S2048x64x17 : Shape := ⟨3, ![2048, 64, 17]⟩
abbrev S2048x64x2 : Shape := ⟨3, ![2048, 64, 2]⟩
abbrev S2048x64x3 : Shape := ⟨3, ![2048, 64, 3]⟩

abbrev nBuf : Space → Nat
  | .hbm => 443
  | .vmem => 0
  | .smem => 0
  | _ => 0

abbrev hbmTy0_0 (i : Nat) : BufTy := match i % 128 with
  | 0 => ⟨S2048x3, .f32⟩
  | 1 => ⟨S2048x3, .f32⟩
  | 2 => ⟨S4096x12, .f32⟩
  | 3 => ⟨S4096x20, .f32⟩
  | 4 => ⟨S4096x4, .i32⟩
  | 5 => ⟨S4096x4, .i32⟩
  | 6 => ⟨S2048, .i32⟩
  | 7 => ⟨S2048x4, .i32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S63, .f32⟩
  | 16 => ⟨S_, .f32⟩
  | 17 => ⟨S63, .f32⟩
  | 18 => ⟨S63, .f32⟩
  | 19 => ⟨S1, .f32⟩
  | 20 => ⟨S_, .f32⟩
  | 21 => ⟨S63, .f32⟩
  | 22 => ⟨S63, .f32⟩
  | 23 => ⟨S63, .f32⟩
  | 24 => ⟨S63, .f32⟩
  | 25 => ⟨S1, .f32⟩
  | 26 => ⟨S63, .f32⟩
  | 27 => ⟨S63, .f32⟩
  | 28 => ⟨S63, .f32⟩
  | 29 => ⟨S1, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S64, .f32⟩
  | 41 => ⟨S1x64, .f32⟩
  | 42 => ⟨S_, .f32⟩
  | 43 => ⟨S2048x1, .f32⟩
  | 44 => ⟨S2048x64, .f32⟩
  | 45 => ⟨S2048x64, .f32⟩
  | 46 => ⟨S2048x64, .f32⟩
  | 47 => ⟨S4096x9, .f32⟩
  | 48 => ⟨S4096x3x3, .f32⟩
  | 49 => ⟨S4096x3, .f32⟩
  | 50 => ⟨S4096x3, .f32⟩
  | 51 => ⟨S4096x1, .f32⟩
  | 52 => ⟨S4096, .f32⟩
  | 53 => ⟨S4096x12, .f32⟩
  | 54 => ⟨S4096x3x4, .f32⟩
  | 55 => ⟨S4096x4x3, .f32⟩
  | 56 => ⟨S4096x4, .f32⟩
  | 57 => ⟨S4096x3x2048, .f32⟩
  | 58 => ⟨S4096x3x1, .f32⟩
  | 59 => ⟨S4096x3x2048, .f32⟩
  | 60 => ⟨S4096x3x2048, .f32⟩
  | 61 => ⟨S_, .f32⟩
  | 62 => ⟨S4096x3x2048, .f32⟩
  | 63 => ⟨S4096x3x2048, .i1⟩
  | 64 => ⟨S_, .i1⟩
  | 65 => ⟨S4096x2048, .i1⟩
  | 66 => ⟨S_, .f32⟩
  | 67 => ⟨S4096x3x2048, .f32⟩
  | 68 => ⟨S4096x3x2048, .i1⟩
  | 69 => ⟨S_, .i1⟩
  | 70 => ⟨S4096x2048, .i1⟩
  | 71 => ⟨S4096x2048, .i1⟩
  | 72 => ⟨S_, .f32⟩
  | 73 => ⟨S4096x2048, .f32⟩
  | 74 => ⟨S_, .f32⟩
  | 75 => ⟨S4096x2048, .f32⟩
  | 76 => ⟨S4096x2048, .i1⟩
  | 77 => ⟨S4096x2048, .i1⟩
  | 78 => ⟨S_, .i1⟩
  | 79 => ⟨S2048, .i1⟩
  | 80 => ⟨S4096x2048, .i32⟩
  | 81 => ⟨S_, .i1⟩
  | 82 => ⟨S_, .i32⟩
  | 83 => ⟨S2048, .i1⟩
  | 84 => ⟨S2048, .i32⟩
  | 85 => ⟨S_, .i32⟩
  | 86 => ⟨S2048, .i32⟩
  | 87 => ⟨S2048, .i32⟩
  | 88 => ⟨S_, .f32⟩
  | 89 => ⟨S16x2048x3, .f32⟩
  | 90 => ⟨S_, .f32⟩
  | 91 => ⟨S16x2048, .f32⟩
  | 92 => ⟨S_, .i32⟩
  | 93 => ⟨S4096x3, .f32⟩
  | 94 => ⟨S4096, .f32⟩
  | 95 => ⟨S4096x4x3, .f32⟩
  | 96 => ⟨S4096x4, .f32⟩
  | 97 => ⟨S2048x4, .i32⟩
  | 98 => ⟨S4096x4, .i32⟩
  | 99 => ⟨S4096x4, .i32⟩
  | 100 => ⟨S2048, .i32⟩
  | 101 => ⟨S_, .i32⟩
  | 102 => ⟨S2048, .i32⟩
  | 103 => ⟨S2048x3, .f32⟩
  | 104 => ⟨S2048x3, .f32⟩
  | 105 => ⟨S16x2048x3, .f32⟩
  | 106 => ⟨S16x2048, .f32⟩
  | 107 => ⟨S_, .i32⟩
  | 108 => ⟨S_, .i1⟩
  | 109 => ⟨S_, .i32⟩
  | 110 => ⟨S2048, .i32⟩
  | 111 => ⟨S2048, .i1⟩
  | 112 => ⟨S_, .i32⟩
  | 113 => ⟨S2048, .i32⟩
  | 114 => ⟨S2048, .i32⟩
  | 115 => ⟨S2048, .i32⟩
  | 116 => ⟨S2048x1, .i32⟩
  | 117 => ⟨S2048x3, .f32⟩
  | 118 => ⟨S2048x1, .f32⟩
  | 119 => ⟨S2048, .f32⟩
  | 120 => ⟨S2048x1, .f32⟩
  | 121 => ⟨S2048, .f32⟩
  | 122 => ⟨S2048x1, .f32⟩
  | 123 => ⟨S2048, .f32⟩
  | 124 => ⟨S2048x1, .f32⟩
  | 125 => ⟨S2048, .f32⟩
  | 126 => ⟨S2048x1, .f32⟩
  | 127 => ⟨S2048, .f32⟩
  | _ => ⟨S2048x3, .f32⟩

abbrev hbmTy0_1 (i : Nat) : BufTy := match i % 128 with
  | 0 => ⟨S2048x1, .f32⟩
  | 1 => ⟨S2048, .f32⟩
  | 2 => ⟨S2048, .f32⟩
  | 3 => ⟨S2048, .f32⟩
  | 4 => ⟨S2048, .f32⟩
  | 5 => ⟨S2048, .f32⟩
  | 6 => ⟨S2048, .f32⟩
  | 7 => ⟨S2048, .f32⟩
  | 8 => ⟨S2048, .f32⟩
  | 9 => ⟨S2048, .f32⟩
  | 10 => ⟨S2048, .f32⟩
  | 11 => ⟨S2048x1, .f32⟩
  | 12 => ⟨S2048x1, .f32⟩
  | 13 => ⟨S2048x1, .f32⟩
  | 14 => ⟨S2048x3, .f32⟩
  | 15 => ⟨S2048x3, .f32⟩
  | 16 => ⟨S_, .f32⟩
  | 17 => ⟨S2048, .f32⟩
  | 18 => ⟨S2048, .f32⟩
  | 19 => ⟨S2048x1, .f32⟩
  | 20 => ⟨S2048x3, .f32⟩
  | 21 => ⟨S2048x3, .f32⟩
  | 22 => ⟨S2048x1, .f32⟩
  | 23 => ⟨S2048, .f32⟩
  | 24 => ⟨S2048x1, .f32⟩
  | 25 => ⟨S2048, .f32⟩
  | 26 => ⟨S2048x1, .f32⟩
  | 27 => ⟨S2048, .f32⟩
  | 28 => ⟨S2048x1, .f32⟩
  | 29 => ⟨S2048, .f32⟩
  | 30 => ⟨S2048x1, .f32⟩
  | 31 => ⟨S2048, .f32⟩
  | 32 => ⟨S2048x1, .f32⟩
  | 33 => ⟨S2048, .f32⟩
  | 34 => ⟨S2048, .f32⟩
  | 35 => ⟨S2048, .f32⟩
  | 36 => ⟨S2048, .f32⟩
  | 37 => ⟨S2048, .f32⟩
  | 38 => ⟨S2048, .f32⟩
  | 39 => ⟨S2048, .f32⟩
  | 40 => ⟨S2048, .f32⟩
  | 41 => ⟨S2048, .f32⟩
  | 42 => ⟨S2048, .f32⟩
  | 43 => ⟨S2048x1, .f32⟩
  | 44 => ⟨S2048x1, .f32⟩
  | 45 => ⟨S2048x1, .f32⟩
  | 46 => ⟨S2048x3, .f32⟩
  | 47 => ⟨S2048x3, .f32⟩
  | 48 => ⟨S_, .f32⟩
  | 49 => ⟨S2048, .f32⟩
  | 50 => ⟨S2048x1, .f32⟩
  | 51 => ⟨S2048x3, .f32⟩
  | 52 => ⟨S_, .f32⟩
  | 53 => ⟨S2048, .f32⟩
  | 54 => ⟨S_, .i32⟩
  | 55 => ⟨S2048, .i32⟩
  | 56 => ⟨S2048, .i1⟩
  | 57 => ⟨S_, .i32⟩
  | 58 => ⟨S2048, .i32⟩
  | 59 => ⟨S2048, .i32⟩
  | 60 => ⟨S2048, .i32⟩
  | 61 => ⟨S2048x1, .i32⟩
  | 62 => ⟨S2048, .f32⟩
  | 63 => ⟨S2048, .f32⟩
  | 64 => ⟨S2048x1, .f32⟩
  | 65 => ⟨S2048x3, .f32⟩
  | 66 => ⟨S2048x3, .f32⟩
  | 67 => ⟨S2048x3, .f32⟩
  | 68 => ⟨S_, .f32⟩
  | 69 => ⟨S2048, .f32⟩
  | 70 => ⟨S2048x1, .f32⟩
  | 71 => ⟨S2048x3, .f32⟩
  | 72 => ⟨S2048x3, .f32⟩
  | 73 => ⟨S2048x3, .f32⟩
  | 74 => ⟨S2048x3, .f32⟩
  | 75 => ⟨S2048x3, .f32⟩
  | 76 => ⟨S2048x3, .f32⟩
  | 77 => ⟨S2048x3, .f32⟩
  | 78 => ⟨S2048x3, .f32⟩
  | 79 => ⟨S_, .f32⟩
  | 80 => ⟨S2048, .f32⟩
  | 81 => ⟨S2048, .f32⟩
  | 82 => ⟨S_, .i32⟩
  | 83 => ⟨S2048, .i32⟩
  | 84 => ⟨S2048, .i1⟩
  | 85 => ⟨S_, .i32⟩
  | 86 => ⟨S2048, .i32⟩
  | 87 => ⟨S2048, .i32⟩
  | 88 => ⟨S2048, .i32⟩
  | 89 => ⟨S2048x1, .i32⟩
  | 90 => ⟨S2048x4x3, .f32⟩
  | 91 => ⟨S_, .i32⟩
  | 92 => ⟨S2048, .i32⟩
  | 93 => ⟨S2048, .i1⟩
  | 94 => ⟨S_, .i32⟩
  | 95 => ⟨S2048, .i32⟩
  | 96 => ⟨S2048, .i32⟩
  | 97 => ⟨S2048, .i32⟩
  | 98 => ⟨S2048x1, .i32⟩
  | 99 => ⟨S2048x4, .f32⟩
  | 100 => ⟨S2048x1x3, .f32⟩
  | 101 => ⟨S2048x4x3, .f32⟩
  | 102 => ⟨S2048x4x3, .f32⟩
  | 103 => ⟨S_, .f32⟩
  | 104 => ⟨S2048x4, .f32⟩
  | 105 => ⟨S2048x4, .f32⟩
  | 106 => ⟨S2048x1, .f32⟩
  | 107 => ⟨S2048x1x3, .f32⟩
  | 108 => ⟨S2048x4x3, .f32⟩
  | 109 => ⟨S2048x4x3, .f32⟩
  | 110 => ⟨S_, .f32⟩
  | 111 => ⟨S2048x4, .f32⟩
  | 112 => ⟨S2048x4, .f32⟩
  | 113 => ⟨S2048x4, .f32⟩
  | 114 => ⟨S2048x1x3, .f32⟩
  | 115 => ⟨S2048x4x3, .f32⟩
  | 116 => ⟨S2048x4x3, .f32⟩
  | 117 => ⟨S_, .f32⟩
  | 118 => ⟨S2048x4, .f32⟩
  | 119 => ⟨S2048x4, .f32⟩
  | 120 => ⟨S2048x4, .f32⟩
  | 121 => ⟨S2048x4, .f32⟩
  | 122 => ⟨S2048x4, .f32⟩
  | 123 => ⟨S2048x4, .f32⟩
  | 124 => ⟨S2048x4, .f32⟩
  | 125 => ⟨S2048x4, .f32⟩
  | 126 => ⟨S2048x4, .f32⟩
  | 127 => ⟨S2048x4, .f32⟩
  | _ => ⟨S2048x3, .f32⟩

abbrev hbmTy0_2 (i : Nat) : BufTy := match i % 128 with
  | 0 => ⟨S2048x4, .f32⟩
  | 1 => ⟨S2048x4, .f32⟩
  | 2 => ⟨S2048x4, .f32⟩
  | 3 => ⟨S2048x4, .f32⟩
  | 4 => ⟨S1x2048x4, .f32⟩
  | 5 => ⟨S1x2048x4, .f32⟩
  | 6 => ⟨S2x2048x4, .f32⟩
  | 7 => ⟨S_, .f32⟩
  | 8 => ⟨S2x2048x4, .f32⟩
  | 9 => ⟨S2x2048x4, .f32⟩
  | 10 => ⟨S_, .f32⟩
  | 11 => ⟨S2x2048x4, .f32⟩
  | 12 => ⟨S2x2048x4, .f32⟩
  | 13 => ⟨S_, .f32⟩
  | 14 => ⟨S_, .f32⟩
  | 15 => ⟨S2x2048x4, .f32⟩
  | 16 => ⟨S2x2048x4, .f32⟩
  | 17 => ⟨S_, .f32⟩
  | 18 => ⟨S2x2048x4, .f32⟩
  | 19 => ⟨S2x2048x4, .i1⟩
  | 20 => ⟨S_, .f32⟩
  | 21 => ⟨S2x2048x4, .f32⟩
  | 22 => ⟨S2x2048x4, .i1⟩
  | 23 => ⟨S_, .f32⟩
  | 24 => ⟨S_, .i1⟩
  | 25 => ⟨S2x2048x4, .i1⟩
  | 26 => ⟨S2x2048x4, .i1⟩
  | 27 => ⟨S2x2048x4, .i1⟩
  | 28 => ⟨S2x2048x4, .f32⟩
  | 29 => ⟨S2x2048x4, .f32⟩
  | 30 => ⟨S2x2048x4, .f32⟩
  | 31 => ⟨S_, .f32⟩
  | 32 => ⟨S2048x4, .f32⟩
  | 33 => ⟨S2048x4, .i1⟩
  | 34 => ⟨S_, .f32⟩
  | 35 => ⟨S_, .f32⟩
  | 36 => ⟨S2048x4, .f32⟩
  | 37 => ⟨S2048x4, .f32⟩
  | 38 => ⟨S_, .f32⟩
  | 39 => ⟨S2048, .f32⟩
  | 40 => ⟨S2048x1, .f32⟩
  | 41 => ⟨S2048x4, .f32⟩
  | 42 => ⟨S2048x4, .i1⟩
  | 43 => ⟨S_, .i32⟩
  | 44 => ⟨S2048x4, .i32⟩
  | 45 => ⟨S2048x4, .i32⟩
  | 46 => ⟨S_, .i32⟩
  | 47 => ⟨S2048, .i32⟩
  | 48 => ⟨S_, .f32⟩
  | 49 => ⟨S2048x1, .f32⟩
  | 50 => ⟨S2048x1, .f32⟩
  | 51 => ⟨S2048x1, .f32⟩
  | 52 => ⟨S2048x1, .f32⟩
  | 53 => ⟨S2048x3, .f32⟩
  | 54 => ⟨S2048x3, .f32⟩
  | 55 => ⟨S2048x3, .f32⟩
  | 56 => ⟨S2048x1, .f32⟩
  | 57 => ⟨S2048x1, .f32⟩
  | 58 => ⟨S2048x1, .f32⟩
  | 59 => ⟨S2048x3, .f32⟩
  | 60 => ⟨S2048x3, .f32⟩
  | 61 => ⟨S2048x3, .f32⟩
  | 62 => ⟨S2048x1, .f32⟩
  | 63 => ⟨S2048x3, .f32⟩
  | 64 => ⟨S2048x3, .f32⟩
  | 65 => ⟨S2048x1, .f32⟩
  | 66 => ⟨S2048x1, .f32⟩
  | 67 => ⟨S2048x1, .f32⟩
  | 68 => ⟨S2048x3, .f32⟩
  | 69 => ⟨S2048x3, .f32⟩
  | 70 => ⟨S2048x3, .f32⟩
  | 71 => ⟨S2048x1, .i32⟩
  | 72 => ⟨S_, .i32⟩
  | 73 => ⟨S2048x1, .i32⟩
  | 74 => ⟨S2048x1, .i1⟩
  | 75 => ⟨S2048x4, .i1⟩
  | 76 => ⟨S_, .i32⟩
  | 77 => ⟨S2048, .i32⟩
  | 78 => ⟨S2048, .i1⟩
  | 79 => ⟨S_, .i32⟩
  | 80 => ⟨S2048, .i32⟩
  | 81 => ⟨S2048, .i32⟩
  | 82 => ⟨S2048, .i32⟩
  | 83 => ⟨S2048x1, .i32⟩
  | 84 => ⟨S2048x4, .i32⟩
  | 85 => ⟨S_, .i32⟩
  | 86 => ⟨S2048, .i32⟩
  | 87 => ⟨S2048, .i1⟩
  | 88 => ⟨S_, .i32⟩
  | 89 => ⟨S2048, .i32⟩
  | 90 => ⟨S2048, .i32⟩
  | 91 => ⟨S2048, .i32⟩
  | 92 => ⟨S2048x1, .i32⟩
  | 93 => ⟨S2048x4, .i32⟩
  | 94 => ⟨S2048x4, .i32⟩
  | 95 => ⟨S_, .i32⟩
  | 96 => ⟨S2048, .i32⟩
  | 97 => ⟨S2048, .i1⟩
  | 98 => ⟨S_, .i32⟩
  | 99 => ⟨S2048, .i32⟩
  | 100 => ⟨S2048, .i32⟩
  | 101 => ⟨S2048, .i32⟩
  | 102 => ⟨S_, .i32⟩
  | 103 => ⟨S2048, .i32⟩
  | 104 => ⟨S2048, .i1⟩
  | 105 => ⟨S_, .i32⟩
  | 106 => ⟨S2048, .i32⟩
  | 107 => ⟨S2048, .i32⟩
  | 108 => ⟨S2048, .i32⟩
  | 109 => ⟨S2048x1, .i32⟩
  | 110 => ⟨S2048x1, .i32⟩
  | 111 => ⟨S2048x2, .i32⟩
  | 112 => ⟨S2048, .i32⟩
  | 113 => ⟨S2048x3, .f32⟩
  | 114 => ⟨S2048x3, .f32⟩
  | 115 => ⟨S_, .f32⟩
  | 116 => ⟨S2048, .f32⟩
  | 117 => ⟨S2048, .f32⟩
  | 118 => ⟨S1x2048x3, .f32⟩
  | 119 => ⟨S_, .i32⟩
  | 120 => ⟨S_, .i32⟩
  | 121 => ⟨S16x2048x3, .f32⟩
  | 122 => ⟨S1x2048, .f32⟩
  | 123 => ⟨S_, .i32⟩
  | 124 => ⟨S16x2048, .f32⟩
  | 125 => ⟨S_, .i32⟩
  | 126 => ⟨S_, .i32⟩
  | 127 => ⟨S2048x1x3, .f32⟩
  | _ => ⟨S2048x3, .f32⟩

abbrev hbmTy0_3 (i : Nat) : BufTy := match i % 128 with
  | 0 => ⟨S2048x16x3, .f32⟩
  | 1 => ⟨S2048x17x3, .f32⟩
  | 2 => ⟨S_, .f32⟩
  | 3 => ⟨S2048x1, .f32⟩
  | 4 => ⟨S2048x16, .f32⟩
  | 5 => ⟨S2048x17, .f32⟩
  | 6 => ⟨S_, .f32⟩
  | 7 => ⟨S_, .f32⟩
  | 8 => ⟨S2048x17, .f32⟩
  | 9 => ⟨S2048x1x17, .f32⟩
  | 10 => ⟨S2048x64x1, .f32⟩
  | 11 => ⟨S2048x64x17, .f32⟩
  | 12 => ⟨S2048x64x17, .f32⟩
  | 13 => ⟨S2048x64x17, .i1⟩
  | 14 => ⟨S2048x64x17, .i32⟩
  | 15 => ⟨S_, .i32⟩
  | 16 => ⟨S2048x64, .i32⟩
  | 17 => ⟨S_, .i32⟩
  | 18 => ⟨S2048x64, .i32⟩
  | 19 => ⟨S2048x64, .i32⟩
  | 20 => ⟨S_, .i32⟩
  | 21 => ⟨S_, .i32⟩
  | 22 => ⟨S_, .i32⟩
  | 23 => ⟨S2048x64, .i32⟩
  | 24 => ⟨S2048x64, .i32⟩
  | 25 => ⟨S_, .i32⟩
  | 26 => ⟨S2048x64, .i32⟩
  | 27 => ⟨S2048x64, .i32⟩
  | 28 => ⟨S2048x64, .i32⟩
  | 29 => ⟨S2048x64x1, .i32⟩
  | 30 => ⟨S2048x64x1, .i32⟩
  | 31 => ⟨S2048x64x2, .i32⟩
  | 32 => ⟨S_, .i32⟩
  | 33 => ⟨S2048x64, .i32⟩
  | 34 => ⟨S2048x64, .i32⟩
  | 35 => ⟨S2048x64x1, .i32⟩
  | 36 => ⟨S2048x64x1, .i32⟩
  | 37 => ⟨S2048x64x2, .i32⟩
  | 38 => ⟨S2048x64, .f32⟩
  | 39 => ⟨S2048x64, .f32⟩
  | 40 => ⟨S2048x64, .f32⟩
  | 41 => ⟨S2048x64, .f32⟩
  | 42 => ⟨S_, .f32⟩
  | 43 => ⟨S2048x64, .f32⟩
  | 44 => ⟨S2048x64, .i1⟩
  | 45 => ⟨S2048x64, .f32⟩
  | 46 => ⟨S_, .f32⟩
  | 47 => ⟨S_, .f32⟩
  | 48 => ⟨S2048x64, .f32⟩
  | 49 => ⟨S2048x64, .f32⟩
  | 50 => ⟨S2048x64, .f32⟩
  | 51 => ⟨S2048x64, .f32⟩
  | 52 => ⟨S2048x64x3, .f32⟩
  | 53 => ⟨S2048x64x3, .f32⟩
  | 54 => ⟨S2048x64x1, .f32⟩
  | 55 => ⟨S2048x64x3, .f32⟩
  | 56 => ⟨S2048x64x3, .f32⟩
  | 57 => ⟨S2048x64x3, .f32⟩
  | 58 => ⟨S2048x64x3, .f32⟩
  | _ => ⟨S2048x3, .f32⟩

abbrev hbmTy (i : Nat) : BufTy := match i / 128 with
  | 0 => hbmTy0_0 i
  | 1 => hbmTy0_1 i
  | 2 => hbmTy0_2 i
  | 3 => hbmTy0_3 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v2 : Ref sig .tc := ⟨.hbm, 30, rfl⟩
abbrev main_cst_1 : Ref sig .tc := ⟨.hbm, 31, rfl⟩
abbrev main_v3 : Ref sig .tc := ⟨.hbm, 32, rfl⟩
abbrev main_v4 : Ref sig .tc := ⟨.hbm, 33, rfl⟩
abbrev main_cst_2 : Ref sig .tc := ⟨.hbm, 34, rfl⟩
abbrev main_v5 : Ref sig .tc := ⟨.hbm, 35, rfl⟩
abbrev main_v6 : Ref sig .tc := ⟨.hbm, 36, rfl⟩
abbrev main_cst_3 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_4 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_c : Ref sig .tc := ⟨.hbm, 64, rfl⟩
abbrev main_v31 : Ref sig .tc := ⟨.hbm, 65, rfl⟩
abbrev main_cst_6 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_cst_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_10 : Ref sig .tc := ⟨.hbm, 78, rfl⟩
abbrev main_v40 : Ref sig .tc := ⟨.hbm, 79, rfl⟩
abbrev main_call1_v0 : Ref sig .tc := ⟨.hbm, 80, rfl⟩
abbrev main_call1_c : Ref sig .tc := ⟨.hbm, 81, rfl⟩
abbrev main_call1_c_0 : Ref sig .tc := ⟨.hbm, 82, rfl⟩
abbrev main_call1_v1_0 : Ref sig .tc := ⟨.hbm, 83, rfl⟩
abbrev main_v41 : Ref sig .tc := ⟨.hbm, 84, rfl⟩
abbrev main_c_11 : Ref sig .tc := ⟨.hbm, 85, rfl⟩
abbrev main_call2_v0 : Ref sig .tc := ⟨.hbm, 86, rfl⟩
abbrev main_v42 : Ref sig .tc := ⟨.hbm, 87, rfl⟩
abbrev main_cst_12 : Ref sig .tc := ⟨.hbm, 88, rfl⟩
abbrev main_v43 : Ref sig .tc := ⟨.hbm, 89, rfl⟩
abbrev main_cst_13 : Ref sig .tc := ⟨.hbm, 90, rfl⟩
abbrev main_v44 : Ref sig .tc := ⟨.hbm, 91, rfl⟩
abbrev main_c_14 : Ref sig .tc := ⟨.hbm, 92, rfl⟩
abbrev main_v45_0 : Ref sig .tc := ⟨.hbm, 93, rfl⟩
abbrev main_v45_1 : Ref sig .tc := ⟨.hbm, 94, rfl⟩
abbrev main_v45_2 : Ref sig .tc := ⟨.hbm, 95, rfl⟩
abbrev main_v45_3 : Ref sig .tc := ⟨.hbm, 96, rfl⟩
abbrev main_v45_4 : Ref sig .tc := ⟨.hbm, 97, rfl⟩
abbrev main_v45_5 : Ref sig .tc := ⟨.hbm, 98, rfl⟩
abbrev main_v45_6 : Ref sig .tc := ⟨.hbm, 99, rfl⟩
abbrev main_v45_7 : Ref sig .tc := ⟨.hbm, 100, rfl⟩
abbrev main_v45_8 : Ref sig .tc := ⟨.hbm, 101, rfl⟩
abbrev main_v45_9 : Ref sig .tc := ⟨.hbm, 102, rfl⟩
abbrev main_v45_10 : Ref sig .tc := ⟨.hbm, 103, rfl⟩
abbrev main_v45_11 : Ref sig .tc := ⟨.hbm, 104, rfl⟩
abbrev main_v45_12 : Ref sig .tc := ⟨.hbm, 105, rfl⟩
abbrev main_v45_13 : Ref sig .tc := ⟨.hbm, 106, rfl⟩
abbrev main_while0c_c_36 : Ref sig .tc := ⟨.hbm, 107, rfl⟩
abbrev main_while0c_v89 : Ref sig .tc := ⟨.hbm, 108, rfl⟩
abbrev main_while0b_c_36 : Ref sig .tc := ⟨.hbm, 109, rfl⟩
abbrev main_while0b_v89 : Ref sig .tc := ⟨.hbm, 110, rfl⟩
abbrev main_while0b_v90 : Ref sig .tc := ⟨.hbm, 111, rfl⟩
abbrev main_while0b_c_37 : Ref sig .tc := ⟨.hbm, 112, rfl⟩
abbrev main_while0b_v91 : Ref sig .tc := ⟨.hbm, 113, rfl⟩
abbrev main_while0b_v92 : Ref sig .tc := ⟨.hbm, 114, rfl⟩
abbrev main_while0b_v93 : Ref sig .tc := ⟨.hbm, 115, rfl⟩
abbrev main_while0b_v94 : Ref sig .tc := ⟨.hbm, 116, rfl⟩
abbrev main_while0b_v95 : Ref sig .tc := ⟨.hbm, 117, rfl⟩
abbrev main_while0b_v96 : Ref sig .tc := ⟨.hbm, 118, rfl⟩
abbrev main_while0b_v97 : Ref sig .tc := ⟨.hbm, 119, rfl⟩
abbrev main_while0b_v98 : Ref sig .tc := ⟨.hbm, 120, rfl⟩
abbrev main_while0b_v99 : Ref sig .tc := ⟨.hbm, 121, rfl⟩
abbrev main_while0b_v100 : Ref sig .tc := ⟨.hbm, 122, rfl⟩
abbrev main_while0b_v101 : Ref sig .tc := ⟨.hbm, 123, rfl⟩
abbrev main_while0b_v102 : Ref sig .tc := ⟨.hbm, 124, rfl⟩
abbrev main_while0b_v103 : Ref sig .tc := ⟨.hbm, 125, rfl⟩
abbrev main_while0b_v104 : Ref sig .tc := ⟨.hbm, 126, rfl⟩
abbrev main_while0b_v105 : Ref sig .tc := ⟨.hbm, 127, rfl⟩
abbrev main_while0b_v106 : Ref sig .tc := ⟨.hbm, 128, rfl⟩
abbrev main_while0b_v107 : Ref sig .tc := ⟨.hbm, 129, rfl⟩
abbrev main_while0b_v108 : Ref sig .tc := ⟨.hbm, 130, rfl⟩
abbrev main_while0b_v109 : Ref sig .tc := ⟨.hbm, 131, rfl⟩
abbrev main_while0b_v110 : Ref sig .tc := ⟨.hbm, 132, rfl⟩
abbrev main_while0b_v111 : Ref sig .tc := ⟨.hbm, 133, rfl⟩
abbrev main_while0b_v112 : Ref sig .tc := ⟨.hbm, 134, rfl⟩
abbrev main_while0b_v113 : Ref sig .tc := ⟨.hbm, 135, rfl⟩
abbrev main_while0b_v114 : Ref sig .tc := ⟨.hbm, 136, rfl⟩
abbrev main_while0b_v115 : Ref sig .tc := ⟨.hbm, 137, rfl⟩
abbrev main_while0b_v116 : Ref sig .tc := ⟨.hbm, 138, rfl⟩
abbrev main_while0b_v117 : Ref sig .tc := ⟨.hbm, 139, rfl⟩
abbrev main_while0b_v118 : Ref sig .tc := ⟨.hbm, 140, rfl⟩
abbrev main_while0b_v119 : Ref sig .tc := ⟨.hbm, 141, rfl⟩
abbrev main_while0b_v120 : Ref sig .tc := ⟨.hbm, 142, rfl⟩
abbrev main_while0b_v121 : Ref sig .tc := ⟨.hbm, 143, rfl⟩
abbrev main_while0b_cst_38 : Ref sig .tc := ⟨.hbm, 144, rfl⟩
abbrev main_while0b_v122 : Ref sig .tc := ⟨.hbm, 145, rfl⟩
abbrev main_while0b_v123 : Ref sig .tc := ⟨.hbm, 146, rfl⟩
abbrev main_while0b_v124 : Ref sig .tc := ⟨.hbm, 147, rfl⟩
abbrev main_while0b_v125 : Ref sig .tc := ⟨.hbm, 148, rfl⟩
abbrev main_while0b_v126 : Ref sig .tc := ⟨.hbm, 149, rfl⟩
abbrev main_while0b_v127 : Ref sig .tc := ⟨.hbm, 150, rfl⟩
abbrev main_while0b_v128 : Ref sig .tc := ⟨.hbm, 151, rfl⟩
abbrev main_while0b_v129 : Ref sig .tc := ⟨.hbm, 152, rfl⟩
abbrev main_while0b_v130 : Ref sig .tc := ⟨.hbm, 153, rfl⟩
abbrev main_while0b_v131 : Ref sig .tc := ⟨.hbm, 154, rfl⟩
abbrev main_while0b_v132 : Ref sig .tc := ⟨.hbm, 155, rfl⟩
abbrev main_while0b_v133 : Ref sig .tc := ⟨.hbm, 156, rfl⟩
abbrev main_while0b_v134 : Ref sig .tc := ⟨.hbm, 157, rfl⟩
abbrev main_while0b_v135 : Ref sig .tc := ⟨.hbm, 158, rfl⟩
abbrev main_while0b_v136 : Ref sig .tc := ⟨.hbm, 159, rfl⟩
abbrev main_while0b_v137 : Ref sig .tc := ⟨.hbm, 160, rfl⟩
abbrev main_while0b_v138 : Ref sig .tc := ⟨.hbm, 161, rfl⟩
abbrev main_while0b_v139 : Ref sig .tc := ⟨.hbm, 162, rfl⟩
abbrev main_while0b_v140 : Ref sig .tc := ⟨.hbm, 163, rfl⟩
abbrev main_while0b_v141 : Ref sig .tc := ⟨.hbm, 164, rfl⟩
abbrev main_while0b_v142 : Ref sig .tc := ⟨.hbm, 165, rfl⟩
abbrev main_while0b_v143 : Ref sig .tc := ⟨.hbm, 166, rfl⟩
abbrev main_while0b_v144 : Ref sig .tc := ⟨.hbm, 167, rfl⟩
abbrev main_while0b_v145 : Ref sig .tc := ⟨.hbm, 168, rfl⟩
abbrev main_while0b_v146 : Ref sig .tc := ⟨.hbm, 169, rfl⟩
abbrev main_while0b_v147 : Ref sig .tc := ⟨.hbm, 170, rfl⟩
abbrev main_while0b_v148 : Ref sig .tc := ⟨.hbm, 171, rfl⟩
abbrev main_while0b_v149 : Ref sig .tc := ⟨.hbm, 172, rfl⟩
abbrev main_while0b_v150 : Ref sig .tc := ⟨.hbm, 173, rfl⟩
abbrev main_while0b_v151 : Ref sig .tc := ⟨.hbm, 174, rfl⟩
abbrev main_while0b_v152 : Ref sig .tc := ⟨.hbm, 175, rfl⟩
abbrev main_while0b_cst_39 : Ref sig .tc := ⟨.hbm, 176, rfl⟩
abbrev main_while0b_v153 : Ref sig .tc := ⟨.hbm, 177, rfl⟩
abbrev main_while0b_v154 : Ref sig .tc := ⟨.hbm, 178, rfl⟩
abbrev main_while0b_v155 : Ref sig .tc := ⟨.hbm, 179, rfl⟩
abbrev main_while0b_cst_40 : Ref sig .tc := ⟨.hbm, 180, rfl⟩
abbrev main_while0b_v156 : Ref sig .tc := ⟨.hbm, 181, rfl⟩
abbrev main_while0b_c_41 : Ref sig .tc := ⟨.hbm, 182, rfl⟩
abbrev main_while0b_v157 : Ref sig .tc := ⟨.hbm, 183, rfl⟩
abbrev main_while0b_v158 : Ref sig .tc := ⟨.hbm, 184, rfl⟩
abbrev main_while0b_c_42 : Ref sig .tc := ⟨.hbm, 185, rfl⟩
abbrev main_while0b_v159 : Ref sig .tc := ⟨.hbm, 186, rfl⟩
abbrev main_while0b_v160 : Ref sig .tc := ⟨.hbm, 187, rfl⟩
abbrev main_while0b_v161 : Ref sig .tc := ⟨.hbm, 188, rfl⟩
abbrev main_while0b_v162 : Ref sig .tc := ⟨.hbm, 189, rfl⟩
abbrev main_while0b_v163 : Ref sig .tc := ⟨.hbm, 190, rfl⟩
abbrev main_while0b_v164 : Ref sig .tc := ⟨.hbm, 191, rfl⟩
abbrev main_while0b_v165 : Ref sig .tc := ⟨.hbm, 192, rfl⟩
abbrev main_while0b_v166 : Ref sig .tc := ⟨.hbm, 193, rfl⟩
abbrev main_while0b_v167 : Ref sig .tc := ⟨.hbm, 194, rfl⟩
abbrev main_while0b_v168 : Ref sig .tc := ⟨.hbm, 195, rfl⟩
abbrev main_while0b_cst_43 : Ref sig .tc := ⟨.hbm, 196, rfl⟩
abbrev main_while0b_v169 : Ref sig .tc := ⟨.hbm, 197, rfl⟩
abbrev main_while0b_v170 : Ref sig .tc := ⟨.hbm, 198, rfl⟩
abbrev main_while0b_v171 : Ref sig .tc := ⟨.hbm, 199, rfl⟩
abbrev main_while0b_v172 : Ref sig .tc := ⟨.hbm, 200, rfl⟩
abbrev main_while0b_v173 : Ref sig .tc := ⟨.hbm, 201, rfl⟩
abbrev main_while0b_v174 : Ref sig .tc := ⟨.hbm, 202, rfl⟩
abbrev main_while0b_v175 : Ref sig .tc := ⟨.hbm, 203, rfl⟩
abbrev main_while0b_v176 : Ref sig .tc := ⟨.hbm, 204, rfl⟩
abbrev main_while0b_v177 : Ref sig .tc := ⟨.hbm, 205, rfl⟩
abbrev main_while0b_v178 : Ref sig .tc := ⟨.hbm, 206, rfl⟩
abbrev main_while0b_cst_44 : Ref sig .tc := ⟨.hbm, 207, rfl⟩
abbrev main_while0b_v179 : Ref sig .tc := ⟨.hbm, 208, rfl⟩
abbrev main_while0b_v180 : Ref sig .tc := ⟨.hbm, 209, rfl⟩
abbrev main_while0b_c_45 : Ref sig .tc := ⟨.hbm, 210, rfl⟩
abbrev main_while0b_v181 : Ref sig .tc := ⟨.hbm, 211, rfl⟩
abbrev main_while0b_v182 : Ref sig .tc := ⟨.hbm, 212, rfl⟩
abbrev main_while0b_c_46 : Ref sig .tc := ⟨.hbm, 213, rfl⟩
abbrev main_while0b_v183 : Ref sig .tc := ⟨.hbm, 214, rfl⟩
abbrev main_while0b_v184 : Ref sig .tc := ⟨.hbm, 215, rfl⟩
abbrev main_while0b_v185 : Ref sig .tc := ⟨.hbm, 216, rfl⟩
abbrev main_while0b_v186 : Ref sig .tc := ⟨.hbm, 217, rfl⟩
abbrev main_while0b_v187 : Ref sig .tc := ⟨.hbm, 218, rfl⟩
abbrev main_while0b_c_47 : Ref sig .tc := ⟨.hbm, 219, rfl⟩
abbrev main_while0b_v188 : Ref sig .tc := ⟨.hbm, 220, rfl⟩
abbrev main_while0b_v189 : Ref sig .tc := ⟨.hbm, 221, rfl⟩
abbrev main_while0b_c_48 : Ref sig .tc := ⟨.hbm, 222, rfl⟩
abbrev main_while0b_v190 : Ref sig .tc := ⟨.hbm, 223, rfl⟩
abbrev main_while0b_v191 : Ref sig .tc := ⟨.hbm, 224, rfl⟩
abbrev main_while0b_v192 : Ref sig .tc := ⟨.hbm, 225, rfl⟩
abbrev main_while0b_v193 : Ref sig .tc := ⟨.hbm, 226, rfl⟩
abbrev main_while0b_v194 : Ref sig .tc := ⟨.hbm, 227, rfl⟩
abbrev main_while0b_v195 : Ref sig .tc := ⟨.hbm, 228, rfl⟩
abbrev main_while0b_v196 : Ref sig .tc := ⟨.hbm, 229, rfl⟩
abbrev main_while0b_v197 : Ref sig .tc := ⟨.hbm, 230, rfl⟩
abbrev main_while0b_cst_49 : Ref sig .tc := ⟨.hbm, 231, rfl⟩
abbrev main_while0b_v198 : Ref sig .tc := ⟨.hbm, 232, rfl⟩
abbrev main_while0b_v199 : Ref sig .tc := ⟨.hbm, 233, rfl⟩
abbrev main_while0b_v200 : Ref sig .tc := ⟨.hbm, 234, rfl⟩
abbrev main_while0b_v201 : Ref sig .tc := ⟨.hbm, 235, rfl⟩
abbrev main_while0b_v202 : Ref sig .tc := ⟨.hbm, 236, rfl⟩
abbrev main_while0b_v203 : Ref sig .tc := ⟨.hbm, 237, rfl⟩
abbrev main_while0b_cst_50 : Ref sig .tc := ⟨.hbm, 238, rfl⟩
abbrev main_while0b_v204 : Ref sig .tc := ⟨.hbm, 239, rfl⟩
abbrev main_while0b_v205 : Ref sig .tc := ⟨.hbm, 240, rfl⟩
abbrev main_while0b_v206 : Ref sig .tc := ⟨.hbm, 241, rfl⟩
abbrev main_while0b_v207 : Ref sig .tc := ⟨.hbm, 242, rfl⟩
abbrev main_while0b_v208 : Ref sig .tc := ⟨.hbm, 243, rfl⟩
abbrev main_while0b_v209 : Ref sig .tc := ⟨.hbm, 244, rfl⟩
abbrev main_while0b_cst_51 : Ref sig .tc := ⟨.hbm, 245, rfl⟩
abbrev main_while0b_v210 : Ref sig .tc := ⟨.hbm, 246, rfl⟩
abbrev main_while0b_v211 : Ref sig .tc := ⟨.hbm, 247, rfl⟩
abbrev main_while0b_v212 : Ref sig .tc := ⟨.hbm, 248, rfl⟩
abbrev main_while0b_v213 : Ref sig .tc := ⟨.hbm, 249, rfl⟩
abbrev main_while0b_v214 : Ref sig .tc := ⟨.hbm, 250, rfl⟩
abbrev main_while0b_v215 : Ref sig .tc := ⟨.hbm, 251, rfl⟩
abbrev main_while0b_v216 : Ref sig .tc := ⟨.hbm, 252, rfl⟩
abbrev main_while0b_v217 : Ref sig .tc := ⟨.hbm, 253, rfl⟩
abbrev main_while0b_v218 : Ref sig .tc := ⟨.hbm, 254, rfl⟩
abbrev main_while0b_v219 : Ref sig .tc := ⟨.hbm, 255, rfl⟩
abbrev main_while0b_v220 : Ref sig .tc := ⟨.hbm, 256, rfl⟩
abbrev main_while0b_v221 : Ref sig .tc := ⟨.hbm, 257, rfl⟩
abbrev main_while0b_v222 : Ref sig .tc := ⟨.hbm, 258, rfl⟩
abbrev main_while0b_v223 : Ref sig .tc := ⟨.hbm, 259, rfl⟩
abbrev main_while0b_v224 : Ref sig .tc := ⟨.hbm, 260, rfl⟩
abbrev main_while0b_v225 : Ref sig .tc := ⟨.hbm, 261, rfl⟩
abbrev main_while0b_v226 : Ref sig .tc := ⟨.hbm, 262, rfl⟩
abbrev main_while0b_cst_52 : Ref sig .tc := ⟨.hbm, 263, rfl⟩
abbrev main_while0b_v227 : Ref sig .tc := ⟨.hbm, 264, rfl⟩
abbrev main_while0b_v228 : Ref sig .tc := ⟨.hbm, 265, rfl⟩
abbrev main_while0b_cst_53 : Ref sig .tc := ⟨.hbm, 266, rfl⟩
abbrev main_while0b_v229 : Ref sig .tc := ⟨.hbm, 267, rfl⟩
abbrev main_while0b_v230 : Ref sig .tc := ⟨.hbm, 268, rfl⟩
abbrev main_while0b_cst_54 : Ref sig .tc := ⟨.hbm, 269, rfl⟩
abbrev main_while0b_call3_v0 : Ref sig .tc := ⟨.hbm, 270, rfl⟩
abbrev main_while0b_call3_v1 : Ref sig .tc := ⟨.hbm, 271, rfl⟩
abbrev main_while0b_call3_v2 : Ref sig .tc := ⟨.hbm, 272, rfl⟩
abbrev main_while0b_call3_cst : Ref sig .tc := ⟨.hbm, 273, rfl⟩
abbrev main_while0b_call3_v3 : Ref sig .tc := ⟨.hbm, 274, rfl⟩
abbrev main_while0b_call3_v4 : Ref sig .tc := ⟨.hbm, 275, rfl⟩
abbrev main_while0b_call3_cst_0 : Ref sig .tc := ⟨.hbm, 276, rfl⟩
abbrev main_while0b_call3_v5 : Ref sig .tc := ⟨.hbm, 277, rfl⟩
abbrev main_while0b_call3_v6 : Ref sig .tc := ⟨.hbm, 278, rfl⟩
abbrev main_while0b_call3_cst_1 : Ref sig .tc := ⟨.hbm, 279, rfl⟩
abbrev main_while0b_call3_v7 : Ref sig .tc := ⟨.hbm, 280, rfl⟩
abbrev main_while0b_call3_v8 : Ref sig .tc := ⟨.hbm, 281, rfl⟩
abbrev main_while0b_call3_v9 : Ref sig .tc := ⟨.hbm, 282, rfl⟩
abbrev main_while0b_call3_v10 : Ref sig .tc := ⟨.hbm, 283, rfl⟩
abbrev main_while0b_call3_v11 : Ref sig .tc := ⟨.hbm, 284, rfl⟩
abbrev main_while0b_call3_v12 : Ref sig .tc := ⟨.hbm, 285, rfl⟩
abbrev main_while0b_v231 : Ref sig .tc := ⟨.hbm, 286, rfl⟩
abbrev main_while0b_cst_55 : Ref sig .tc := ⟨.hbm, 287, rfl⟩
abbrev main_while0b_v232 : Ref sig .tc := ⟨.hbm, 288, rfl⟩
abbrev main_while0b_v233 : Ref sig .tc := ⟨.hbm, 289, rfl⟩
abbrev main_while0b_cst_56 : Ref sig .tc := ⟨.hbm, 290, rfl⟩
abbrev main_while0b_call4_v0 : Ref sig .tc := ⟨.hbm, 291, rfl⟩
abbrev main_while0b_call4_v1 : Ref sig .tc := ⟨.hbm, 292, rfl⟩
abbrev main_while0b_v234 : Ref sig .tc := ⟨.hbm, 293, rfl⟩
abbrev main_while0b_cst_57 : Ref sig .tc := ⟨.hbm, 294, rfl⟩
abbrev main_while0b_v235 : Ref sig .tc := ⟨.hbm, 295, rfl⟩
abbrev main_while0b_v236 : Ref sig .tc := ⟨.hbm, 296, rfl⟩
abbrev main_while0b_v237 : Ref sig .tc := ⟨.hbm, 297, rfl⟩
abbrev main_while0b_v238 : Ref sig .tc := ⟨.hbm, 298, rfl⟩
abbrev main_while0b_c_58 : Ref sig .tc := ⟨.hbm, 299, rfl⟩
abbrev main_while0b_v239 : Ref sig .tc := ⟨.hbm, 300, rfl⟩
abbrev main_while0b_v240 : Ref sig .tc := ⟨.hbm, 301, rfl⟩
abbrev main_while0b_c_59 : Ref sig .tc := ⟨.hbm, 302, rfl⟩
abbrev main_while0b_v241 : Ref sig .tc := ⟨.hbm, 303, rfl⟩
abbrev main_while0b_cst_60 : Ref sig .tc := ⟨.hbm, 304, rfl⟩
abbrev main_while0b_v242 : Ref sig .tc := ⟨.hbm, 305, rfl⟩
abbrev main_while0b_v243 : Ref sig .tc := ⟨.hbm, 306, rfl⟩
abbrev main_while0b_v244 : Ref sig .tc := ⟨.hbm, 307, rfl⟩
abbrev main_while0b_v245 : Ref sig .tc := ⟨.hbm, 308, rfl⟩
abbrev main_while0b_v246 : Ref sig .tc := ⟨.hbm, 309, rfl⟩
abbrev main_while0b_v247 : Ref sig .tc := ⟨.hbm, 310, rfl⟩
abbrev main_while0b_v248 : Ref sig .tc := ⟨.hbm, 311, rfl⟩
abbrev main_while0b_v249 : Ref sig .tc := ⟨.hbm, 312, rfl⟩
abbrev main_while0b_v250 : Ref sig .tc := ⟨.hbm, 313, rfl⟩
abbrev main_while0b_v251 : Ref sig .tc := ⟨.hbm, 314, rfl⟩
abbrev main_while0b_v252 : Ref sig .tc := ⟨.hbm, 315, rfl⟩
abbrev main_while0b_v253 : Ref sig .tc := ⟨.hbm, 316, rfl⟩
abbrev main_while0b_v254 : Ref sig .tc := ⟨.hbm, 317, rfl⟩
abbrev main_while0b_v255 : Ref sig .tc := ⟨.hbm, 318, rfl⟩
abbrev main_while0b_v256 : Ref sig .tc := ⟨.hbm, 319, rfl⟩
abbrev main_while0b_v257 : Ref sig .tc := ⟨.hbm, 320, rfl⟩
abbrev main_while0b_v258 : Ref sig .tc := ⟨.hbm, 321, rfl⟩
abbrev main_while0b_v259 : Ref sig .tc := ⟨.hbm, 322, rfl⟩
abbrev main_while0b_v260 : Ref sig .tc := ⟨.hbm, 323, rfl⟩
abbrev main_while0b_v261 : Ref sig .tc := ⟨.hbm, 324, rfl⟩
abbrev main_while0b_v262 : Ref sig .tc := ⟨.hbm, 325, rfl⟩
abbrev main_while0b_v263 : Ref sig .tc := ⟨.hbm, 326, rfl⟩
abbrev main_while0b_v264 : Ref sig .tc := ⟨.hbm, 327, rfl⟩
abbrev main_while0b_c_61 : Ref sig .tc := ⟨.hbm, 328, rfl⟩
abbrev main_while0b_v265 : Ref sig .tc := ⟨.hbm, 329, rfl⟩
abbrev main_while0b_v266 : Ref sig .tc := ⟨.hbm, 330, rfl⟩
abbrev main_while0b_v267 : Ref sig .tc := ⟨.hbm, 331, rfl⟩
abbrev main_while0b_c_62 : Ref sig .tc := ⟨.hbm, 332, rfl⟩
abbrev main_while0b_v268 : Ref sig .tc := ⟨.hbm, 333, rfl⟩
abbrev main_while0b_v269 : Ref sig .tc := ⟨.hbm, 334, rfl⟩
abbrev main_while0b_c_63 : Ref sig .tc := ⟨.hbm, 335, rfl⟩
abbrev main_while0b_v270 : Ref sig .tc := ⟨.hbm, 336, rfl⟩
abbrev main_while0b_v271 : Ref sig .tc := ⟨.hbm, 337, rfl⟩
abbrev main_while0b_v272 : Ref sig .tc := ⟨.hbm, 338, rfl⟩
abbrev main_while0b_v273 : Ref sig .tc := ⟨.hbm, 339, rfl⟩
abbrev main_while0b_v274 : Ref sig .tc := ⟨.hbm, 340, rfl⟩
abbrev main_while0b_c_64 : Ref sig .tc := ⟨.hbm, 341, rfl⟩
abbrev main_while0b_v275 : Ref sig .tc := ⟨.hbm, 342, rfl⟩
abbrev main_while0b_v276 : Ref sig .tc := ⟨.hbm, 343, rfl⟩
abbrev main_while0b_c_65 : Ref sig .tc := ⟨.hbm, 344, rfl⟩
abbrev main_while0b_v277 : Ref sig .tc := ⟨.hbm, 345, rfl⟩
abbrev main_while0b_v278 : Ref sig .tc := ⟨.hbm, 346, rfl⟩
abbrev main_while0b_v279 : Ref sig .tc := ⟨.hbm, 347, rfl⟩
abbrev main_while0b_v280 : Ref sig .tc := ⟨.hbm, 348, rfl⟩
abbrev main_while0b_v281 : Ref sig .tc := ⟨.hbm, 349, rfl⟩
abbrev main_while0b_v282 : Ref sig .tc := ⟨.hbm, 350, rfl⟩
abbrev main_while0b_c_66 : Ref sig .tc := ⟨.hbm, 351, rfl⟩
abbrev main_while0b_v283 : Ref sig .tc := ⟨.hbm, 352, rfl⟩
abbrev main_while0b_v284 : Ref sig .tc := ⟨.hbm, 353, rfl⟩
abbrev main_while0b_c_67 : Ref sig .tc := ⟨.hbm, 354, rfl⟩
abbrev main_while0b_v285 : Ref sig .tc := ⟨.hbm, 355, rfl⟩
abbrev main_while0b_v286 : Ref sig .tc := ⟨.hbm, 356, rfl⟩
abbrev main_while0b_v287 : Ref sig .tc := ⟨.hbm, 357, rfl⟩
abbrev main_while0b_c_68 : Ref sig .tc := ⟨.hbm, 358, rfl⟩
abbrev main_while0b_v288 : Ref sig .tc := ⟨.hbm, 359, rfl⟩
abbrev main_while0b_v289 : Ref sig .tc := ⟨.hbm, 360, rfl⟩
abbrev main_while0b_c_69 : Ref sig .tc := ⟨.hbm, 361, rfl⟩
abbrev main_while0b_v290 : Ref sig .tc := ⟨.hbm, 362, rfl⟩
abbrev main_while0b_v291 : Ref sig .tc := ⟨.hbm, 363, rfl⟩
abbrev main_while0b_v292 : Ref sig .tc := ⟨.hbm, 364, rfl⟩
abbrev main_while0b_v293 : Ref sig .tc := ⟨.hbm, 365, rfl⟩
abbrev main_while0b_v294 : Ref sig .tc := ⟨.hbm, 366, rfl⟩
abbrev main_while0b_v295 : Ref sig .tc := ⟨.hbm, 367, rfl⟩
abbrev main_while0b_v296 : Ref sig .tc := ⟨.hbm, 368, rfl⟩
abbrev main_while0b_v297 : Ref sig .tc := ⟨.hbm, 369, rfl⟩
abbrev main_while0b_v298 : Ref sig .tc := ⟨.hbm, 370, rfl⟩
abbrev main_while0b_cst_70 : Ref sig .tc := ⟨.hbm, 371, rfl⟩
abbrev main_while0b_v299 : Ref sig .tc := ⟨.hbm, 372, rfl⟩
abbrev main_while0b_v300 : Ref sig .tc := ⟨.hbm, 373, rfl⟩
abbrev main_while0b_call5_v0 : Ref sig .tc := ⟨.hbm, 374, rfl⟩
abbrev main_while0b_call5_c : Ref sig .tc := ⟨.hbm, 375, rfl⟩
abbrev main_while0b_call5_c_0 : Ref sig .tc := ⟨.hbm, 376, rfl⟩
abbrev main_while0b_v301 : Ref sig .tc := ⟨.hbm, 377, rfl⟩
abbrev main_while0b_call6_v0 : Ref sig .tc := ⟨.hbm, 378, rfl⟩
abbrev main_while0b_call6_c : Ref sig .tc := ⟨.hbm, 379, rfl⟩
abbrev main_while0b_v302 : Ref sig .tc := ⟨.hbm, 380, rfl⟩
abbrev main_while0b_c_71 : Ref sig .tc := ⟨.hbm, 381, rfl⟩
abbrev main_while0b_v303 : Ref sig .tc := ⟨.hbm, 382, rfl⟩
abbrev main_v46 : Ref sig .tc := ⟨.hbm, 383, rfl⟩
abbrev main_v47 : Ref sig .tc := ⟨.hbm, 384, rfl⟩
abbrev main_v48 : Ref sig .tc := ⟨.hbm, 385, rfl⟩
abbrev main_cst_15 : Ref sig .tc := ⟨.hbm, 386, rfl⟩
abbrev main_v49 : Ref sig .tc := ⟨.hbm, 387, rfl⟩
abbrev main_v50 : Ref sig .tc := ⟨.hbm, 388, rfl⟩
abbrev main_v51 : Ref sig .tc := ⟨.hbm, 389, rfl⟩
abbrev main_call7_call0_cst : Ref sig .tc := ⟨.hbm, 390, rfl⟩
abbrev main_call7_call0_v0 : Ref sig .tc := ⟨.hbm, 391, rfl⟩
abbrev main_v52 : Ref sig .tc := ⟨.hbm, 392, rfl⟩
abbrev main_v53 : Ref sig .tc := ⟨.hbm, 393, rfl⟩
abbrev main_v54 : Ref sig .tc := ⟨.hbm, 394, rfl⟩
abbrev main_v55 : Ref sig .tc := ⟨.hbm, 395, rfl⟩
abbrev main_v56 : Ref sig .tc := ⟨.hbm, 396, rfl⟩
abbrev main_v57 : Ref sig .tc := ⟨.hbm, 397, rfl⟩
abbrev main_v58 : Ref sig .tc := ⟨.hbm, 398, rfl⟩
abbrev main_c_16 : Ref sig .tc := ⟨.hbm, 399, rfl⟩
abbrev main_v59 : Ref sig .tc := ⟨.hbm, 400, rfl⟩
abbrev main_c_17 : Ref sig .tc := ⟨.hbm, 401, rfl⟩
abbrev main_v60 : Ref sig .tc := ⟨.hbm, 402, rfl⟩
abbrev main_v61 : Ref sig .tc := ⟨.hbm, 403, rfl⟩
abbrev main_c_18 : Ref sig .tc := ⟨.hbm, 404, rfl⟩
abbrev main_c_19 : Ref sig .tc := ⟨.hbm, 405, rfl⟩
abbrev main_call8_v0 : Ref sig .tc := ⟨.hbm, 406, rfl⟩
abbrev main_call8_v1 : Ref sig .tc := ⟨.hbm, 407, rfl⟩
abbrev main_call8_v2 : Ref sig .tc := ⟨.hbm, 408, rfl⟩
abbrev main_call8_v3 : Ref sig .tc := ⟨.hbm, 409, rfl⟩
abbrev main_call8_v4 : Ref sig .tc := ⟨.hbm, 410, rfl⟩
abbrev main_v62 : Ref sig .tc := ⟨.hbm, 411, rfl⟩
abbrev main_v63 : Ref sig .tc := ⟨.hbm, 412, rfl⟩
abbrev main_v64 : Ref sig .tc := ⟨.hbm, 413, rfl⟩
abbrev main_v65 : Ref sig .tc := ⟨.hbm, 414, rfl⟩
abbrev main_v66 : Ref sig .tc := ⟨.hbm, 415, rfl⟩
abbrev main_c_20 : Ref sig .tc := ⟨.hbm, 416, rfl⟩
abbrev main_v67 : Ref sig .tc := ⟨.hbm, 417, rfl⟩
abbrev main_v68 : Ref sig .tc := ⟨.hbm, 418, rfl⟩
abbrev main_v69 : Ref sig .tc := ⟨.hbm, 419, rfl⟩
abbrev main_v70 : Ref sig .tc := ⟨.hbm, 420, rfl⟩
abbrev main_v71 : Ref sig .tc := ⟨.hbm, 421, rfl⟩
abbrev main_v72 : Ref sig .tc := ⟨.hbm, 422, rfl⟩
abbrev main_v73 : Ref sig .tc := ⟨.hbm, 423, rfl⟩
abbrev main_v74 : Ref sig .tc := ⟨.hbm, 424, rfl⟩
abbrev main_v75 : Ref sig .tc := ⟨.hbm, 425, rfl⟩
abbrev main_cst_21 : Ref sig .tc := ⟨.hbm, 426, rfl⟩
abbrev main_v76 : Ref sig .tc := ⟨.hbm, 427, rfl⟩
abbrev main_v77 : Ref sig .tc := ⟨.hbm, 428, rfl⟩
abbrev main_v78 : Ref sig .tc := ⟨.hbm, 429, rfl⟩
abbrev main_cst_22 : Ref sig .tc := ⟨.hbm, 430, rfl⟩
abbrev main_call9_v0 : Ref sig .tc := ⟨.hbm, 431, rfl⟩
abbrev main_call9_v1 : Ref sig .tc := ⟨.hbm, 432, rfl⟩
abbrev main_v79 : Ref sig .tc := ⟨.hbm, 433, rfl⟩
abbrev main_v80 : Ref sig .tc := ⟨.hbm, 434, rfl⟩
abbrev main_v81 : Ref sig .tc := ⟨.hbm, 435, rfl⟩
abbrev main_v82 : Ref sig .tc := ⟨.hbm, 436, rfl⟩
abbrev main_v83 : Ref sig .tc := ⟨.hbm, 437, rfl⟩
abbrev main_v84 : Ref sig .tc := ⟨.hbm, 438, rfl⟩
abbrev main_v85 : Ref sig .tc := ⟨.hbm, 439, rfl⟩
abbrev main_v86 : Ref sig .tc := ⟨.hbm, 440, rfl⟩
abbrev main_v87 : Ref sig .tc := ⟨.hbm, 441, rfl⟩
abbrev main_v88 : Ref sig .tc := ⟨.hbm, 442, rfl⟩

abbrev nD : Nat := 1
abbrev τ : Topo := Topo.v7x

variable {F : FTy → Type} [FloatOps F]

abbrev main_while0_count : Scf.Loop 32 := ⟨0#32, 16#32, 1#32⟩
-- ==== Proof.RefRun.lean ====
/- What the reference leaves behind: its arguments, unchanged, and the buffer its result is read from. -/
module

public import proofs.«01_k».proof.Proof.Gen.ReferenceIdeal.Run

@[expose] public section

noncomputable section

namespace Cert.ReferenceIdeal.Hand

open Idealize Idealize.SL.Sem Idealize.ShloMosaic Cert.ReferenceIdeal Cert.ReferenceIdeal.Gen Cert.ReferenceIdeal.Value
open Idealize.ShloMosaic.StableHlo

variable {F : FTy → Type} [FloatOps F]

/-- Stretches that each leave a buffer as it was leave it so together. -/
theorem afterL_keep {b : Ref sig .tc} : ∀ (L : List (List (HloOp τ sig (Elt F)))),
    (L.Forall fun ops => ∀ V : Valuation τ sig (Elt F), after ops V (Proc.devRef .tc b) = V (Proc.devRef .tc b)) →
    ∀ V : Valuation τ sig (Elt F), afterL L V (Proc.devRef .tc b) = V (Proc.devRef .tc b)
  | [], _, _ => rfl
  | ops :: rest, h, V => by
    rw [List.forall_cons] at h
    rw [afterL_cons, afterL_keep rest h.2, h.1]

/-- The six arguments. -/
def args : List (Ref sig .tc) := [main_arg0, main_arg1, main_arg2, main_arg3, main_arg4, main_arg5]

/-- What stretch 1 after the loop writes. -/
abbrev postW1 : List (Ref sig .tc) := [main_v46, main_v47, main_v48, main_cst_15, main_v49, main_v50, main_v51]
theorem post1_writes : (hostOps0_7 : List (HloOp τ sig (Elt F))).Forall fun op => op.writes ⊆ (postW1.map (Proc.devRef (τ := τ) .tc)).toFinset :=
  StableHlo.forall_writes_sub_of_map rfl
/-- What stretch 2 after the loop writes. -/
abbrev postW2 : List (Ref sig .tc) := [main_call7_call0_cst, main_call7_call0_v0, main_v52]
theorem post2_writes : (hostOps0_8 : List (HloOp τ sig (Elt F))).Forall fun op => op.writes ⊆ (postW2.map (Proc.devRef (τ := τ) .tc)).toFinset :=
  StableHlo.forall_writes_sub_of_map rfl
/-- What stretch 3 after the loop writes. -/
abbrev postW3 : List (Ref sig .tc) := [main_v53, main_v54, main_v55, main_v56, main_v57, main_v58, main_c_16, main_v59, main_c_17, main_v60, main_v61, main_c_18, main_c_19]
theorem post3_writes : (hostOps0_9 : List (HloOp τ sig (Elt F))).Forall fun op => op.writes ⊆ (postW3.map (Proc.devRef (τ := τ) .tc)).toFinset :=
  StableHlo.forall_writes_sub_of_map rfl
/-- What stretch 4 after the loop writes. -/
abbrev postW4 : List (Ref sig .tc) := [main_call8_v0, main_call8_v1, main_call8_v2, main_call8_v3, main_call8_v4, main_v62]
theorem post4_writes : (hostOps0_10 : List (HloOp τ sig (Elt F))).Forall fun op => op.writes ⊆ (postW4.map (Proc.devRef (τ := τ) .tc)).toFinset :=
  StableHlo.forall_writes_sub_of_map rfl
/-- What stretch 5 after the loop writes. -/
abbrev postW5 : List (Ref sig .tc) := [main_v63, main_v64, main_v65, main_v66, main_c_20, main_v67, main_v68, main_v69, main_v70, main_v71, main_v72, main_v73, main_v74, main_v75, main_cst_21, main_v76, main_v77, main_v78, main_cst_22]
theorem post5_writes : (hostOps0_11 : List (HloOp τ sig (Elt F))).Forall fun op => op.writes ⊆ (postW5.map (Proc.devRef (τ := τ) .tc)).toFinset :=
  StableHlo.forall_writes_sub_of_map rfl
/-- What stretch 6 after the loop writes. -/
abbrev postW6 : List (Ref sig .tc) := [main_call9_v0, main_call9_v1, main_v79]
theorem post6_writes : (hostOps0_12 : List (HloOp τ sig (Elt F))).Forall fun op => op.writes ⊆ (postW6.map (Proc.devRef (τ := τ) .tc)).toFinset :=
  StableHlo.forall_writes_sub_of_map rfl
/-- What stretch 7 after the loop writes. -/
abbrev postW7 : List (Ref sig .tc) := [main_v80, main_v81, main_v82, main_v83, main_v84, main_v85, main_v86, main_v87, main_v88]
theorem post7_writes : (hostOps0_13 : List (HloOp τ sig (Elt F))).Forall fun op => op.writes ⊆ (postW7.map (Proc.devRef (τ := τ) .tc)).toFinset :=
  StableHlo.forall_writes_sub_of_map rfl

variable {b : Ref sig .tc} (hb : b ∈ args)
include hb

theorem pre_keep (V : Valuation τ sig (Elt F)) : afterL preI V (Proc.devRef .tc b) = V (Proc.devRef .tc b) :=
  afterL_keep (F := F) _ (by exact ⟨fun V => after_of_writes_sub _ V hostOps0_writes ((by decide +kernel : ∀ b ∈ args, b ∉ hostOps0_W) b hb),
    fun V => after_of_writes_sub _ V hostOps0_1_writes ((by decide +kernel : ∀ b ∈ args, b ∉ hostOps0_1_W) b hb),
    fun V => after_of_writes_sub _ V hostOps0_2_writes ((by decide +kernel : ∀ b ∈ args, b ∉ hostOps0_2_W) b hb),
    fun V => after_of_writes_sub _ V hostOps0_3_writes ((by decide +kernel : ∀ b ∈ args, b ∉ hostOps0_3_W) b hb),
    fun V => after_of_writes_sub _ V hostOps0_4_writes ((by decide +kernel : ∀ b ∈ args, b ∉ hostOps0_4_W) b hb),
    fun V => after_of_writes_sub _ V hostOps0_5_writes ((by decide +kernel : ∀ b ∈ args, b ∉ hostOps0_5_W) b hb),
    fun V => after_of_writes_sub _ V hostOps0_6_writes ((by decide +kernel : ∀ b ∈ args, b ∉ hostOps0_6_W) b hb)⟩) V

theorem body_keep (V : Valuation τ sig (Elt F)) : afterL bodyI V (Proc.devRef .tc b) = V (Proc.devRef .tc b) :=
  afterL_keep (F := F) _ (by exact ⟨fun V => after_of_writes_sub _ V while0Ops0_writes ((by decide +kernel : ∀ b ∈ args, b ∉ while0Ops0_W) b hb),
    fun V => after_of_writes_sub _ V while0Ops0_1_writes ((by decide +kernel : ∀ b ∈ args, b ∉ while0Ops0_1_W) b hb),
    fun V => after_of_writes_sub _ V while0Ops0_2_writes ((by decide +kernel : ∀ b ∈ args, b ∉ while0Ops0_2_W) b hb),
    fun V => after_of_writes_sub _ V while0Ops0_3_writes ((by decide +kernel : ∀ b ∈ args, b ∉ while0Ops0_3_W) b hb),
    fun V => after_of_writes_sub _ V while0Ops0_4_writes ((by decide +kernel : ∀ b ∈ args, b ∉ while0Ops0_4_W) b hb),
    fun V => after_of_writes_sub _ V while0Ops0_5_writes ((by decide +kernel : ∀ b ∈ args, b ∉ while0Ops0_5_W) b hb),
    fun V => after_of_writes_sub _ V while0Ops0_6_writes ((by decide +kernel : ∀ b ∈ args, b ∉ while0Ops0_6_W) b hb),
    fun V => after_of_writes_sub _ V while0Ops0_7_writes ((by decide +kernel : ∀ b ∈ args, b ∉ while0Ops0_7_W) b hb)⟩) V

theorem cond_keep (V : Valuation τ sig (Elt F)) : after condOps V (Proc.devRef .tc b) = V (Proc.devRef .tc b) :=
  after_of_writes_sub _ V condOps_writes ((by decide +kernel : ∀ b ∈ args, b ∉ condOps_W) b hb)

/-- The argument before the `k`-th condition. -/
theorem atK_keep (m : (ℓ : Loc nD τ sig) → Buf (Elt F) ℓ) (c : Dev nD) : ∀ k, atK m k c (Proc.devRef .tc b) = m ((c.tc : Thread nD τ).loc b)
  | 0 => pre_keep hb _
  | k + 1 => (body_keep hb _).trans ((cond_keep hb _).trans (atK_keep m c k))

/-- The stretches after the loop write none of the arguments. -/
theorem post_keep (V : Valuation τ sig (Elt F)) : afterL postI V (Proc.devRef .tc b) = V (Proc.devRef .tc b) :=
  afterL_keep (F := F) _ (by exact ⟨fun V => after_of_writes_sub _ V post1_writes ((by decide +kernel : ∀ b ∈ args, b ∉ postW1) b hb),
    fun V => after_of_writes_sub _ V post2_writes ((by decide +kernel : ∀ b ∈ args, b ∉ postW2) b hb),
    fun V => after_of_writes_sub _ V post3_writes ((by decide +kernel : ∀ b ∈ args, b ∉ postW3) b hb),
    fun V => after_of_writes_sub _ V post4_writes ((by decide +kernel : ∀ b ∈ args, b ∉ postW4) b hb),
    fun V => after_of_writes_sub _ V post5_writes ((by decide +kernel : ∀ b ∈ args, b ∉ postW5) b hb),
    fun V => after_of_writes_sub _ V post6_writes ((by decide +kernel : ∀ b ∈ args, b ∉ postW6) b hb),
    fun V => after_of_writes_sub _ V post7_writes ((by decide +kernel : ∀ b ∈ args, b ∉ postW7) b hb)⟩) V

/-- An argument ends as it began. -/
theorem final_keep (m : (ℓ : Loc nD τ sig) → Buf (Elt F) ℓ) (c : Dev nD) :
    finalContents condOps preI bodyI postI 16 m c (Proc.devRef .tc b) = m ((c.tc : Thread nD τ).loc b) :=
  (post_keep hb _).trans ((cond_keep hb _).trans (atK_keep hb m c 16))

end Cert.ReferenceIdeal.Hand

end
-- ==== Proof.IdealLoop.lean ====
/-
  Hand-written. The kernel's step loop, gone through by one trip over a symbolic trip number.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one step of the loop carries: the tetrahedron's index, the position, the direction, the length so far. -/
abbrev Carry (F : FTy → Type) : Type := IVec S1x2048 32 × FVec F S1x2048 .f32 × FVec F S1x2048 .f32 × FVec F S1x2048 .f32 × FVec F S1x2048 .f32 × FVec F S1x2048 .f32 × FVec F S1x2048 .f32 × FVec F S1x2048 .f32

/-- The rows a scratch holds, last written first. -/
abbrev Rows (F : FTy → Type) : Type := List (View.Piece (Elt F) S24x2048 .f32)

/-- What one trip holds: the table it reads and the four scratches it writes. -/
abbrev Trip2 (c : Dev nD) (arg3 : Memref sig .tc .vmem S28x4096 .f32) (arg6 : Memref sig .tc .vmem S24x2048 .f32) (arg7 : Memref sig .tc .vmem S24x2048 .f32) (arg8 : Memref sig .tc .vmem S24x2048 .f32) (arg9 : Memref sig .tc .vmem S24x2048 .f32)
    (X3 : BufTy.Contents (Elt F) arg3.view.ty) (f6 : BufTy.Contents (Elt F) arg6.view.ty) (f7 : BufTy.Contents (Elt F) arg7.view.ty) (f8 : BufTy.Contents (Elt F) arg8.view.ty) (f9 : BufTy.Contents (Elt F) arg9.view.ty) : sProp 𝕄 :=
  iprop((arg3.view.loc (c : Thread nD τ) ↦[arg3.view.set]{fullShare} X3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

/-- One trip at a symbolic trip number: what it stores in each scratch and what it yields are found by the run. -/
@[irreducible] def trip2 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (k : Fin k0_t2_loop.trips) :
    Σ' (L6 : Carry F → Rows F) (L7 : Carry F → Rows F) (L8 : Carry F → Rows F) (L9 : Carry F → Rows F), { R : Carry F → Carry F // ∀ (acc : Carry F) (f6 : BufTy.Contents (Elt F) arg6.view.ty) (f7 : BufTy.Contents (Elt F) arg7.view.ty) (f8 : BufTy.Contents (Elt F) arg8.view.ty) (f9 : BufTy.Contents (Elt F) arg9.view.ty),
      Trip2 (F := F) c arg3 arg6 arg7 arg8 arg9 X3 f6 f7 f8 f9
      ⊢ wp frame (wpE (defs₀ (F := F)) Variants.none (c : Thread nD τ) none) Set.univ (k0_t2_body (F := F) arg0 harg0 arg1 harg1 arg2 harg2 arg3 harg3 arg4 harg4 arg5 harg5 arg6 harg6 arg7 harg7 arg8 harg8 arg9 harg9 v1 v3 v5 v12 v28 v29 v30 cst_15 k acc)
          (fun yld => iprop(⌜yld = R acc⌝ ∗ Trip2 (F := F) c arg3 arg6 arg7 arg8 arg9 X3 (arg6.view.writes (Elt F) f6 (L6 acc)) (arg7.view.writes (Elt F) f7 (L7 acc)) (arg8.view.writes (Elt F) f8 (L8 acc)) (arg9.view.writes (Elt F) f9 (L9 acc)))) } := by
  have hk : k.val < 16 := Nat.lt_of_lt_of_le k.isLt k0_t2_abs.2.1
  refine ⟨?_, ?_, ?_, ?_, ?_, fun acc f6 f7 f8 f9 => ?run⟩
  case run =>

    unfold k0_t2_body
    iintro ⟨H3, H6, H7, H8, H9⟩
    sl_exec
    sl_step
    sl_close

/-- The state before a trip: what the loop carries and the rows stored so far. -/
abbrev St2 (F : FTy → Type) : Type := Carry F × Rows F × Rows F × Rows F × Rows F

/-- The state after a trip, from the state before it. -/
@[irreducible] def st2Step (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (k : ℕ) (s : St2 F) : St2 F :=
  if h : k < k0_t2_loop.trips then
    let T := trip2 (F := F) c arg0 harg0 arg1 harg1 arg2 harg2 arg3 harg3 arg4 harg4 arg5 harg5 arg6 harg6 arg7 harg7 arg8 harg8 arg9 harg9 v1 v3 v5 v12 v28 v29 v30 cst_15 X3 ⟨k, h⟩
    (T.2.2.2.2.1 s.1, T.1 s.1 ++ s.2.1, T.2.1 s.1 ++ s.2.2.1, T.2.2.1 s.1 ++ s.2.2.2.1, T.2.2.2.1 s.1 ++ s.2.2.2.2)
  else s

/-- The state before trip `k`, from what the loop starts with. -/
def st2 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (init : Carry F) : ℕ → St2 F
  | 0 => (init, [], [], [], [])
  | k + 1 => st2Step c arg0 harg0 arg1 harg1 arg2 harg2 arg3 harg3 arg4 harg4 arg5 harg5 arg6 harg6 arg7 harg7 arg8 harg8 arg9 harg9 v1 v3 v5 v12 v28 v29 v30 cst_15 X3 k (st2 c arg0 harg0 arg1 harg1 arg2 harg2 arg3 harg3 arg4 harg4 arg5 harg5 arg6 harg6 arg7 harg7 arg8 harg8 arg9 harg9 v1 v3 v5 v12 v28 v29 v30 cst_15 X3 init k)

theorem st2_succ (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (init : Carry F) (k : Fin k0_t2_loop.trips) :
    st2 c arg0 harg0 arg1 harg1 arg2 harg2 arg3 harg3 arg4 harg4 arg5 harg5 arg6 harg6 arg7 harg7 arg8 harg8 arg9 harg9 v1 v3 v5 v12 v28 v29 v30 cst_15 X3 init (k.val + 1)
      = ((trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.2.2.1 (st2 c arg0 harg0 arg1 harg1 arg2 harg2 arg3 harg3 arg4 harg4 arg5 harg5 arg6 harg6 arg7 harg7 arg8 harg8 arg9 harg9 v1 v3 v5 v12 v28 v29 v30 cst_15 X3 init k.val).1,
          (trip2 (F := F) c arg0 harg0 arg1 harg1 arg2 harg2 arg3 harg3 arg4 harg4 arg5 harg5 arg6 harg6 arg7 harg7 arg8 harg8 arg9 harg9 v1 v3 v5 v12 v28 v29 v30 cst_15 X3 k).1 (st2 c arg0 harg0 arg1 harg1 arg2 harg2 arg3 harg3 arg4 harg4 arg5 harg5 arg6 harg6 arg7 harg7 arg8 harg8 arg9 harg9 v1 v3 v5 v12 v28 v29 v30 cst_15 X3 init k.val).1 ++ (st2 c arg0 harg0 arg1 harg1 arg2 harg2 arg3 harg3 arg4 harg4 arg5 harg5 arg6 harg6 arg7 harg7 arg8 harg8 arg9 harg9 v1 v3 v5 v12 v28 v29 v30 cst_15 X3 init k.val).2.1,
          (trip2 (F := F) c arg0 harg0 arg1 harg1 arg2 harg2 arg3 harg3 arg4 harg4 arg5 harg5 arg6 harg6 arg7 harg7 arg8 harg8 arg9 harg9 v1 v3 v5 v12 v28 v29 v30 cst_15 X3 k).2.1 (st2 c arg0 harg0 arg1 harg1 arg2 harg2 arg3 harg3 arg4 harg4 arg5 harg5 arg6 harg6 arg7 harg7 arg8 harg8 arg9 harg9 v1 v3 v5 v12 v28 v29 v30 cst_15 X3 init k.val).1 ++ (st2 c arg0 harg0 arg1 harg1 arg2 harg2 arg3 harg3 arg4 harg4 arg5 harg5 arg6 harg6 arg7 harg7 arg8 harg8 arg9 harg9 v1 v3 v5 v12 v28 v29 v30 cst_15 X3 init k.val).2.2.1,
          (trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.1 (st2 c arg0 harg0 arg1 harg1 arg2 harg2 arg3 harg3 arg4 harg4 arg5 harg5 arg6 harg6 arg7 harg7 arg8 harg8 arg9 harg9 v1 v3 v5 v12 v28 v29 v30 cst_15 X3 init k.val).1 ++ (st2 c arg0 harg0 arg1 harg1 arg2 harg2 arg3 harg3 arg4 harg4 arg5 harg5 arg6 harg6 arg7 harg7 arg8 harg8 arg9 harg9 v1 v3 v5 v12 v28 v29 v30 cst_15 X3 init k.val).2.2.2.1,
          (trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.2.1 (st2 c arg0 harg0 arg1 harg1 arg2 harg2 arg3 harg3 arg4 harg4 arg5 harg5 arg6 harg6 arg7 harg7 arg8 harg8 arg9 harg9 v1 v3 v5 v12 v28 v29 v30 cst_15 X3 init k.val).1 ++ (st2 c arg0 harg0 arg1 harg1 arg2 harg2 arg3 harg3 arg4 harg4 arg5 harg5 arg6 harg6 arg7 harg7 arg8 harg8 arg9 harg9 v1 v3 v5 v12 v28 v29 v30 cst_15 X3 init k.val).2.2.2.2) := by
  rw [st2.eq_2]; unfold st2Step; exact dif_pos k.isLt

/-- The loop's invariant before trip `k`. -/
abbrev inv2 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (G6 : BufTy.Contents (Elt F) arg6.view.ty) (G7 : BufTy.Contents (Elt F) arg7.view.ty) (G8 : BufTy.Contents (Elt F) arg8.view.ty) (G9 : BufTy.Contents (Elt F) arg9.view.ty) (init : Carry F) (k : ℕ) (acc : Carry F) : sProp 𝕄 :=
  iprop((arg3.view.loc (c : Thread nD τ) ↦[arg3.view.set]{fullShare} X3)
    ∗ (∃ f, (arg6.view.loc (c : Thread nD τ) ↦[arg6.view.set]{fullShare} f) ∗ ⌜f = arg6.view.writes (Elt F) G6 (st2 c arg0 harg0 arg1 harg1 arg2 harg2 arg3 harg3 arg4 harg4 arg5 harg5 arg6 harg6 arg7 harg7 arg8 harg8 arg9 harg9 v1 v3 v5 v12 v28 v29 v30 cst_15 X3 init k).2.1⌝)
    ∗ (∃ f, (arg7.view.loc (c : Thread nD τ) ↦[arg7.view.set]{fullShare} f) ∗ ⌜f = arg7.view.writes (Elt F) G7 (st2 c arg0 harg0 arg1 harg1 arg2 harg2 arg3 harg3 arg4 harg4 arg5 harg5 arg6 harg6 arg7 harg7 arg8 harg8 arg9 harg9 v1 v3 v5 v12 v28 v29 v30 cst_15 X3 init k).2.2.1⌝)
    ∗ (∃ f, (arg8.view.loc (c : Thread nD τ) ↦[arg8.view.set]{fullShare} f) ∗ ⌜f = arg8.view.writes (Elt F) G8 (st2 c arg0 harg0 arg1 harg1 arg2 harg2 arg3 harg3 arg4 harg4 arg5 harg5 arg6 harg6 arg7 harg7 arg8 harg8 arg9 harg9 v1 v3 v5 v12 v28 v29 v30 cst_15 X3 init k).2.2.2.1⌝)
    ∗ (∃ f, (arg9.view.loc (c : Thread nD τ) ↦[arg9.view.set]{fullShare} f) ∗ ⌜f = arg9.view.writes (Elt F) G9 (st2 c arg0 harg0 arg1 harg1 arg2 harg2 arg3 harg3 arg4 harg4 arg5 harg5 arg6 harg6 arg7 harg7 arg8 harg8 arg9 harg9 v1 v3 v5 v12 v28 v29 v30 cst_15 X3 init k).2.2.2.2⌝)
    ∗ ⌜acc = (st2 c arg0 harg0 arg1 harg1 arg2 harg2 arg3 harg3 arg4 harg4 arg5 harg5 arg6 harg6 arg7 harg7 arg8 harg8 arg9 harg9 v1 v3 v5 v12 v28 v29 v30 cst_15 X3 init k).1⌝)

set_option warn.classDefReducibility false in
/-- The loop by its invariant. -/
@[sl_loop] def loopInv_k0_t2 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (G6 : BufTy.Contents (Elt F) arg6.view.ty) (G7 : BufTy.Contents (Elt F) arg7.view.ty) (G8 : BufTy.Contents (Elt F) arg8.view.ty) (G9 : BufTy.Contents (Elt F) arg9.view.ty) (init : Carry F) :
    LoopInvTy_k0_t2 (F := F) Unit ℕ (UR sig nD τ) ℕ Variants.none c none Set.univ arg0 harg0 arg1 harg1 arg2 harg2 arg3 harg3 arg4 harg4 arg5 harg5 arg6 harg6 arg7 harg7 arg8 harg8 arg9 harg9 v1 v3 v5 v12 v28 v29 v30 cst_15 init where
  inv := inv2 (F := F) c arg0 harg0 arg1 harg1 arg2 harg2 arg3 harg3 arg4 harg4 arg5 harg5 arg6 harg6 arg7 harg7 arg8 harg8 arg9 harg9 v1 v3 v5 v12 v28 v29 v30 cst_15 X3 G6 G7 G8 G9 init
  step k acc := by
    iintro ⟨H3, ⟨%f6, H6, %h6⟩, ⟨%f7, H7, %h7⟩, ⟨%f8, H8, %h8⟩, ⟨%f9, H9, %h9⟩, %h_acc⟩
    subst h_acc
    iapply (wp_wand_r Idealize.ShloMosaic.frame (wpE (defs₀ (F := F)) Variants.none (c : Thread nD τ) none) Set.univ)
    isplitl [H3 H6 H7 H8 H9]
    · iapply ((trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.2.2.2 (st2 c arg0 harg0 arg1 harg1 arg2 harg2 arg3 harg3 arg4 harg4 arg5 harg5 arg6 harg6 arg7 harg7 arg8 harg8 arg9 harg9 v1 v3 v5 v12 v28 v29 v30 cst_15 X3 init k.val).1 f6 f7 f8 f9)
      isplitl [H3]; · iexact H3
      isplitl [H6]; · iexact H6
      isplitl [H7]; · iexact H7
      isplitl [H8]; · iexact H8
      iexact H9
    · iintro %yld ⟨%h_res, H3, H6, H7, H8, H9⟩
      isplitl [H3]; · iexact H3
      simp only [st2_succ]
      isplitl [H6]
      · iexists _; isplitl [H6]; · iexact H6
        ipureintro; rw [h6, ← View.writes_append]
      isplitl [H7]
      · iexists _; isplitl [H7]; · iexact H7
        ipureintro; rw [h7, ← View.writes_append]
      isplitl [H8]
      · iexists _; isplitl [H8]; · iexact H8
        ipureintro; rw [h8, ← View.writes_append]
      isplitl [H9]
      · iexists _; isplitl [H9]; · iexact H9
        ipureintro; rw [h9, ← View.writes_append]
      ipureintro; rw [h_res]

end Cert.KernelIdeal.Hand

end
-- ==== Proof.IdealRun.lean ====
/-
  Hand-written. The kernel's body, run once.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.IdealLoop
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole body, run once: from its inputs at `x0 … x4` and its scratches at anything, to the pieces it leaves in its output. -/
@[irreducible] def kernelRun (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec F S3x2048 .f32) (x1 : Vec F S3x2048 .f32) (x2 : Vec F S4096x12 .f32) (x3 : Vec F S28x4096 .f32) (x4 : Vec F S64x1 .f32) (f6 : BufTy.Contents (Elt F) arg6.view.ty) (f7 : BufTy.Contents (Elt F) arg7.view.ty) (f8 : BufTy.Contents (Elt F) arg8.view.ty) (f9 : BufTy.Contents (Elt F) arg9.view.ty) :
    { L : List (View.Piece (Elt F) S3x64x2048 .f32) // ∀ (f5 : BufTy.Contents (Elt F) arg5.view.ty) (K : PUnit → sProp 𝕄),
      iprop((arg0.view.loc (c : Thread nD τ) ↦[arg0.view.set]{fullShare} (harg0.unread x0)) ∗ (arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (iprop((arg0.view.loc (c : Thread nD τ) ↦[arg0.view.set]{fullShare} (harg0.unread x0)) ∗ (arg1.view.loc (c : Thread nD τ) ↦[arg1.view.set]{fullShare} (harg1.unread x1)) ∗ (arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4)) ∗ (arg5.view.loc (c : Thread nD τ) ↦[arg5.view.set]{fullShare} (arg5.view.writes (Elt F) f5 L)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ K ⟨⟩))
      ⊢ wp frame (wpE (defs₀ (F := F)) Variants.none (c : Thread nD τ) none) Set.univ (cc0__body (F := F) arg0 harg0 arg1 harg1 arg2 harg2 arg3 harg3 arg4 harg4 arg5 harg5 arg6 harg6 arg7 harg7 arg8 harg8 arg9 harg9) K } := by
  refine ⟨?_, fun f5 K => ?run⟩
  case run =>
    simp only [cc0__body_eq_skeleton]; unfold cc0__body_skel
    iintro ⟨H0, H1, H2, H3, H4, H5, H6, H7, H8, H9, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9

end Cert.KernelIdeal.Hand

end
-- ==== Proof.IdealRows.lean ====
/-
  Hand-written. The rows the step loop leaves in the scratches, and that the body's result does not depend on what they held before.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.IdealRun
public import Idealize.ShloMosaic.Lib.Pipeline.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The list of pieces that holds row `j` at `w j` for every `j ≤ n`, one piece a row, last written first. -/
inductive IsRows (w : ℕ → Vec F S1x2048 .f32) : ℕ → Rows F → Prop
  | base (inb) : IsRows w 0 [⟨Rect.unit ![0, 0] S1x2048.size inb, w 0⟩]
  | succ (n : ℕ) (L : Rows F) (off : Fin 2 → ℕ) (hoff : off = ![n + 1, 0]) (inb) (h : IsRows w n L) : IsRows w (n + 1) (⟨Rect.unit off S1x2048.size inb, w (n + 1)⟩ :: L)

theorem row_not_mem {j n : ℕ} (hjn : j ≠ n) (inb inb') (x) :
    (Rect.unit (s := S24x2048) ![j, 0] S1x2048.size inb).emb x ∉ (Rect.unit (s := S24x2048) ![n, 0] S1x2048.size inb').set := by
  rw [Rect.mem_set_unit]
  intro hh
  have h0 := hh 0
  have hx : (x 0).val < 1 := (x 0).isLt
  have e0 : ((Rect.unit (s := S24x2048) ![j, 0] S1x2048.size inb).emb x 0).val = j + 1 * (x 0).val := rfl
  rw [e0] at h0
  simp only [Matrix.cons_val_zero] at h0
  have e1 : S1x2048.size 0 = 1 := rfl
  omega

/-- Such a list read at row `j`, over whatever the scratch held before. -/
theorem IsRows.read {w : ℕ → Vec F S1x2048 .f32} {sp : Space} (v : View sig .tc sp S24x2048 .f32) (f : BufTy.Contents (Elt F) v.ty) :
    ∀ {n : ℕ} {L : Rows F}, IsRows w n L → ∀ j ≤ n, ∀ inb, v.readAt (Elt F) (Rect.unit (s := S24x2048) ![j, 0] S1x2048.size inb).toLoadRect (v.writes (Elt F) f L) = w j
  | _, _, .base inb', j, hj, inb => by
    obtain rfl : j = 0 := by omega
    funext x
    exact View.read_writes_cons_emb _ _ _ _ _ x
  | _, _, .succ n L off hoff inb' h, j, hj, inb => by
    subst hoff
    by_cases hjn : j = n + 1
    · subst hjn
      funext x
      exact View.read_writes_cons_emb _ _ _ _ _ x
    · rw [← h.read v f j (by omega) inb]
      funext x
      simp only [View.readAt_apply, View.writes_cons]
      exact View.read_slice_write_of_not_mem _ _ _ _ (by rw [Rect.map_emb_univ]; exact row_not_mem hjn _ _ x)

theorem trips2 : Scf.trips k0_t2_loop.lb k0_t2_loop.ub k0_t2_loop.st = 16 := by decide +kernel

theorem trip2_rows6 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (k : Fin k0_t2_loop.trips) (s : Carry F) :
    (trip2 (F := F) c arg0 harg0 arg1 harg1 arg2 harg2 arg3 harg3 arg4 harg4 arg5 harg5 arg6 harg6 arg7 harg7 arg8 harg8 arg9 harg9 v1 v3 v5 v12 v28 v29 v30 cst_15 X3 k).1 s = [⟨Rect.unit (k0_off3 k) S1x2048.size (k0_off3_inb k), k0_pay68 ((trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.2.2.1 s).2.2.2.2.2.2.2⟩] := by unfold trip2; rfl

theorem trip2_rows7 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (k : Fin k0_t2_loop.trips) (s : Carry F) :
    (trip2 (F := F) c arg0 harg0 arg1 harg1 arg2 harg2 arg3 harg3 arg4 harg4 arg5 harg5 arg6 harg6 arg7 harg7 arg8 harg8 arg9 harg9 v1 v3 v5 v12 v28 v29 v30 cst_15 X3 k).2.1 s = [⟨Rect.unit (k0_off3 k) S1x2048.size (k0_off3_inb k), k0_pay69 ((trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.2.2.1 s).2.1⟩] := by unfold trip2; rfl

theorem trip2_rows8 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (k : Fin k0_t2_loop.trips) (s : Carry F) :
    (trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.1 s = [⟨Rect.unit (k0_off3 k) S1x2048.size (k0_off3_inb k), k0_pay70 ((trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.2.2.1 s).2.2.1⟩] := by unfold trip2; rfl

theorem trip2_rows9 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (k : Fin k0_t2_loop.trips) (s : Carry F) :
    (trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.2.1 s = [⟨Rect.unit (k0_off3 k) S1x2048.size (k0_off3_inb k), k0_pay71 ((trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.2.2.1 s).2.2.2.1⟩] := by unfold trip2; rfl

/-- The rows of scratch 6: row 0 is `b0`, row `k + 1` what trip `k` stores. -/
def row6 (b0 : Vec F S1x2048 .f32) (s : ℕ → Carry F) : ℕ → Vec F S1x2048 .f32
  | 0 => b0
  | k + 1 => k0_pay68 (s (k + 1)).2.2.2.2.2.2.2

theorem st2_rows6 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (init : Carry F) (inb) (b0 : Vec F S1x2048 .f32) :
    ∀ k ≤ 16, IsRows (row6 b0 fun k => (st2 c arg0 harg0 arg1 harg1 arg2 harg2 arg3 harg3 arg4 harg4 arg5 harg5 arg6 harg6 arg7 harg7 arg8 harg8 arg9 harg9 v1 v3 v5 v12 v28 v29 v30 cst_15 X3 init k).1) k ((st2 c arg0 harg0 arg1 harg1 arg2 harg2 arg3 harg3 arg4 harg4 arg5 harg5 arg6 harg6 arg7 harg7 arg8 harg8 arg9 harg9 v1 v3 v5 v12 v28 v29 v30 cst_15 X3 init k).2.1 ++ [⟨Rect.unit ![0, 0] S1x2048.size inb, b0⟩])
  | 0, _ => .base inb
  | k + 1, hk => by
    have hk' : k < k0_t2_loop.trips := by rw [show k0_t2_loop.trips = 16 from trips2]; omega
    have e := st2_succ c arg0 harg0 arg1 harg1 arg2 harg2 arg3 harg3 arg4 harg4 arg5 harg5 arg6 harg6 arg7 harg7 arg8 harg8 arg9 harg9 v1 v3 v5 v12 v28 v29 v30 cst_15 X3 init ⟨k, hk'⟩
    have ih := st2_rows6 c arg0 harg0 arg1 harg1 arg2 harg2 arg3 harg3 arg4 harg4 arg5 harg5 arg6 harg6 arg7 harg7 arg8 harg8 arg9 harg9 v1 v3 v5 v12 v28 v29 v30 cst_15 X3 init inb b0 k (by omega)
    have e1 : row6 b0 (fun k => (st2 c arg0 harg0 arg1 harg1 arg2 harg2 arg3 harg3 arg4 harg4 arg5 harg5 arg6 harg6 arg7 harg7 arg8 harg8 arg9 harg9 v1 v3 v5 v12 v28 v29 v30 cst_15 X3 init k).1) (k + 1) = k0_pay68 (st2 c arg0 harg0 arg1 harg1 arg2 harg2 arg3 harg3 arg4 harg4 arg5 harg5 arg6 harg6 arg7 harg7 arg8 harg8 arg9 harg9 v1 v3 v5 v12 v28 v29 v30 cst_15 X3 init (k + 1)).1.2.2.2.2.2.2.2 := rfl
    have h := IsRows.succ k _ (k0_off3 ⟨k, hk'⟩) (k0_off3_eq ⟨k, hk'⟩) (k0_off3_inb ⟨k, hk'⟩) ih
    rw [e1] at h
    simp only [e, trip2_rows6, List.cons_append, List.nil_append] at h ⊢
    exact h

theorem st2_read6 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (init : Carry F) (inb) (b0 : Vec F S1x2048 .f32) (f : BufTy.Contents (Elt F) arg6.view.ty) (j : ℕ) (hj : j ≤ 16) (inb') :
    arg6.view.readAt (Elt F) (Rect.unit (s := S24x2048) ![j, 0] S1x2048.size inb').toLoadRect (arg6.view.writes (Elt F) f ((st2 c arg0 harg0 arg1 harg1 arg2 harg2 arg3 harg3 arg4 harg4 arg5 harg5 arg6 harg6 arg7 harg7 arg8 harg8 arg9 harg9 v1 v3 v5 v12 v28 v29 v30 cst_15 X3 init (Scf.trips k0_t2_loop.lb k0_t2_loop.ub k0_t2_loop.st)).2.1 ++ [⟨Rect.unit ![0, 0] S1x2048.size inb, b0⟩]))
      = row6 b0 (fun k => (st2 c arg0 harg0 arg1 harg1 arg2 harg2 arg3 harg3 arg4 harg4 arg5 harg5 arg6 harg6 arg7 harg7 arg8 harg8 arg9 harg9 v1 v3 v5 v12 v28 v29 v30 cst_15 X3 init k).1) j := by
  rw [trips2]
  exact (st2_rows6 c arg0 harg0 arg1 harg1 arg2 harg2 arg3 harg3 arg4 harg4 arg5 harg5 arg6 harg6 arg7 harg7 arg8 harg8 arg9 harg9 v1 v3 v5 v12 v28 v29 v30 cst_15 X3 init inb b0 16 (le_refl _)).read arg6.view f j hj inb'

/-- The rows of scratch 7: row 0 is `b0`, row `k + 1` what trip `k` stores. -/
def row7 (b0 : Vec F S1x2048 .f32) (s : ℕ → Carry F) : ℕ → Vec F S1x2048 .f32
  | 0 => b0
  | k + 1 => k0_pay69 (s (k + 1)).2.1

theorem st2_rows7 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (init : Carry F) (inb) (b0 : Vec F S1x2048 .f32) :
    ∀ k ≤ 16, IsRows (row7 b0 fun k => (st2 c arg0 harg0 arg1 harg1 arg2 harg2 arg3 harg3 arg4 harg4 arg5 harg5 arg6 harg6 arg7 harg7 arg8 harg8 arg9 harg9 v1 v3 v5 v12 v28 v29 v30 cst_15 X3 init k).1) k ((st2 c arg0 harg0 arg1 harg1 arg2 harg2 arg3 harg3 arg4 harg4 arg5 harg5 arg6 harg6 arg7 harg7 arg8 harg8 arg9 harg9 v1 v3 v5 v12 v28 v29 v30 cst_15 X3 init k).2.2.1 ++ [⟨Rect.unit ![0, 0] S1x2048.size inb, b0⟩])
  | 0, _ => .base inb
  | k + 1, hk => by
    have hk' : k < k0_t2_loop.trips := by rw [show k0_t2_loop.trips = 16 from trips2]; omega
    have e := st2_succ c arg0 harg0 arg1 harg1 arg2 harg2 arg3 harg3 arg4 harg4 arg5 harg5 arg6 harg6 arg7 harg7 arg8 harg8 arg9 harg9 v1 v3 v5 v12 v28 v29 v30 cst_15 X3 init ⟨k, hk'⟩
    have ih := st2_rows7 c arg0 harg0 arg1 harg1 arg2 harg2 arg3 harg3 arg4 harg4 arg5 harg5 arg6 harg6 arg7 harg7 arg8 harg8 arg9 harg9 v1 v3 v5 v12 v28 v29 v30 cst_15 X3 init inb b0 k (by omega)
    have e1 : row7 b0 (fun k => (st2 c arg0 harg0 arg1 harg1 arg2 harg2 arg3 harg3 arg4 harg4 arg5 harg5 arg6 harg6 arg7 harg7 arg8 harg8 arg9 harg9 v1 v3 v5 v12 v28 v29 v30 cst_15 X3 init k).1) (k + 1) = k0_pay69 (st2 c arg0 harg0 arg1 harg1 arg2 harg2 arg3 harg3 arg4 harg4 arg5 harg5 arg6 harg6 arg7 harg7 arg8 harg8 arg9 harg9 v1 v3 v5 v12 v28 v29 v30 cst_15 X3 init (k + 1)).1.2.1 := rfl
    have h := IsRows.succ k _ (k0_off3 ⟨k, hk'⟩) (k0_off3_eq ⟨k, hk'⟩) (k0_off3_inb ⟨k, hk'⟩) ih
    rw [e1] at h
    simp only [e, trip2_rows7, List.cons_append, List.nil_append] at h ⊢
    exact h

theorem st2_read7 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (init : Carry F) (inb) (b0 : Vec F S1x2048 .f32) (f : BufTy.Contents (Elt F) arg7.view.ty) (j : ℕ) (hj : j ≤ 16) (inb') :
    arg7.view.readAt (Elt F) (Rect.unit (s := S24x2048) ![j, 0] S1x2048.size inb').toLoadRect (arg7.view.writes (Elt F) f ((st2 c arg0 harg0 arg1 harg1 arg2 harg2 arg3 harg3 arg4 harg4 arg5 harg5 arg6 harg6 arg7 harg7 arg8 harg8 arg9 harg9 v1 v3 v5 v12 v28 v29 v30 cst_15 X3 init (Scf.trips k0_t2_loop.lb k0_t2_loop.ub k0_t2_loop.st)).2.2.1 ++ [⟨Rect.unit ![0, 0] S1x2048.size inb, b0⟩]))
      = row7 b0 (fun k => (st2 c arg0 harg0 arg1 harg1 arg2 harg2 arg3 harg3 arg4 harg4 arg5 harg5 arg6 harg6 arg7 harg7 arg8 harg8 arg9 harg9 v1 v3 v5 v12 v28 v29 v30 cst_15 X3 init k).1) j := by
  rw [trips2]
  exact (st2_rows7 c arg0 harg0 arg1 harg1 arg2 harg2 arg3 harg3 arg4 harg4 arg5 harg5 arg6 harg6 arg7 harg7 arg8 harg8 arg9 harg9 v1 v3 v5 v12 v28 v29 v30 cst_15 X3 init inb b0 16 (le_refl _)).read arg7.view f j hj inb'

/-- The rows of scratch 8: row 0 is `b0`, row `k + 1` what trip `k` stores. -/
def row8 (b0 : Vec F S1x2048 .f32) (s : ℕ → Carry F) : ℕ → Vec F S1x2048 .f32
  | 0 => b0
  | k + 1 => k0_pay70 (s (k + 1)).2.2.1

theorem st2_rows8 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (init : Carry F) (inb) (b0 : Vec F S1x2048 .f32) :
    ∀ k ≤ 16, IsRows (row8 b0 fun k => (st2 c arg0 harg0 arg1 harg1 arg2 harg2 arg3 harg3 arg4 harg4 arg5 harg5 arg6 harg6 arg7 harg7 arg8 harg8 arg9 harg9 v1 v3 v5 v12 v28 v29 v30 cst_15 X3 init k).1) k ((st2 c arg0 harg0 arg1 harg1 arg2 harg2 arg3 harg3 arg4 harg4 arg5 harg5 arg6 harg6 arg7 harg7 arg8 harg8 arg9 harg9 v1 v3 v5 v12 v28 v29 v30 cst_15 X3 init k).2.2.2.1 ++ [⟨Rect.unit ![0, 0] S1x2048.size inb, b0⟩])
  | 0, _ => .base inb
  | k + 1, hk => by
    have hk' : k < k0_t2_loop.trips := by rw [show k0_t2_loop.trips = 16 from trips2]; omega
    have e := st2_succ c arg0 harg0 arg1 harg1 arg2 harg2 arg3 harg3 arg4 harg4 arg5 harg5 arg6 harg6 arg7 harg7 arg8 harg8 arg9 harg9 v1 v3 v5 v12 v28 v29 v30 cst_15 X3 init ⟨k, hk'⟩
    have ih := st2_rows8 c arg0 harg0 arg1 harg1 arg2 harg2 arg3 harg3 arg4 harg4 arg5 harg5 arg6 harg6 arg7 harg7 arg8 harg8 arg9 harg9 v1 v3 v5 v12 v28 v29 v30 cst_15 X3 init inb b0 k (by omega)
    have e1 : row8 b0 (fun k => (st2 c arg0 harg0 arg1 harg1 arg2 harg2 arg3 harg3 arg4 harg4 arg5 harg5 arg6 harg6 arg7 harg7 arg8 harg8 arg9 harg9 v1 v3 v5 v12 v28 v29 v30 cst_15 X3 init k).1) (k + 1) = k0_pay70 (st2 c arg0 harg0 arg1 harg1 arg2 harg2 arg3 harg3 arg4 harg4 arg5 harg5 arg6 harg6 arg7 harg7 arg8 harg8 arg9 harg9 v1 v3 v5 v12 v28 v29 v30 cst_15 X3 init (k + 1)).1.2.2.1 := rfl
    have h := IsRows.succ k _ (k0_off3 ⟨k, hk'⟩) (k0_off3_eq ⟨k, hk'⟩) (k0_off3_inb ⟨k, hk'⟩) ih
    rw [e1] at h
    simp only [e, trip2_rows8, List.cons_append, List.nil_append] at h ⊢
    exact h

theorem st2_read8 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (init : Carry F) (inb) (b0 : Vec F S1x2048 .f32) (f : BufTy.Contents (Elt F) arg8.view.ty) (j : ℕ) (hj : j ≤ 16) (inb') :
    arg8.view.readAt (Elt F) (Rect.unit (s := S24x2048) ![j, 0] S1x2048.size inb').toLoadRect (arg8.view.writes (Elt F) f ((st2 c arg0 harg0 arg1 harg1 arg2 harg2 arg3 harg3 arg4 harg4 arg5 harg5 arg6 harg6 arg7 harg7 arg8 harg8 arg9 harg9 v1 v3 v5 v12 v28 v29 v30 cst_15 X3 init (Scf.trips k0_t2_loop.lb k0_t2_loop.ub k0_t2_loop.st)).2.2.2.1 ++ [⟨Rect.unit ![0, 0] S1x2048.size inb, b0⟩]))
      = row8 b0 (fun k => (st2 c arg0 harg0 arg1 harg1 arg2 harg2 arg3 harg3 arg4 harg4 arg5 harg5 arg6 harg6 arg7 harg7 arg8 harg8 arg9 harg9 v1 v3 v5 v12 v28 v29 v30 cst_15 X3 init k).1) j := by
  rw [trips2]
  exact (st2_rows8 c arg0 harg0 arg1 harg1 arg2 harg2 arg3 harg3 arg4 harg4 arg5 harg5 arg6 harg6 arg7 harg7 arg8 harg8 arg9 harg9 v1 v3 v5 v12 v28 v29 v30 cst_15 X3 init inb b0 16 (le_refl _)).read arg8.view f j hj inb'

/-- The rows of scratch 9: row 0 is `b0`, row `k + 1` what trip `k` stores. -/
def row9 (b0 : Vec F S1x2048 .f32) (s : ℕ → Carry F) : ℕ → Vec F S1x2048 .f32
  | 0 => b0
  | k + 1 => k0_pay71 (s (k + 1)).2.2.2.1

theorem st2_rows9 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (init : Carry F) (inb) (b0 : Vec F S1x2048 .f32) :
    ∀ k ≤ 16, IsRows (row9 b0 fun k => (st2 c arg0 harg0 arg1 harg1 arg2 harg2 arg3 harg3 arg4 harg4 arg5 harg5 arg6 harg6 arg7 harg7 arg8 harg8 arg9 harg9 v1 v3 v5 v12 v28 v29 v30 cst_15 X3 init k).1) k ((st2 c arg0 harg0 arg1 harg1 arg2 harg2 arg3 harg3 arg4 harg4 arg5 harg5 arg6 harg6 arg7 harg7 arg8 harg8 arg9 harg9 v1 v3 v5 v12 v28 v29 v30 cst_15 X3 init k).2.2.2.2 ++ [⟨Rect.unit ![0, 0] S1x2048.size inb, b0⟩])
  | 0, _ => .base inb
  | k + 1, hk => by
    have hk' : k < k0_t2_loop.trips := by rw [show k0_t2_loop.trips = 16 from trips2]; omega
    have e := st2_succ c arg0 harg0 arg1 harg1 arg2 harg2 arg3 harg3 arg4 harg4 arg5 harg5 arg6 harg6 arg7 harg7 arg8 harg8 arg9 harg9 v1 v3 v5 v12 v28 v29 v30 cst_15 X3 init ⟨k, hk'⟩
    have ih := st2_rows9 c arg0 harg0 arg1 harg1 arg2 harg2 arg3 harg3 arg4 harg4 arg5 harg5 arg6 harg6 arg7 harg7 arg8 harg8 arg9 harg9 v1 v3 v5 v12 v28 v29 v30 cst_15 X3 init inb b0 k (by omega)
    have e1 : row9 b0 (fun k => (st2 c arg0 harg0 arg1 harg1 arg2 harg2 arg3 harg3 arg4 harg4 arg5 harg5 arg6 harg6 arg7 harg7 arg8 harg8 arg9 harg9 v1 v3 v5 v12 v28 v29 v30 cst_15 X3 init k).1) (k + 1) = k0_pay71 (st2 c arg0 harg0 arg1 harg1 arg2 harg2 arg3 harg3 arg4 harg4 arg5 harg5 arg6 harg6 arg7 harg7 arg8 harg8 arg9 harg9 v1 v3 v5 v12 v28 v29 v30 cst_15 X3 init (k + 1)).1.2.2.2.1 := rfl
    have h := IsRows.succ k _ (k0_off3 ⟨k, hk'⟩) (k0_off3_eq ⟨k, hk'⟩) (k0_off3_inb ⟨k, hk'⟩) ih
    rw [e1] at h
    simp only [e, trip2_rows9, List.cons_append, List.nil_append] at h ⊢
    exact h

theorem st2_read9 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (init : Carry F) (inb) (b0 : Vec F S1x2048 .f32) (f : BufTy.Contents (Elt F) arg9.view.ty) (j : ℕ) (hj : j ≤ 16) (inb') :
    arg9.view.readAt (Elt F) (Rect.unit (s := S24x2048) ![j, 0] S1x2048.size inb').toLoadRect (arg9.view.writes (Elt F) f ((st2 c arg0 harg0 arg1 harg1 arg2 harg2 arg3 harg3 arg4 harg4 arg5 harg5 arg6 harg6 arg7 harg7 arg8 harg8 arg9 harg9 v1 v3 v5 v12 v28 v29 v30 cst_15 X3 init (Scf.trips k0_t2_loop.lb k0_t2_loop.ub k0_t2_loop.st)).2.2.2.2 ++ [⟨Rect.unit ![0, 0] S1x2048.size inb, b0⟩]))
      = row9 b0 (fun k => (st2 c arg0 harg0 arg1 harg1 arg2 harg2 arg3 harg3 arg4 harg4 arg5 harg5 arg6 harg6 arg7 harg7 arg8 harg8 arg9 harg9 v1 v3 v5 v12 v28 v29 v30 cst_15 X3 init k).1) j := by
  rw [trips2]
  exact (st2_rows9 c arg0 harg0 arg1 harg1 arg2 harg2 arg3 harg3 arg4 harg4 arg5 harg5 arg6 harg6 arg7 harg7 arg8 harg8 arg9 harg9 v1 v3 v5 v12 v28 v29 v30 cst_15 X3 init inb b0 16 (le_refl _)).read arg9.view f j hj inb'

/-- What the body leaves in its output does not depend on what its scratches held. -/
theorem kernelRun_indep (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec F S3x2048 .f32) (x1 : Vec F S3x2048 .f32) (x2 : Vec F S4096x12 .f32) (x3 : Vec F S28x4096 .f32) (x4 : Vec F S64x1 .f32) (f6 : BufTy.Contents (Elt F) arg6.view.ty) (f7 : BufTy.Contents (Elt F) arg7.view.ty) (f8 : BufTy.Contents (Elt F) arg8.view.ty) (f9 : BufTy.Contents (Elt F) arg9.view.ty) (g6 : BufTy.Contents (Elt F) arg6.view.ty) (g7 : BufTy.Contents (Elt F) arg7.view.ty) (g8 : BufTy.Contents (Elt F) arg8.view.ty) (g9 : BufTy.Contents (Elt F) arg9.view.ty) :
    (kernelRun c arg0 harg0 arg1 harg1 arg2 harg2 arg3 harg3 arg4 harg4 arg5 harg5 arg6 harg6 arg7 harg7 arg8 harg8 arg9 harg9 x0 x1 x2 x3 x4 f6 f7 f8 f9).1 = (kernelRun c arg0 harg0 arg1 harg1 arg2 harg2 arg3 harg3 arg4 harg4 arg5 harg5 arg6 harg6 arg7 harg7 arg8 harg8 arg9 harg9 x0 x1 x2 x3 x4 g6 g7 g8 g9).1 := by
  unfold kernelRun
  dsimp only
  simp (config := { proj := false }) (disch := decide) only [st2_read6, st2_read7, st2_read8, st2_read9,
      kernelRun.sl.v73, kernelRun.sl.v501, kernelRun.sl.v689, kernelRun.sl.v349, kernelRun.sl.v109, kernelRun.sl.v545, kernelRun.sl.v609, kernelRun.sl.v205, kernelRun.sl.v653,
      kernelRun.sl.v473, kernelRun.sl.v637, kernelRun.sl.v133, kernelRun.sl.v55, kernelRun.sl.v313, kernelRun.sl.v429, kernelRun.sl.v421, kernelRun.sl.v509, kernelRun.sl.v681,
      kernelRun.sl.v277, kernelRun.sl.v529, kernelRun.sl.v321, kernelRun.sl.v673, kernelRun.sl.v401, kernelRun.sl.v465, kernelRun.sl.v103, kernelRun.sl.v285, kernelRun.sl.v537,
      kernelRun.sl.v127, kernelRun.sl.v645, kernelRun.sl.v97, kernelRun.sl.v177, kernelRun.sl.v493, kernelRun.sl.v357, kernelRun.sl.v85, kernelRun.sl.v717, kernelRun.sl.v617,
      kernelRun.sl.v365, kernelRun.sl.v49, kernelRun.sl.v213, kernelRun.sl.v43, kernelRun.sl.v169, kernelRun.sl.v91, kernelRun.sl.v293, kernelRun.sl.v249, kernelRun.sl.v565,
      kernelRun.sl.v61, kernelRun.sl.v329, kernelRun.sl.v67, kernelRun.sl.v257, kernelRun.sl.v581, kernelRun.sl.v437, kernelRun.sl.v385, kernelRun.sl.v121, kernelRun.sl.v393,
      kernelRun.sl.v709, kernelRun.sl.v725, kernelRun.sl.v601, kernelRun.sl.v221, kernelRun.sl.v185, kernelRun.sl.v457, kernelRun.sl.v573, kernelRun.sl.v79, kernelRun.sl.v241,
      kernelRun.sl.v115, kernelRun.sl.r_8, kernelRun.sl.r_9, kernelRun.sl.r_10, kernelRun.sl.r_11, kernelRun.sl.r_12, kernelRun.sl.r_13, kernelRun.sl.r_14, kernelRun.sl.r_15,
      kernelRun.sl.r_16, kernelRun.sl.r_17, kernelRun.sl.r_18, kernelRun.sl.r_19, kernelRun.sl.r_20, kernelRun.sl.r_21, kernelRun.sl.r_22, kernelRun.sl.r_23, kernelRun.sl.r_24,
      kernelRun.sl.r_25, kernelRun.sl.r_26, kernelRun.sl.r_27, kernelRun.sl.r_28, kernelRun.sl.r_29, kernelRun.sl.r_30, kernelRun.sl.r_31, kernelRun.sl.r_32, kernelRun.sl.r_33,
      kernelRun.sl.r_34, kernelRun.sl.r_35, kernelRun.sl.r_36, kernelRun.sl.r_37, kernelRun.sl.r_38, kernelRun.sl.r_39, kernelRun.sl.r_40, kernelRun.sl.r_41, kernelRun.sl.r_42,
      kernelRun.sl.r_43, kernelRun.sl.r_44, kernelRun.sl.r_45, kernelRun.sl.r_46, kernelRun.sl.r_47, kernelRun.sl.r_48, kernelRun.sl.r_49, kernelRun.sl.r_50, kernelRun.sl.r_51,
      kernelRun.sl.r_52, kernelRun.sl.r_53, kernelRun.sl.r_54, kernelRun.sl.r_55, kernelRun.sl.r_56, kernelRun.sl.r_57, kernelRun.sl.r_58, kernelRun.sl.r_59, kernelRun.sl.r_60,
      kernelRun.sl.r_61, kernelRun.sl.r_62, kernelRun.sl.r_63, kernelRun.sl.r_64, kernelRun.sl.r_65, kernelRun.sl.r_66, kernelRun.sl.r_67, kernelRun.sl.r_68, kernelRun.sl.r_69,
      kernelRun.sl.r_70, kernelRun.sl.r_71, kernelRun.sl.r_72, kernelRun.sl.r_73, kernelRun.sl.r_74, kernelRun.sl.r_75, kernelRun.sl.r_76, kernelRun.sl.r_77, kernelRun.sl.r_78,
      kernelRun.sl.r_79, kernelRun.sl.r_80, kernelRun.sl.r_81, kernelRun.sl.r_82, kernelRun.sl.r_83, kernelRun.sl.r_84, kernelRun.sl.r_85, kernelRun.sl.r_86, kernelRun.sl.r_87,
      kernelRun.sl.r_88, kernelRun.sl.r_89, kernelRun.sl.r_90, kernelRun.sl.r_91, kernelRun.sl.r_92, kernelRun.sl.r_93, kernelRun.sl.r_94, kernelRun.sl.r_95, kernelRun.sl.r_96,
      kernelRun.sl.r_97, kernelRun.sl.r_98, kernelRun.sl.r_99, kernelRun.sl.r_100, kernelRun.sl.r_101, kernelRun.sl.r_102, kernelRun.sl.r_103, kernelRun.sl.r_104, kernelRun.sl.r_105,
      kernelRun.sl.r_106, kernelRun.sl.r_107, kernelRun.sl.r_108, kernelRun.sl.r_109, kernelRun.sl.r_110, kernelRun.sl.r_111, kernelRun.sl.r_112, kernelRun.sl.r_113,
      kernelRun.sl.r_114, kernelRun.sl.r_115, kernelRun.sl.r_116, kernelRun.sl.r_117, kernelRun.sl.r_118, kernelRun.sl.r_119, kernelRun.sl.r_120, kernelRun.sl.r_121,
      kernelRun.sl.r_122, kernelRun.sl.r_123, kernelRun.sl.r_124, kernelRun.sl.r_125, kernelRun.sl.r_126, kernelRun.sl.r_127, kernelRun.sl.r_128, kernelRun.sl.r_129,
      kernelRun.sl.r_130, kernelRun.sl.r_131, kernelRun.sl.r_132, kernelRun.sl.r_133, kernelRun.sl.r_134, kernelRun.sl.r_135, kernelRun.sl.r_136, kernelRun.sl.r_137,
      kernelRun.sl.r_138, kernelRun.sl.r_139, kernelRun.sl.r_140, kernelRun.sl.r_141, kernelRun.sl.r_142, kernelRun.sl.r_143]

end Cert.KernelIdeal.Hand

end
-- ==== Proof.IdealFrame.lean ====
/-
  Hand-written. The launch: the proof data, the body's obligation, and the run of the whole program.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.IdealRows
public import Idealize.ShloMosaic.Lib.Pipeline.Frame
public import Idealize.ShloMosaic.Lib.Pipeline.FrameSuffix
public import Idealize.ShloMosaic.Lib.Pipeline.Value
public import Idealize.ShloMosaic.Lib.Tactic

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three planes the body leaves in its output, as pieces. -/
@[irreducible] def outPieces (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec F S3x2048 .f32) (x1 : Vec F S3x2048 .f32) (x2 : Vec F S4096x12 .f32) (x3 : Vec F S28x4096 .f32) (x4 : Vec F S64x1 .f32) : List (View.Piece (Elt F) S3x64x2048 .f32) :=
  (kernelRun (F := F) c arg0 harg0 arg1 harg1 arg2 harg2 arg3 harg3 arg4 harg4 arg5 harg5 arg6 harg6 arg7 harg7 arg8 harg8 arg9 harg9 x0 x1 x2 x3 x4 arg6.view.junk arg7.view.junk arg8.view.junk arg9.view.junk).1

/-- What the body leaves in its output, from its inputs. -/
@[irreducible] def bodyOut (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec F S3x2048 .f32) (x1 : Vec F S3x2048 .f32) (x2 : Vec F S4096x12 .f32) (x3 : Vec F S28x4096 .f32) (x4 : Vec F S64x1 .f32) : Vec F S3x64x2048 .f32 := View.canon (outPieces c arg0 harg0 arg1 harg1 arg2 harg2 arg3 harg3 arg4 harg4 arg5 harg5 arg6 harg6 arg7 harg7 arg8 harg8 arg9 harg9 x0 x1 x2 x3 x4)

/-- Every element of the output lies in one of the three planes. -/
theorem out_cover (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec F S3x2048 .f32) (x1 : Vec F S3x2048 .f32) (x2 : Vec F S4096x12 .f32) (x3 : Vec F S28x4096 .f32) (x4 : Vec F S64x1 .f32) : ∀ y : S3x64x2048.Idx, ∃ p ∈ outPieces c arg0 harg0 arg1 harg1 arg2 harg2 arg3 harg3 arg4 harg4 arg5 harg5 arg6 harg6 arg7 harg7 arg8 harg8 arg9 harg9 x0 x1 x2 x3 x4, y ∈ p.1.set := by
  have hL : ∃ i0 i1 i2, ∃ (a0 a1 a2 : Vec F S1x64x2048 .f32), outPieces c arg0 harg0 arg1 harg1 arg2 harg2 arg3 harg3 arg4 harg4 arg5 harg5 arg6 harg6 arg7 harg7 arg8 harg8 arg9 harg9 x0 x1 x2 x3 x4 = [⟨Rect.unit ![2, 0, 0] S1x64x2048.size i2, a2⟩, ⟨Rect.unit ![1, 0, 0] S1x64x2048.size i1, a1⟩, ⟨Rect.unit ![0, 0, 0] S1x64x2048.size i0, a0⟩] := by
    unfold outPieces kernelRun; exact ⟨_, _, _, _, _, _, rfl⟩
  obtain ⟨i0, i1, i2, a0, a1, a2, e⟩ := hL
  rw [e]
  intro y
  have h0 : (y 0).val < 3 := (y 0).isLt
  have h1 : (y 1).val < 64 := (y 1).isLt
  have h2 : (y 2).val < 2048 := (y 2).isLt
  have key : ∀ (n : ℕ) (inb), (y 0).val = n → y ∈ (Rect.unit (s := S3x64x2048) ![n, 0, 0] S1x64x2048.size inb).set := by
    intro n inb hn
    rw [Rect.mem_set_unit]
    intro a
    fin_cases a
    · exact ⟨hn.ge, by show (y 0).val < n + 1; omega⟩
    · exact ⟨Nat.zero_le _, by show (y 1).val < 0 + 64; omega⟩
    · exact ⟨Nat.zero_le _, by show (y 2).val < 0 + 2048; omega⟩
  rcases (by omega : (y 0).val = 0 ∨ (y 0).val = 1 ∨ (y 0).val = 2) with h | h | h
  · exact ⟨_, List.mem_cons_of_mem _ (List.mem_cons_of_mem _ List.mem_cons_self), key 0 i0 h⟩
  · exact ⟨_, List.mem_cons_of_mem _ List.mem_cons_self, key 1 i1 h⟩
  · exact ⟨_, List.mem_cons_self, key 2 i2 h⟩

theorem whole_pts (c : Dev nD) (M : Memref sig .tc .vmem S24x2048 .f32) (h : M.IsWhole) (f : Buf (Elt F) (View.loc (c : Thread nD τ) M.view)) :
    ((M.view.loc (c : Thread nD τ) ↦[M.view.set]{fullShare} f) : sProp 𝕄) = (M.view.loc (c : Thread nD τ) ↦{fullShare} f) := by
  rw [h.set_eq_univ]

/-- The body, over what its memrefs hold. -/
theorem body_owns (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec F S3x2048 .f32) (x1 : Vec F S3x2048 .f32) (x2 : Vec F S4096x12 .f32) (x3 : Vec F S28x4096 .f32) (x4 : Vec F S64x1 .f32) (d5 : Vec F S3x64x2048 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare d5 ∗ (∃ f, arg6.view.loc (c : Thread nD τ) ↦{fullShare} f) ∗ (∃ f, arg7.view.loc (c : Thread nD τ) ↦{fullShare} f) ∗ (∃ f, arg8.view.loc (c : Thread nD τ) ↦{fullShare} f) ∗ (∃ f, arg9.view.loc (c : Thread nD τ) ↦{fullShare} f) ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (bodyOut c arg0 harg0 arg1 harg1 arg2 harg2 arg3 harg3 arg4 harg4 arg5 harg5 arg6 harg6 arg7 harg7 arg8 harg8 arg9 harg9 x0 x1 x2 x3 x4) ∗ (∃ f, arg6.view.loc (c : Thread nD τ) ↦{fullShare} f) ∗ (∃ f, arg7.view.loc (c : Thread nD τ) ↦{fullShare} f) ∗ (∃ f, arg8.view.loc (c : Thread nD τ) ↦{fullShare} f) ∗ (∃ f, arg9.view.loc (c : Thread nD τ) ↦{fullShare} f)) -∗ K ⟨⟩))
      ⊢ wp frame (wpE (defs₀ (F := F)) Variants.none (c : Thread nD τ) none) Set.univ (cc0__body (F := F) arg0 harg0 arg1 harg1 arg2 harg2 arg3 harg3 arg4 harg4 arg5 harg5 arg6 harg6 arg7 harg7 arg8 harg8 arg9 harg9) K := by
  unfold owns
  iintro ⟨⟨%f0, %e0, H0⟩, ⟨%f1, %e1, H1⟩, ⟨%f2, %e2, H2⟩, ⟨%f3, %e3, H3⟩, ⟨%f4, %e4, H4⟩, ⟨%f5, -, H5⟩, ⟨%g6, S6⟩, ⟨%g7, S7⟩, ⟨%g8, S8⟩, ⟨%g9, S9⟩, Hk⟩
  obtain rfl := harg0.eq_unread e0
  obtain rfl := harg1.eq_unread e1
  obtain rfl := harg2.eq_unread e2
  obtain rfl := harg3.eq_unread e3
  obtain rfl := harg4.eq_unread e4
  have HK := (kernelRun (F := F) c arg0 harg0 arg1 harg1 arg2 harg2 arg3 harg3 arg4 harg4 arg5 harg5 arg6 harg6 arg7 harg7 arg8 harg8 arg9 harg9 x0 x1 x2 x3 x4 g6 g7 g8 g9).2 f5 K
  simp only [whole_pts c arg6 harg6, whole_pts c arg7 harg7, whole_pts c arg8 harg8, whole_pts c arg9 harg9] at HK
  iapply HK
  isplitl [H0]; · iexact H0
  isplitl [H1]; · iexact H1
  isplitl [H2]; · iexact H2
  isplitl [H3]; · iexact H3
  isplitl [H4]; · iexact H4
  isplitl [H5]; · iexact H5
  isplitl [S6]; · iexact S6
  isplitl [S7]; · iexact S7
  isplitl [S8]; · iexact S8
  isplitl [S9]; · iexact S9
  iintro ⟨H0, H1, H2, H3, H4, H5, S6, S7, S8, S9⟩
  iapply Hk
  isplitl [H0]; · iexists _; isplitr; swap; · iexact H0
                  ipureintro; exact e0
  isplitl [H1]; · iexists _; isplitr; swap; · iexact H1
                  ipureintro; exact e1
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]
  · iexists _; isplitr; swap; · iexact H5
    ipureintro
    have e : (kernelRun (F := F) c arg0 harg0 arg1 harg1 arg2 harg2 arg3 harg3 arg4 harg4 arg5 harg5 arg6 harg6 arg7 harg7 arg8 harg8 arg9 harg9 x0 x1 x2 x3 x4 g6 g7 g8 g9).1 = outPieces c arg0 harg0 arg1 harg1 arg2 harg2 arg3 harg3 arg4 harg4 arg5 harg5 arg6 harg6 arg7 harg7 arg8 harg8 arg9 harg9 x0 x1 x2 x3 x4 := by
      unfold outPieces; exact kernelRun_indep ..
    rw [e]
    unfold bodyOut
    exact View.read_writes_eq_canon _ _ _ (out_cover c arg0 harg0 arg1 harg1 arg2 harg2 arg3 harg3 arg4 harg4 arg5 harg5 arg6 harg6 arg7 harg7 arg8 harg8 arg9 harg9 x0 x1 x2 x3 x4)
  isplitl [S6]; · iexact S6
  isplitl [S7]; · iexact S7
  isplitl [S8]; · iexact S8
  iexact S9

variable (m : (ℓ : Loc nD τ sig) → Buf (Elt F) ℓ) (ρ : Dev nD → PrngReg)

/-- What the body leaves in its output. -/
def outBlk (c : Dev nD) (t : Fin cfg0.N) : Vec F S3x64x2048 .f32 := bodyOut (F := F) c (st0_0 t) (hstage0_0 0) (st0_1 t) (hstage0_1 0) (st0_2 t) (hstage0_2 0) (st0_3 t) (hstage0_3 0) (st0_4 t) (hstage0_4 0) (st0_5 t) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t)

/-- The proof data: inputs left as found, the output at `outBlk`. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => outBlk m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = outBlk m c t := rfl

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl), before0_4_of m (dats m 0 c) (A_eq m c 4) (fun _ => rfl)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  rw [after_0, after_1, after_2, after_3, after_4, after_5]
  unfold Pipeline.ΦA
  rw [scopedRest0_eq]
  iintro ⟨⟨⟨S6, S7, S8, S9⟩, HR⟩, HO, ⟨%d0, H0⟩, ⟨%d1, H1⟩, ⟨%d2, H2⟩, ⟨%d3, H3⟩, ⟨%d4, H4⟩, ⟨%d5, H5⟩⟩
  iapply (body_owns (F := F) c (st0_0 t) (hstage0_0 0) (st0_1 t) (hstage0_1 0) (st0_2 t) (hstage0_2 0) (st0_3 t) (hstage0_3 0) (st0_4 t) (hstage0_4 0) (st0_5 t) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) _ _)
  isplitl [H0]; · iexact H0
  isplitl [H1]; · iexact H1
  isplitl [H2]; · iexact H2
  isplitl [H3]; · iexact H3
  isplitl [H4]; · iexact H4
  isplitl [H5]; · iexact H5
  isplitl [S6]; · iexact S6
  isplitl [S7]; · iexact S7
  isplitl [S8]; · iexact S8
  isplitl [S9]; · iexact S9
  iintro ⟨H0, H1, H2, H3, H4, H5, S6, S7, S8, S9⟩
  isplitl [S6 S7 S8 S9 HR]
  · isplitl [S6 S7 S8 S9]
    · isplitl [S6]; · iexact S6
      isplitl [S7]; · iexact S7
      isplitl [S8]; · iexact S8
      iexact S9
    iexact HR
  isplitl [HO]; · iexact HO
  isplitl [H0]; · iexact H0
  isplitl [H1]; · iexact H1
  isplitl [H2]; · iexact H2
  isplitl [H3]; · iexact H3
  isplitl [H4]; · iexact H4
  iexact H5

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program: every array ends as the proof data say, every semaphore counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

end Cert.KernelIdeal.Hand

end
-- ==== Proof.Walk.lean ====
/- One ray's walk over the extended reals: what one step computes from a tetrahedron's row of the table, the ray's position
   and its direction. -/
module

public import Idealize.ShloMosaic.Lib.Pointwise

@[expose] public section

noncomputable section

namespace Cert.Walk

open Idealize Idealize.ShloMosaic

/-- A vector of three extended reals. -/
abbrev V3 : Type := Fin 3 → EReal

/-- The scalar product. -/
def dot (a b : V3) : EReal := a 0 * b 0 + a 1 * b 1 + a 2 * b 2

/-- The vector product. -/
def cross (a b : V3) : V3 := ![a 1 * b 2 - a 2 * b 1, a 2 * b 0 - a 0 * b 2, a 0 * b 1 - a 1 * b 0]

/-- The length. -/
def len (a : V3) : EReal := Ideal.sqrt (dot a a)

/-- A tetrahedron: the unit gradient and the offset, the four faces' normals and offsets. -/
structure Tet where
  n : V3
  a : EReal
  ml : Fin 4 → V3
  ql : Fin 4 → EReal

/-- The tetrahedron that a row of the table holds. -/
def tetOf (row : Fin 20 → EReal) : Tet where
  n := ![row 0, row 1, row 2]
  a := row 3
  ml f := ![row ⟨4 + f.val, by omega⟩, row ⟨8 + f.val, by omega⟩, row ⟨12 + f.val, by omega⟩]
  ql f := row ⟨16 + f.val, by omega⟩

variable (T : Tet) (p m : V3)

/-- The gradient's product with the unit normal of the plane that the ray bends in. -/
def nq : V3 := cross T.n fun i => Ideal.div (cross m T.n i) (len (cross m T.n))

/-- The centre of the ray's circle. -/
def centre : V3 := fun i => p i - (dot p T.n + T.a) * (T.n i - Ideal.div (dot m T.n * nq T m i) (dot m (nq T m)))

/-- The vector from the ray's position to the centre. -/
def arm : V3 := fun i => centre T p m i - p i

/-- The circle's radius. -/
def radius : EReal := len (arm T p m)

/-- The angle brought into one turn. -/
def turn (x : EReal) : EReal :=
  Scalar.select (IntOp.andi (IntOp.xori (BitVec.ofBool (decide (Ideal.remf x (Ideal.ofBits FTy.f32 1086918619#32) < 0)))
      (BitVec.ofBool (decide (Ideal.ofBits FTy.f32 1086918619#32 < 0)))) (BitVec.ofBool (decide (Ideal.remf x (Ideal.ofBits FTy.f32 1086918619#32) ≠ 0))))
    (Ideal.remf x (Ideal.ofBits FTy.f32 1086918619#32) + Ideal.ofBits FTy.f32 1086918619#32) (Ideal.remf x (Ideal.ofBits FTy.f32 1086918619#32))

/-- Twice the arctangent of a quotient, in one turn. -/
def twice (x y : EReal) : EReal := turn (Ideal.ofBits FTy.f32 1073741824#32 * Ideal.atan2 (Ideal.div x y) 1)

/-- The square root of the equation's discriminant. -/
def disc (c1 c2 c3 : EReal) : EReal := Ideal.sqrt (c1 * c1 + c2 * c2 - c3 * c3)

/-- The lesser of the two angles at which the circle meets a face's plane. -/
def meet (c1 c2 c3 : EReal) : EReal := min (twice (c2 + disc c1 c2 c3) (c1 - c3)) (twice (c2 - disc c1 c2 c3) (c1 - c3))

/-- The angle at which the circle meets face `f`'s plane. -/
def angle (f : Fin 4) : EReal :=
  meet (-dot (T.ml f) (arm T p m)) (radius T p m * dot (T.ml f) m) (dot (T.ml f) (centre T p m) + T.ql f)

/-- The least of the four. -/
def least (φ : Fin 4 → EReal) : EReal := Finset.fold min (Ideal.ofBits FTy.f32 2139095040#32) φ Finset.univ

/-- The first face that attains it. -/
def face (φ : Fin 4 → EReal) : BitVec 32 :=
  Finset.fold IntOp.minsi (2147483647#32) (fun x => if φ x = least φ then BitVec.ofNat 32 ↑x else 4#32) Finset.univ

/-- The angle that the ray is taken by: a hundredth beyond the face. -/
def beyond : EReal := least (angle T p m) + Ideal.div (least (angle T p m)) (Ideal.ofBits FTy.f32 1120403456#32)

/-- The ray's new position. -/
def pos' : V3 := fun i => centre T p m i - Ideal.cos (beyond T p m) * arm T p m i + radius T p m * Ideal.sin (beyond T p m) * m i

/-- The ray's new direction. -/
def dir' : V3 := fun i => Ideal.cos (beyond T p m) * m i + Ideal.div (Ideal.sin (beyond T p m)) (radius T p m) * arm T p m i

/-- How far apart the two positions are. -/
def gap : EReal := len fun i => p i - pos' T p m i

/-- An index as numpy counts it: a negative one from the end. -/
def wrap (w : BitVec 32) : BitVec 32 := Scalar.select (IntOp.cmpi CmpIPredicate.slt w 0#32) (IntOp.addi w 4096#32) w

/-- The row that a gather takes at such an index. -/
def rowOf (w : BitVec 32) : Fin 4096 := ⟨min (wrap w).toInt.toNat 4095, by omega⟩

end Cert.Walk

end
-- ==== Proof.IdealStep.lean ====
/- One trip of the kernel's walk, read at one ray: it is the step of Walk.lean from the row that the gather left. -/
module

public import proofs.«01_k».proof.Proof.IdealLoop
public import proofs.«01_k».proof.Proof.Walk

@[expose] public section

set_option maxRecDepth 8192
set_option maxHeartbeats 4000000

noncomputable section

namespace Cert.KernelIdeal.Hand

open Cert.KernelIdeal Cert.KernelIdeal.Gen
open Idealize Idealize.ShloMosaic Idealize.ShloMosaic.Pointwise
open Cert.Walk

section Values

variable {F : FTy → Type} [FloatOps F]

/-! ## The values of a trip, from what it carries and the gathered rows -/

def s1 (acc : Carry F) (g : FVec F S28x2048 .f32) := k0_pay7 g
def s2 (acc : Carry F) (g : FVec F S28x2048 .f32) := k0_pay8 g
def s3 (acc : Carry F) (g : FVec F S28x2048 .f32) := k0_pay9 g
def s4 (acc : Carry F) (g : FVec F S28x2048 .f32) := k0_pay10 g
def s5 (acc : Carry F) (g : FVec F S28x2048 .f32) := k0_pay18 acc.2.2.2.2.1 acc.2.2.2.2.2.1 acc.2.2.2.2.2.2.1 g
def s6 (acc : Carry F) (g : FVec F S28x2048 .f32) := k0_pay19 acc.2.2.2.2.1 acc.2.2.2.2.2.1 acc.2.2.2.2.2.2.1 g
def s7 (acc : Carry F) (g : FVec F S28x2048 .f32) := k0_pay20 acc.2.2.2.2.1 acc.2.2.2.2.2.1 acc.2.2.2.2.2.2.1 g
def s8 (acc : Carry F) (g : FVec F S28x2048 .f32) := k0_pay21 acc.2.2.2.2.1 acc.2.2.2.2.2.1 acc.2.2.2.2.2.2.1 g
def s9 (acc : Carry F) (g : FVec F S28x2048 .f32) := k0_pay22 acc.2.2.2.2.1 acc.2.2.2.2.2.1 acc.2.2.2.2.2.2.1 g
def s10 (acc : Carry F) (g : FVec F S28x2048 .f32) := k0_pay23 acc.2.1 acc.2.2.1 g
def s11 (acc : Carry F) (g : FVec F S28x2048 .f32) := k0_pay25 acc.2.1 acc.2.2.2.1 (s1 acc g) (s3 acc g) (s4 acc g) (s5 acc g) (s8 acc g) (s9 acc g) (s10 acc g)
def s12 (acc : Carry F) (g : FVec F S28x2048 .f32) := k0_pay26 acc.2.2.1 acc.2.2.2.1 (s2 acc g) (s3 acc g) (s4 acc g) (s6 acc g) (s8 acc g) (s9 acc g) (s10 acc g)
def s13 (acc : Carry F) (g : FVec F S28x2048 .f32) := k0_pay27 acc.2.2.2.1 (s3 acc g) (s4 acc g) (s7 acc g) (s8 acc g) (s9 acc g) (s10 acc g)
def s14 (acc : Carry F) (g : FVec F S28x2048 .f32) := k0_pay28 acc.2.1 acc.2.2.2.1 (s1 acc g) (s3 acc g) (s4 acc g) (s5 acc g) (s8 acc g) (s9 acc g) (s10 acc g)
def s15 (acc : Carry F) (g : FVec F S28x2048 .f32) := k0_pay29 acc.2.2.1 acc.2.2.2.1 (s2 acc g) (s3 acc g) (s4 acc g) (s6 acc g) (s8 acc g) (s9 acc g) (s10 acc g)
def s16 (acc : Carry F) (g : FVec F S28x2048 .f32) := k0_pay30 acc.2.2.2.1 (s3 acc g) (s4 acc g) (s7 acc g) (s8 acc g) (s9 acc g) (s10 acc g)
def s17 (acc : Carry F) (g : FVec F S28x2048 .f32) := k0_pay31 acc.2.1 acc.2.2.1 acc.2.2.2.1 (s1 acc g) (s2 acc g) (s3 acc g) (s4 acc g) (s5 acc g) (s6 acc g) (s7 acc g) (s8 acc g) (s9 acc g) (s10 acc g)
def s18 (acc : Carry F) (g : FVec F S28x2048 .f32) := k0_pay35 g
def s19 (acc : Carry F) (g : FVec F S28x2048 .f32) := k0_pay36 acc.2.1 acc.2.2.1 acc.2.2.2.1 g (s1 acc g) (s2 acc g) (s3 acc g) (s4 acc g) (s5 acc g) (s6 acc g) (s7 acc g) (s8 acc g) (s9 acc g) (s10 acc g)
def s20 (acc : Carry F) (g : FVec F S28x2048 .f32) := k0_pay37 acc.2.1 acc.2.2.1 acc.2.2.2.1 acc.2.2.2.2.1 acc.2.2.2.2.2.1 acc.2.2.2.2.2.2.1 g (s1 acc g) (s2 acc g) (s3 acc g) (s4 acc g) (s5 acc g) (s6 acc g) (s7 acc g) (s8 acc g) (s9 acc g) (s10 acc g)
def s21 (acc : Carry F) (g : FVec F S28x2048 .f32) := k0_pay38 acc.2.1 acc.2.2.1 acc.2.2.2.1 g (s1 acc g) (s2 acc g) (s3 acc g) (s4 acc g) (s5 acc g) (s6 acc g) (s7 acc g) (s8 acc g) (s9 acc g) (s10 acc g)
def s22 (acc : Carry F) (g : FVec F S28x2048 .f32) := k0_pay41 (s18 acc g) (s19 acc g) (s20 acc g) (s21 acc g)
def s23 (acc : Carry F) (g : FVec F S28x2048 .f32) := k0_pay42 (s18 acc g) (s19 acc g) (s20 acc g) (s21 acc g)
def s24 (acc : Carry F) (g : FVec F S28x2048 .f32) := k0_pay45 acc.2.2.2.2.1 (s11 acc g) (s14 acc g) (s17 acc g) (s23 acc g)
def s25 (acc : Carry F) (g : FVec F S28x2048 .f32) := k0_pay46 acc.2.2.2.2.2.1 (s12 acc g) (s15 acc g) (s17 acc g) (s23 acc g)
def s26 (acc : Carry F) (g : FVec F S28x2048 .f32) := k0_pay47 acc.2.2.2.2.2.2.1 (s13 acc g) (s16 acc g) (s17 acc g) (s23 acc g)
def s27 (acc : Carry F) (g : FVec F S28x2048 .f32) := k0_pay48 acc.2.2.2.2.1 (s14 acc g) (s17 acc g) (s23 acc g)
def s28 (acc : Carry F) (g : FVec F S28x2048 .f32) := k0_pay49 acc.2.2.2.2.2.1 (s15 acc g) (s17 acc g) (s23 acc g)
def s29 (acc : Carry F) (g : FVec F S28x2048 .f32) := k0_pay50 acc.2.2.2.2.2.2.1 (s16 acc g) (s17 acc g) (s23 acc g)
def s30 (acc : Carry F) (g : FVec F S28x2048 .f32) := k0_pay51 acc.1 g (iota Kind.tc S4x2048 32 [0] iota_S4x2048_d0_w32) (s22 acc g)
def s31 (acc : Carry F) (g : FVec F S28x2048 .f32) := k0_pay52 acc.2.1 acc.2.2.1 acc.2.2.2.1 acc.2.2.2.2.1 acc.2.2.2.2.2.1 acc.2.2.2.2.2.2.1 acc.2.2.2.2.2.2.2 (s11 acc g) (s12 acc g) (s13 acc g) (s14 acc g) (s15 acc g) (s16 acc g) (s17 acc g) (s23 acc g)

/-- What the trip yields. -/
def stepOut (acc : Carry F) (g : FVec F S28x2048 .f32) : Carry F :=
  (s30 acc g, s24 acc g, s25 acc g, s26 acc g, s27 acc g, s28 acc g, s29 acc g, s31 acc g)

/-- A trip yields that, from the rows that its own loop gathers. -/
theorem trip2_eq (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 : FVec F S1x2048 .f32) (v3 : FVec F S1x2048 .f32) (v5 : FVec F S1x2048 .f32) (v12 : IVec S1x2048 32) (v28 : FVec F S1x2048 .f32) (v29 : FVec F S1x2048 .f32) (v30 : FVec F S1x2048 .f32) (cst_15 : F .f32) (X3 : BufTy.Contents (Elt F) arg3.view.ty) (k : Fin k0_t2_loop.trips) (acc : Carry F) :
    (trip2 (F := F) c arg0 harg0 arg1 harg1 arg2 harg2 arg3 harg3 arg4 harg4 arg5 harg5 arg6 harg6 arg7 harg7 arg8 harg8 arg9 harg9 v1 v3 v5 v12 v28 v29 v30 cst_15 X3 k).2.2.2.2.1 acc = stepOut acc (trip2.sl.r c arg0 harg0 arg1 harg1 arg2 harg2 arg3 harg3 arg4 harg4 arg5 harg5 arg6 harg6 arg7 harg7 arg8 harg8 arg9 harg9 X3 k acc) := by
  unfold trip2; rfl

end Values

/-! ## The values at ray `r` -/

variable (acc : Carry Ideal) (g : FVec Ideal S28x2048 .f32) (r : Fin 2048)

/-- The position that ray `r` carries. -/
def kpos : V3 := ![acc.2.1 (ix2 0 r), acc.2.2.1 (ix2 0 r), acc.2.2.2.1 (ix2 0 r)]

/-- The direction that ray `r` carries. -/
def kdir : V3 := ![acc.2.2.2.2.1 (ix2 0 r), acc.2.2.2.2.2.1 (ix2 0 r), acc.2.2.2.2.2.2.1 (ix2 0 r)]

/-- The tetrahedron whose row was gathered for ray `r`. -/
def ktet : Tet := tetOf fun i => g (ix2 ⟨i.val, by omega⟩ r)

theorem s5_at : s5 acc g (ix2 0 r) = nq (ktet g r) (kdir acc r) 0 := by
  pointwise [s5, k0_pay18, k0_pay17, k0_pay16, k0_pay15, k0_pay14, k0_pay13, k0_pay12, k0_pay11, k0_pay9, k0_pay8, k0_pay7]
  rfl

theorem s6_at : s6 acc g (ix2 0 r) = nq (ktet g r) (kdir acc r) 1 := by
  pointwise [s6, k0_pay19, k0_pay17, k0_pay16, k0_pay15, k0_pay14, k0_pay13, k0_pay12, k0_pay11, k0_pay9, k0_pay8, k0_pay7]
  rfl

theorem s7_at : s7 acc g (ix2 0 r) = nq (ktet g r) (kdir acc r) 2 := by
  pointwise [s7, k0_pay20, k0_pay17, k0_pay16, k0_pay15, k0_pay14, k0_pay13, k0_pay12, k0_pay11, k0_pay9, k0_pay8, k0_pay7]
  rfl

theorem s8_at : s8 acc g (ix2 0 r) = dot (kdir acc r) (ktet g r).n := by
  pointwise [s8, k0_pay21, k0_pay9, k0_pay8, k0_pay7]
  rfl

theorem s9_at : s9 acc g (ix2 0 r) = dot (kdir acc r) (nq (ktet g r) (kdir acc r)) := by
  have h5 := s5_at acc g r; have h6 := s6_at acc g r; have h7 := s7_at acc g r
  unfold s5 at h5; unfold s6 at h6; unfold s7 at h7
  pointwise [s9, k0_pay22]
  rw [h5, h6, h7]; rfl

theorem s11_at : s11 acc g (ix2 0 r) = centre (ktet g r) (kpos acc r) (kdir acc r) 0 := by
  pointwise [s11, k0_pay25, k0_pay24]
  rw [s5_at, s8_at, s9_at]
  pointwise [s1, s3, s4, s10, k0_pay23, k0_pay10, k0_pay9, k0_pay8, k0_pay7]
  rfl

theorem s12_at : s12 acc g (ix2 0 r) = centre (ktet g r) (kpos acc r) (kdir acc r) 1 := by
  pointwise [s12, k0_pay26, k0_pay24]
  rw [s6_at, s8_at, s9_at]
  pointwise [s2, s3, s4, s10, k0_pay23, k0_pay10, k0_pay9, k0_pay8, k0_pay7]
  rfl

theorem s13_at : s13 acc g (ix2 0 r) = centre (ktet g r) (kpos acc r) (kdir acc r) 2 := by
  pointwise [s13, k0_pay27, k0_pay24]
  rw [s7_at, s8_at, s9_at]
  pointwise [s3, s4, s10, k0_pay23, k0_pay10, k0_pay9, k0_pay8, k0_pay7]
  rfl

theorem s14_at : s14 acc g (ix2 0 r) = arm (ktet g r) (kpos acc r) (kdir acc r) 0 := by
  show s11 acc g (ix2 0 r) - acc.2.1 (ix2 0 r) = _
  rw [s11_at]; rfl

theorem s15_at : s15 acc g (ix2 0 r) = arm (ktet g r) (kpos acc r) (kdir acc r) 1 := by
  show s12 acc g (ix2 0 r) - acc.2.2.1 (ix2 0 r) = _
  rw [s12_at]; rfl

theorem s16_at : s16 acc g (ix2 0 r) = arm (ktet g r) (kpos acc r) (kdir acc r) 2 := by
  show s13 acc g (ix2 0 r) - acc.2.2.2.1 (ix2 0 r) = _
  rw [s13_at]; rfl

theorem s17_at : s17 acc g (ix2 0 r) = radius (ktet g r) (kpos acc r) (kdir acc r) := by
  show Ideal.sqrt (s14 acc g (ix2 0 r) * s14 acc g (ix2 0 r) + s15 acc g (ix2 0 r) * s15 acc g (ix2 0 r) + s16 acc g (ix2 0 r) * s16 acc g (ix2 0 r)) = _
  rw [s14_at, s15_at, s16_at]; rfl

variable (f : Fin 4)

/-- A face's normal, gathered component by component. -/
theorem ml_at : k0_pay32 g (ix2 f r) = (ktet g r).ml f 0 ∧ k0_pay33 g (ix2 f r) = (ktet g r).ml f 1 ∧ k0_pay34 g (ix2 f r) = (ktet g r).ml f 2 := by
  refine ⟨?_, ?_, ?_⟩
  · pointwise [k0_pay32]; rfl
  · pointwise [k0_pay33]; rfl
  · pointwise [k0_pay34]; rfl

theorem s18_at : s18 acc g (ix2 f r) = (ktet g r).ql f := by
  pointwise [s18, k0_pay35]; rfl

theorem s19_at : s19 acc g (ix2 f r) = -dot ((ktet g r).ml f) (arm (ktet g r) (kpos acc r) (kdir acc r)) := by
  obtain ⟨e0, e1, e2⟩ := ml_at g r f
  have h0 := s14_at acc g r; have h1 := s15_at acc g r; have h2 := s16_at acc g r
  unfold s14 at h0; unfold s15 at h1; unfold s16 at h2
  pointwise [s19, k0_pay36]
  rw [h0, h1, h2, e0, e1, e2, zero_sub]; rfl

theorem s20_at : s20 acc g (ix2 f r) = radius (ktet g r) (kpos acc r) (kdir acc r) * dot ((ktet g r).ml f) (kdir acc r) := by
  obtain ⟨e0, e1, e2⟩ := ml_at g r f
  have h := s17_at acc g r
  unfold s17 at h
  pointwise [s20, k0_pay37]
  rw [h, e0, e1, e2]; rfl

theorem s21_at : s21 acc g (ix2 f r) = dot ((ktet g r).ml f) (centre (ktet g r) (kpos acc r) (kdir acc r)) := by
  obtain ⟨e0, e1, e2⟩ := ml_at g r f
  have h0 := s11_at acc g r; have h1 := s12_at acc g r; have h2 := s13_at acc g r
  unfold s11 at h0; unfold s12 at h1; unfold s13 at h2
  pointwise [s21, k0_pay38]
  rw [h0, h1, h2, e0, e1, e2]; rfl

/-- The lesser angle from the equation's coefficients. -/
theorem pay39_at (v838 v848 v858 v866 : FVec Ideal S4x2048 .f32) :
    k0_pay39 v838 v848 v858 v866 (ix2 f r) = meet (v848 (ix2 f r)) (v858 (ix2 f r)) (v866 (ix2 f r) + v838 (ix2 f r)) := by
  pointwise [k0_pay39]
  exact if_neg fun h => h rfl

theorem angle_at : k0_pay39 (s18 acc g) (s19 acc g) (s20 acc g) (s21 acc g) (ix2 f r) = angle (ktet g r) (kpos acc r) (kdir acc r) f := by
  rw [pay39_at, s18_at, s19_at, s20_at, s21_at]; rfl

theorem least_at : k0_pay40 (s18 acc g) (s19 acc g) (s20 acc g) (s21 acc g) (ix2 0 r) = least (angle (ktet g r) (kpos acc r) (kdir acc r)) := by
  pointwise [k0_pay40]
  unfold least
  exact congrArg (fun φ => Finset.fold min _ φ Finset.univ) (funext fun f => angle_at acc g r f)

theorem s22_at : s22 acc g (ix2 0 r) = face (angle (ktet g r) (kpos acc r) (kdir acc r)) := by
  pointwise [s22, k0_pay41]
  unfold face
  refine congrArg (fun φ => Finset.fold IntOp.minsi _ φ Finset.univ) (funext fun f => ?_)
  rw [angle_at acc g r f, least_at]

theorem s23_at : s23 acc g (ix2 0 r) = beyond (ktet g r) (kpos acc r) (kdir acc r) := by
  pointwise [s23, k0_pay42]
  rw [least_at]; rfl

theorem s24_at : s24 acc g (ix2 0 r) = pos' (ktet g r) (kpos acc r) (kdir acc r) 0 := by
  pointwise [s24, k0_pay45, k0_pay43, k0_pay44]
  rw [s23_at, s11_at, s14_at, s17_at]; rfl

theorem s25_at : s25 acc g (ix2 0 r) = pos' (ktet g r) (kpos acc r) (kdir acc r) 1 := by
  pointwise [s25, k0_pay46, k0_pay43, k0_pay44]
  rw [s23_at, s12_at, s15_at, s17_at]; rfl

theorem s26_at : s26 acc g (ix2 0 r) = pos' (ktet g r) (kpos acc r) (kdir acc r) 2 := by
  pointwise [s26, k0_pay47, k0_pay43, k0_pay44]
  rw [s23_at, s13_at, s16_at, s17_at]; rfl

theorem s27_at : s27 acc g (ix2 0 r) = dir' (ktet g r) (kpos acc r) (kdir acc r) 0 := by
  pointwise [s27, k0_pay48, k0_pay43, k0_pay44]
  rw [s23_at, s14_at, s17_at]; rfl

theorem s28_at : s28 acc g (ix2 0 r) = dir' (ktet g r) (kpos acc r) (kdir acc r) 1 := by
  pointwise [s28, k0_pay49, k0_pay43, k0_pay44]
  rw [s23_at, s15_at, s17_at]; rfl

theorem s29_at : s29 acc g (ix2 0 r) = dir' (ktet g r) (kpos acc r) (kdir acc r) 2 := by
  pointwise [s29, k0_pay50, k0_pay43, k0_pay44]
  rw [s23_at, s16_at, s17_at]; rfl

theorem s31_at : s31 acc g (ix2 0 r) = acc.2.2.2.2.2.2.2 (ix2 0 r) + gap (ktet g r) (kpos acc r) (kdir acc r) := by
  have h0 := s24_at acc g r; have h1 := s25_at acc g r; have h2 := s26_at acc g r
  unfold s24 at h0; unfold s25 at h1; unfold s26 at h2
  pointwise [s31, k0_pay52]
  rw [h0, h1, h2]; rfl

/-- The word of the next tetrahedron's index. -/
theorem s30_at : s30 acc g (ix2 0 r) = FloatOps.fptosi 32
      (Scalar.select (IntOp.cmpi CmpIPredicate.slt (acc.1 (ix2 0 r)) 0#32)
        (∑ x : Fin 4, FloatOps.sitofp FTy.f32 (BitVec.setWidth 32 (IntOp.cmpi CmpIPredicate.eq (BitVec.ofNat 32 ↑x) (face (angle (ktet g r) (kpos acc r) (kdir acc r))))) * g (ix2 ⟨24 + ↑x, by omega⟩ r) : Ideal .f32)
        (∑ x : Fin 4, FloatOps.sitofp FTy.f32 (BitVec.setWidth 32 (IntOp.cmpi CmpIPredicate.eq (BitVec.ofNat 32 ↑x) (face (angle (ktet g r) (kpos acc r) (kdir acc r))))) * g (ix2 ⟨20 + ↑x, by omega⟩ r) : Ideal .f32)) := by
  have h := s22_at acc g r
  pointwise [s30, k0_pay51]
  rw [h]

/-- The position after the step. -/
theorem kpos_stepOut : kpos (stepOut acc g) r = pos' (ktet g r) (kpos acc r) (kdir acc r) := by
  unfold kpos stepOut; dsimp only; rw [s24_at, s25_at, s26_at]
  funext i; fin_cases i <;> rfl

/-- The direction after the step. -/
theorem kdir_stepOut : kdir (stepOut acc g) r = dir' (ktet g r) (kpos acc r) (kdir acc r) := by
  unfold kdir stepOut; dsimp only; rw [s27_at, s28_at, s29_at]
  funext i; fin_cases i <;> rfl

end Cert.KernelIdeal.Hand

end
-- ==== Proof.Face.lean ====
/- The first face of least angle is one of the four. -/
module

public import proofs.«01_k».proof.Proof.Walk

@[expose] public section

set_option maxRecDepth 8192

noncomputable section

namespace Cert.Walk

open Idealize Idealize.ShloMosaic

variable (φ : Fin 4 → EReal)

theorem least_eq : least φ = min (φ 0) (min (φ 1) (min (φ 2) (φ 3))) := by
  unfold least
  rw [show Ideal.ofBits FTy.f32 2139095040#32 = (⊤ : EReal) by simp [Ideal.ofBits, Ideal.ieee], show (Finset.univ : Finset (Fin 4)) = {0, 1, 2, 3} from rfl]
  rw [Finset.fold_insert (by decide), Finset.fold_insert (by decide), Finset.fold_insert (by decide), Finset.fold_singleton, min_top_right]

/-- The least of four is one of the four. -/
theorem least_mem : φ 0 = least φ ∨ φ 1 = least φ ∨ φ 2 = least φ ∨ φ 3 = least φ := by
  rw [least_eq]
  rcases min_choice (φ 2) (φ 3) with h2 | h2 <;> rw [h2] <;>
  [rcases min_choice (φ 1) (φ 2) with h1 | h1; rcases min_choice (φ 1) (φ 3) with h1 | h1] <;> rw [h1] <;>
  [rcases min_choice (φ 0) (φ 1) with h0 | h0; rcases min_choice (φ 0) (φ 2) with h0 | h0; rcases min_choice (φ 0) (φ 1) with h0 | h0; rcases min_choice (φ 0) (φ 3) with h0 | h0] <;> rw [h0] <;> simp

/-- The face is one of the four. -/
theorem face_mem : ∃ f : Fin 4, face φ = BitVec.ofNat 32 f.val := by
  have e : face φ = IntOp.minsi (if φ 0 = least φ then 0#32 else 4#32) (IntOp.minsi (if φ 1 = least φ then 1#32 else 4#32)
      (IntOp.minsi (if φ 2 = least φ then 2#32 else 4#32) (IntOp.minsi (if φ 3 = least φ then 3#32 else 4#32) 2147483647#32))) := by
    unfold face
    rw [show (Finset.univ : Finset (Fin 4)) = {0, 1, 2, 3} from rfl]
    rw [Finset.fold_insert (by decide), Finset.fold_insert (by decide), Finset.fold_insert (by decide), Finset.fold_singleton]
    rfl
  rw [e]
  have h := least_mem φ
  by_cases h0 : φ 0 = least φ <;> by_cases h1 : φ 1 = least φ <;> by_cases h2 : φ 2 = least φ <;> by_cases h3 : φ 3 = least φ <;>
    simp only [h0, h1, h2, h3, if_true, if_false] at h ⊢ <;> first | decide | simp at h

end Cert.Walk

end
-- ==== Proof.Path.lean ====
/- A ray's path through the tables: the step of Walk.lean, repeated. -/
module

public import proofs.«01_k».proof.Proof.Face

@[expose] public section

set_option maxRecDepth 8192

noncomputable section

namespace Cert.Walk

open Idealize Idealize.ShloMosaic

/-- The mesh: the tetrahedra and, for each face, what lies behind it, on the walk and on a first hit. -/
structure Mesh where
  tet : Fin 4096 → Tet
  next : Fin 4096 → Fin 4 → BitVec 32
  first : Fin 4096 → Fin 4 → BitVec 32

/-- A ray on its walk. -/
structure Ray where
  word : BitVec 32
  pos : V3
  dir : V3

variable (T : Mesh) (s : Ray)

/-- The tetrahedron that the ray is in. -/
def Ray.tet : Tet := T.tet (rowOf s.word)

/-- The angles at which the ray meets the four faces. -/
def Ray.angles : Fin 4 → EReal := angle (s.tet T) s.pos s.dir

/-- The number of the face through which it leaves. -/
def Ray.exit : Fin 4 := ⟨(face (s.angles T)).toNat % 4, by omega⟩

theorem exit_spec : face (s.angles T) = BitVec.ofNat 32 (s.exit T).val := by
  obtain ⟨f, hf⟩ := face_mem (s.angles T)
  have e : s.exit T = f := Fin.ext (by
    show (face (s.angles T)).toNat % 4 = f.val
    rw [hf, BitVec.toNat_ofNat]; omega)
  rw [e]; exact hf

/-- The step. -/
def Ray.step : Ray where
  word := Scalar.select (IntOp.cmpi CmpIPredicate.slt s.word 0#32) (T.first (rowOf s.word) (s.exit T)) (T.next (rowOf s.word) (s.exit T))
  pos := pos' (s.tet T) s.pos s.dir
  dir := dir' (s.tet T) s.pos s.dir

/-- The length of the step. -/
def Ray.gap : EReal := Walk.gap (s.tet T) s.pos s.dir

/-- The walk. -/
def path : ℕ → Ray
  | 0 => s
  | k + 1 => (path k).step T

/-- How far the ray has come. -/
def dist : ℕ → EReal
  | 0 => 0
  | k + 1 => dist k + (path T s k).gap T

/-- An index that a gather reads as it stands: minus one, for the last row, or a row's number. -/
def InRange (w : BitVec 32) : Prop := w = 4294967295#32 ∨ ∃ n : Fin 4096, w = BitVec.ofNat 32 n.val

/-- A mesh whose every entry names a tetrahedron. -/
def Mesh.Ok : Prop := (∀ j f, ∃ n : Fin 4096, T.next j f = BitVec.ofNat 32 n.val) ∧ ∀ j f, ∃ n : Fin 4096, T.first j f = BitVec.ofNat 32 n.val

theorem toInt_word (n : ℕ) (h : n < 2 ^ 31) : (BitVec.ofNat 32 n).toInt = n := by
  rw [BitVec.toInt_ofNat', Int.bmod_eq_of_le (by omega) (by omega)]

theorem slt_word (n : ℕ) (h : n < 2 ^ 31) : IntOp.cmpi CmpIPredicate.slt (BitVec.ofNat 32 n) 0#32 = 0#1 := by
  show BitVec.ofBool ((BitVec.ofNat 32 n).slt 0#32) = _
  rw [BitVec.slt_eq_decide, toInt_word n h]
  exact congrArg BitVec.ofBool (decide_eq_false (by simp))

theorem wrap_eq {w : BitVec 32} (h : InRange w) : wrap w = BitVec.ofNat 32 (rowOf w).val := by
  rcases h with rfl | ⟨n, rfl⟩
  · decide
  · have e : wrap (BitVec.ofNat 32 n.val) = BitVec.ofNat 32 n.val := by
      unfold wrap
      rw [slt_word _ (by omega)]; rfl
    unfold rowOf
    simp only [e, toInt_word n.val (by omega)]
    congr 1
    omega

theorem step_inRange (hT : T.Ok) : InRange (s.step T).word := by
  refine .inr ?_
  show ∃ n : Fin 4096, Scalar.select _ _ _ = _
  rcases (by decide : ∀ b : BitVec 1, b = 0#1 ∨ b = 1#1) (IntOp.cmpi CmpIPredicate.slt s.word 0#32) with e | e <;> rw [e]
  · exact hT.1 _ _
  · exact hT.2 _ _

theorem path_inRange (hT : T.Ok) (hs : InRange s.word) : ∀ k, InRange (path T s k).word
  | 0 => hs
  | k + 1 => step_inRange T _ hT

end Cert.Walk

end
-- ==== Proof.Gather.lean ====
/- The kernel's gather, read at one ray: the loop of products with a one-hot matrix leaves the table's column at the ray's index. -/
module

public import proofs.«01_k».proof.Proof.IdealStep
public import proofs.«01_k».proof.Proof.Path
public import Idealize.ShloMosaic.Lib.Pipeline.FrameBody

@[expose] public section

set_option maxRecDepth 8192
set_option maxHeartbeats 4000000

noncomputable section

namespace Cert.KernelIdeal.Hand

open Cert.KernelIdeal Cert.KernelIdeal.Gen
open Idealize Idealize.ShloMosaic Idealize.ShloMosaic.Pointwise
open Cert.Walk

/-- A word read as a number is itself when small. -/
theorem ofNat_small {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- One entry of a one-hot vector: one where the two words agree. -/
theorem hot {a b : ℕ} (ha : a < 2 ^ 32) (hb : b < 2 ^ 32) :
    FloatOps.sitofp (F := Ideal) FTy.f32 (BitVec.setWidth 32 (IntOp.cmpi CmpIPredicate.eq (BitVec.ofNat 32 a) (BitVec.ofNat 32 b))) = if a = b then (1 : EReal) else 0 := by
  by_cases e : a = b
  · subst e
    rw [if_pos rfl, show IntOp.cmpi CmpIPredicate.eq (BitVec.ofNat 32 a) (BitVec.ofNat 32 a) = 1#1 from congrArg BitVec.ofBool (beq_self_eq_true _)]
    show (((BitVec.setWidth 32 1#1).toInt : ℝ) : EReal) = 1
    rw [show (BitVec.setWidth 32 1#1).toInt = 1 from by decide]; norm_num
  · have n : (BitVec.ofNat 32 a == BitVec.ofNat 32 b) = false := beq_eq_false_iff_ne.2 fun h => e (ofNat_small ha hb h)
    rw [if_neg e, show IntOp.cmpi CmpIPredicate.eq (BitVec.ofNat 32 a) (BitVec.ofNat 32 b) = 0#1 from congrArg BitVec.ofBool n]
    show (((BitVec.setWidth 32 0#1).toInt : ℝ) : EReal) = 0
    rw [show (BitVec.setWidth 32 0#1).toInt = 0 from by decide]; norm_num

/-- The word of column `x` of chunk `k`. -/
theorem col_word (x k : ℕ) : IntOp.addi (BitVec.ofNat 32 x) (Scalar.muli (Scf.iv 0#32 1#32 k) 512#32) = BitVec.ofNat 32 (x + 512 * k) := by
  show BitVec.ofNat 32 x + (0#32 + BitVec.ofNat 32 k * 1#32) * 512#32 = _
  rw [BitVec.mul_one, BitVec.zero_add, ← BitVec.ofNat_mul, ← BitVec.ofNat_add, Nat.mul_comm]

/-- One chunk's product with its one-hot column: the entry at the index, if the chunk has it. -/
theorem hot_sum (y : Fin 512 → EReal) (n k : ℕ) (hn : n < 4096) (hk : k < 8) :
    (∑ x : Fin 512, y x * FloatOps.sitofp (F := Ideal) FTy.f32 (BitVec.setWidth 32 (IntOp.cmpi CmpIPredicate.eq
      (IntOp.addi (BitVec.ofNat 32 ↑x) (Scalar.muli (Scf.iv 0#32 1#32 k) 512#32)) (BitVec.ofNat 32 n))))
      = if h : 512 * k ≤ n ∧ n < 512 * k + 512 then y ⟨n - 512 * k, by omega⟩ else 0 := by
  have e : ∀ x : Fin 512, y x * FloatOps.sitofp (F := Ideal) FTy.f32 (BitVec.setWidth 32 (IntOp.cmpi CmpIPredicate.eq
      (IntOp.addi (BitVec.ofNat 32 ↑x) (Scalar.muli (Scf.iv 0#32 1#32 k) 512#32)) (BitVec.ofNat 32 n))) = if x.val + 512 * k = n then y x else 0 := fun x => by
    rw [col_word, hot (by omega) (by omega), mul_ite, mul_one, mul_zero]
  rw [Finset.sum_congr rfl fun x _ => e x]
  by_cases h : 512 * k ≤ n ∧ n < 512 * k + 512
  · rw [dif_pos h, Finset.sum_eq_single (⟨n - 512 * k, by omega⟩ : Fin 512) (fun b _ hb => if_neg fun hh => hb (Fin.ext (by show b.val = n - 512 * k; omega))) (fun hh => absurd (Finset.mem_univ _) hh)]
    exact if_pos (by show n - 512 * k + 512 * k = n; omega)
  · rw [dif_neg h]
    exact Finset.sum_eq_zero fun x _ => if_neg fun hh => h (by omega)

theorem trips3 : k0_t3_loop.trips = 8 := by decide +kernel

theorem off2_eq (k : Fin k0_t3_loop.trips) : k0_off2 k = ![0, 512 * k.val] := by
  exact (by decide +kernel : ∀ k : Fin k0_t3_loop.trips, k0_off2 k = ![0, 512 * k.val]) k

/-- The gather's result at row `i`, ray `r` after `k` chunks. -/
theorem gather_upto (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (idx : IVec S1x2048 32) (x y mx my mz : FVec Ideal S1x2048 .f32) (k2 : Fin k0_t2_loop.trips)
    (X3 : BufTy.Contents (Elt Ideal) arg3.view.ty) (r : Fin 2048) (i : Fin 28) (n : Fin 4096) (hn : wrap (idx (ix2 0 r)) = BitVec.ofNat 32 n.val) :
    ∀ k ≤ 8, (st_k0_t3 (F := Ideal) Variants.none c none arg0 harg0 arg1 harg1 arg2 harg2 arg3 harg3 arg4 harg4 arg5 harg5 arg6 harg6 arg7 harg7 arg8 harg8 arg9 harg9 0#32 1#32 k2 idx x y mx my mz X3 k0_pay5 k (ix2 i r) : EReal)
      = if n.val < 512 * k then (arg3.view.read (Elt Ideal) X3 (ix2 i n) : EReal) else 0
  | 0, _ => by
    rw [if_neg (by omega), show st_k0_t3 (F := Ideal) Variants.none c none arg0 harg0 arg1 harg1 arg2 harg2 arg3 harg3 arg4 harg4 arg5 harg5 arg6 harg6 arg7 harg7 arg8 harg8 arg9 harg9 0#32 1#32 k2 idx x y mx my mz X3 k0_pay5 0 = k0_pay5 from rfl]
    pointwise [k0_pay5]
  | k + 1, hk => by
    have hk' : k < k0_t3_loop.trips := by rw [trips3]; omega
    have ih := gather_upto c arg0 harg0 arg1 harg1 arg2 harg2 arg3 harg3 arg4 harg4 arg5 harg5 arg6 harg6 arg7 harg7 arg8 harg8 arg9 harg9 idx x y mx my mz k2 X3 r i n hn k (by omega)
    rw [st_k0_t3_succ (F := Ideal) Variants.none c none arg0 harg0 arg1 harg1 arg2 harg2 arg3 harg3 arg4 harg4 arg5 harg5 arg6 harg6 arg7 harg7 arg8 harg8 arg9 harg9 0#32 1#32 k2 idx x y mx my mz X3 k0_pay5 ⟨k, hk'⟩]
    unfold tripR_k0_t3 trip_k0_t3
    dsimp only
    pointwise [k0_pay6]
    rw [ih]
    rw [show Scalar.select (IntOp.cmpi CmpIPredicate.slt (idx (ix2 0 r)) 0#32) (IntOp.addi (idx (ix2 0 r)) 4096#32) (idx (ix2 0 r)) = BitVec.ofNat 32 n.val from hn]
    rw [hot_sum _ n.val k n.isLt (by omega)]
    by_cases h : 512 * k ≤ n.val ∧ n.val < 512 * k + 512
    · rw [dif_pos h, if_neg (by omega), if_pos (by omega), zero_add]
      refine congrArg (arg3.view.read (Elt Ideal) X3) (funext fun a => Fin.ext ?_)
      fin_cases a
      · show k0_off2 ⟨k, hk'⟩ 0 + 1 * i.val = i.val
        rw [off2_eq]; show 0 + 1 * i.val = i.val; omega
      · show k0_off2 ⟨k, hk'⟩ 1 + 1 * (n.val - 512 * k) = n.val
        rw [off2_eq]; show 512 * k + 1 * (n.val - 512 * k) = n.val; omega
    · rw [dif_neg h, add_zero]
      by_cases h2 : n.val < 512 * k
      · rw [if_pos h2, if_pos (by omega)]
      · rw [if_neg h2, if_neg (by omega)]

/-- What a trip gathers for ray `r`: the table's column at its index. -/
theorem gather_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (X3 : BufTy.Contents (Elt Ideal) arg3.view.ty) (k2 : Fin k0_t2_loop.trips) (acc : Carry Ideal) (r : Fin 2048) (i : Fin 28)
    (n : Fin 4096) (hn : wrap (acc.1 (ix2 0 r)) = BitVec.ofNat 32 n.val) :
    (trip2.sl.r c arg0 harg0 arg1 harg1 arg2 harg2 arg3 harg3 arg4 harg4 arg5 harg5 arg6 harg6 arg7 harg7 arg8 harg8 arg9 harg9 X3 k2 acc (ix2 i r) : EReal) = arg3.view.read (Elt Ideal) X3 (ix2 i n) := by
  refine (gather_upto c arg0 harg0 arg1 harg1 arg2 harg2 arg3 harg3 arg4 harg4 arg5 harg5 arg6 harg6 arg7 harg7 arg8 harg8 arg9 harg9 acc.1 acc.2.1 acc.2.2.1 acc.2.2.2.2.1 acc.2.2.2.2.2.1 acc.2.2.2.2.2.2.1 k2 X3 r i n hn 8 (le_refl _)).trans ?_
  rw [if_pos (by omega)]

/-! ## The walk -/

/-- An integer made a float and read back is itself. -/
theorem fptosi_sitofp (w : BitVec 32) : (FloatOps.fptosi 32 (FloatOps.sitofp (F := Ideal) FTy.f32 w) : BitVec 32) = w := by
  show BitVec.ofInt 32 (Ideal.toIntClamped (-(2 ^ (32 - 1) : Nat)) ((2 ^ (32 - 1) : Nat) - 1) ((w.toInt : ℝ) : EReal)) = w
  have h1 := w.toInt_lt; have h2 := w.le_toInt
  have e : Ideal.toIntClamped (-(2 ^ (32 - 1) : Nat)) ((2 ^ (32 - 1) : Nat) - 1) ((w.toInt : ℝ) : EReal)
      = max (-(2 ^ (32 - 1) : Nat) : Int) (min ((2 ^ (32 - 1) : Nat) - 1) (if (0 : ℝ) ≤ (w.toInt : ℝ) then ⌊(w.toInt : ℝ)⌋ else ⌈(w.toInt : ℝ)⌉)) := rfl
  rw [e, Int.floor_intCast, Int.ceil_intCast, ite_self, min_eq_right (by omega), max_eq_right (by omega), BitVec.ofInt_toInt]

/-- The entry that a one-hot vector of four picks. -/
theorem hot4 (f : Fin 4) (y : Fin 4 → EReal) :
    (∑ x : Fin 4, FloatOps.sitofp (F := Ideal) FTy.f32 (BitVec.setWidth 32 (IntOp.cmpi CmpIPredicate.eq (BitVec.ofNat 32 ↑x) (BitVec.ofNat 32 f.val))) * y x : EReal) = y f := by
  rw [Finset.sum_congr rfl fun x _ => show _ = if x = f then y x else 0 by
    rw [hot (by omega) (by omega)]; by_cases e : x = f
    · subst e; rw [if_pos rfl, if_pos rfl, one_mul]
    · rw [if_neg fun h => e (Fin.ext h), if_neg e, zero_mul]]
  rw [Finset.sum_ite_eq' Finset.univ f y, if_pos (Finset.mem_univ _)]

/-- Ray `r` as a trip carries it. -/
def kray (acc : Carry Ideal) (r : Fin 2048) : Ray := ⟨acc.1 (ix2 0 r), kpos acc r, kdir acc r⟩

/-- The kernel's table holds the mesh. -/
structure Holds (tab : Vec Ideal S28x4096 .f32) (T : Mesh) : Prop where
  tet : ∀ j, tetOf (fun i => tab (ix2 ⟨i.val, by omega⟩ j)) = T.tet j
  next : ∀ j (f : Fin 4), (tab (ix2 ⟨20 + f.val, by omega⟩ j) : EReal) = FloatOps.sitofp (F := Ideal) FTy.f32 (T.next j f)
  first : ∀ j (f : Fin 4), (tab (ix2 ⟨24 + f.val, by omega⟩ j) : EReal) = FloatOps.sitofp (F := Ideal) FTy.f32 (T.first j f)

section Trip

variable {tab : Vec Ideal S28x4096 .f32} {T : Mesh} (hT : Holds tab T) (acc : Carry Ideal) (g : FVec Ideal S28x2048 .f32) (r : Fin 2048)
  (hg : ∀ i, (g (ix2 i r) : EReal) = tab (ix2 i (rowOf (acc.1 (ix2 0 r)))))

include hT hg

theorem ktet_eq : ktet g r = (kray acc r).tet T := by
  refine Eq.trans ?_ (hT.tet (rowOf (acc.1 (ix2 0 r))))
  exact congrArg tetOf (funext fun i => hg _)

theorem kray_step : kray (stepOut acc g) r = (kray acc r).step T := by
  have ht := ktet_eq hT acc g r hg
  have hw : (stepOut acc g).1 (ix2 0 r) = ((kray acc r).step T).word := by
    refine (s30_at acc g r).trans ?_
    rw [ht, show face (angle ((kray acc r).tet T) (kpos acc r) (kdir acc r)) = _ from exit_spec T (kray acc r)]
    rw [hot4 ((kray acc r).exit T) fun x => g (ix2 ⟨24 + ↑x, by omega⟩ r), hot4 ((kray acc r).exit T) fun x => g (ix2 ⟨20 + ↑x, by omega⟩ r)]
    rw [hg, hg, hT.next, hT.first]
    show _ = Scalar.select (IntOp.cmpi CmpIPredicate.slt (acc.1 (ix2 0 r)) 0#32) _ _
    rcases (by decide : ∀ b : BitVec 1, b = 0#1 ∨ b = 1#1) (IntOp.cmpi CmpIPredicate.slt (acc.1 (ix2 0 r)) 0#32) with e | e <;> rw [e]
    · exact fptosi_sitofp _
    · exact fptosi_sitofp _
  have hp := kpos_stepOut acc g r
  have hd := kdir_stepOut acc g r
  rw [ht] at hp hd
  unfold kray at hw ⊢
  rw [hw, hp, hd]
  rfl

theorem kgap_step : ((stepOut acc g).2.2.2.2.2.2.2 (ix2 0 r) : EReal) = acc.2.2.2.2.2.2.2 (ix2 0 r) + (kray acc r).gap T := by
  refine (s31_at acc g r).trans ?_
  rw [ktet_eq hT acc g r hg]; rfl

end Trip

/-- Before trip `k` ray `r` stands where the walk has it after `k` steps. -/
theorem st2_path (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v1 v3 v5 : FVec Ideal S1x2048 .f32) (v12 : IVec S1x2048 32) (v28 v29 v30 : FVec Ideal S1x2048 .f32) (z : Ideal .f32)
    (X3 : BufTy.Contents (Elt Ideal) arg3.view.ty) (init : Carry Ideal) (r : Fin 2048) {T : Mesh} (hT : Holds (arg3.view.read (Elt Ideal) X3) T) (ok : T.Ok)
    (hi : InRange (init.1 (ix2 0 r))) (h0 : (init.2.2.2.2.2.2.2 (ix2 0 r) : EReal) = 0) :
    ∀ k ≤ 16, kray (st2 c arg0 harg0 arg1 harg1 arg2 harg2 arg3 harg3 arg4 harg4 arg5 harg5 arg6 harg6 arg7 harg7 arg8 harg8 arg9 harg9 v1 v3 v5 v12 v28 v29 v30 z X3 init k).1 r = path T (kray init r) k
      ∧ ((st2 c arg0 harg0 arg1 harg1 arg2 harg2 arg3 harg3 arg4 harg4 arg5 harg5 arg6 harg6 arg7 harg7 arg8 harg8 arg9 harg9 v1 v3 v5 v12 v28 v29 v30 z X3 init k).1.2.2.2.2.2.2.2 (ix2 0 r) : EReal) = dist T (kray init r) k
  | 0, _ => ⟨rfl, h0⟩
  | k + 1, hk => by
    have hk' : k < k0_t2_loop.trips := by rw [show k0_t2_loop.trips = 16 by decide +kernel]; omega
    obtain ⟨ih, ihd⟩ := st2_path c arg0 harg0 arg1 harg1 arg2 harg2 arg3 harg3 arg4 harg4 arg5 harg5 arg6 harg6 arg7 harg7 arg8 harg8 arg9 harg9 v1 v3 v5 v12 v28 v29 v30 z X3 init r hT ok hi h0 k (by omega)
    rw [st2_succ c arg0 harg0 arg1 harg1 arg2 harg2 arg3 harg3 arg4 harg4 arg5 harg5 arg6 harg6 arg7 harg7 arg8 harg8 arg9 harg9 v1 v3 v5 v12 v28 v29 v30 z X3 init ⟨k, hk'⟩]
    dsimp only
    rw [trip2_eq]
    have hw : InRange ((st2 c arg0 harg0 arg1 harg1 arg2 harg2 arg3 harg3 arg4 harg4 arg5 harg5 arg6 harg6 arg7 harg7 arg8 harg8 arg9 harg9 v1 v3 v5 v12 v28 v29 v30 z X3 init k).1.1 (ix2 0 r)) := by
      have := path_inRange T (kray init r) ok hi k
      rw [← ih] at this; exact this
    have hg := fun i => gather_at c arg0 harg0 arg1 harg1 arg2 harg2 arg3 harg3 arg4 harg4 arg5 harg5 arg6 harg6 arg7 harg7 arg8 harg8 arg9 harg9 X3 ⟨k, hk'⟩ (st2 c arg0 harg0 arg1 harg1 arg2 harg2 arg3 harg3 arg4 harg4 arg5 harg5 arg6 harg6 arg7 harg7 arg8 harg8 arg9 harg9 v1 v3 v5 v12 v28 v29 v30 z X3 init k).1 r i _ (wrap_eq hw)
    constructor
    · rw [kray_step hT _ _ r hg, ih]; rfl
    · rw [kgap_step hT _ _ r hg, ih, ihd]; rfl

end Cert.KernelIdeal.Hand

end
-- ==== Proof.Sample.lean ====
/- One sample along a ray: the last place at or before it, found by counting, and the point between that place and the next. -/
module

public import proofs.«01_k».proof.Proof.Path

@[expose] public section

set_option maxRecDepth 8192

noncomputable section

namespace Cert.Walk

open Idealize Idealize.ShloMosaic

/-- One if the place is at or before the sample. -/
def hit (d z : EReal) : BitVec 32 := BitVec.setWidth 32 (BitVec.ofBool (decide (d ≤ z)))

/-- How many of the first `n` places are at or before the sample. -/
def hits (D : ℕ → EReal) (z : EReal) : ℕ → BitVec 32
  | 0 => 0#32
  | n + 1 => IntOp.addi (hits D z n) (hit (D n) z)

/-- The number of the last such place, kept within the steps. -/
def slot (D : ℕ → EReal) (z : EReal) : BitVec 32 := IntOp.minsi 15#32 (IntOp.maxsi 0#32 (IntOp.subi (hits D z 17) 1#32))

/-- A word so kept is one of the sixteen. -/
theorem clip_mem (w : BitVec 32) : ∃ i : Fin 16, IntOp.minsi 15#32 (IntOp.maxsi 0#32 w) = BitVec.ofNat 32 i.val := by
  have e0 : (0#32 : BitVec 32).toInt = 0 := by decide
  have e15 : (15#32 : BitVec 32).toInt = 15 := by decide
  have h : 0 ≤ (IntOp.maxsi 0#32 w).toInt := by
    unfold IntOp.maxsi
    split <;> rename_i hh
    · omega
    · rw [BitVec.slt_iff_toInt_lt] at hh; omega
  generalize IntOp.maxsi 0#32 w = v at h
  unfold IntOp.minsi
  split <;> rename_i hh
  · exact ⟨15, rfl⟩
  · rw [BitVec.slt_iff_toInt_lt] at hh
    have hv := BitVec.toInt_eq_toNat_cond v
    have hl := v.isLt
    refine ⟨⟨v.toNat, ?_⟩, ?_⟩
    · split at hv <;> omega
    · rw [BitVec.ofNat_toNat, BitVec.setWidth_eq]

/-- The place before the sample. -/
def slotAt (D : ℕ → EReal) (z : EReal) : ℕ := (slot D z).toNat

theorem slot_eq (D : ℕ → EReal) (z : EReal) : slot D z = BitVec.ofNat 32 (slotAt D z) := by
  unfold slotAt; rw [BitVec.ofNat_toNat, BitVec.setWidth_eq]

theorem slotAt_lt (D : ℕ → EReal) (z : EReal) : slotAt D z < 16 := by
  obtain ⟨i, hi⟩ := clip_mem (IntOp.subi (hits D z 17) 1#32)
  have e : slot D z = BitVec.ofNat 32 i.val := hi
  unfold slotAt; rw [e, BitVec.toNat_ofNat]; omega

/-- How far between its two places the sample lies. -/
def frac (d0 d1 z : EReal) : EReal :=
  Ideal.div (z - d0) (if Ideal.ofBits FTy.f32 730643660#32 < FloatOps.absf (F := Ideal) (φ := .f32) (d1 - d0) then d1 - d0 else 1)

/-- The sample's coordinate. -/
def between (d0 d1 z p0 p1 : EReal) : EReal := p0 + frac d0 d1 z * (p1 - p0)

/-- The sample's coordinate, from all places. -/
def sample (D P : ℕ → EReal) (z : EReal) : EReal :=
  between (D (slotAt D z)) (D (slotAt D z + 1)) z (P (slotAt D z)) (P (slotAt D z + 1))

/-- One where the slot is `k`. -/
def weight (I : BitVec 32) (k : ℕ) : EReal := FloatOps.sitofp (F := Ideal) FTy.f32 (BitVec.setWidth 32 (IntOp.cmpi CmpIPredicate.eq I (BitVec.ofNat 32 k)))

/-- The weighted sum of the first `n` values. -/
def pick (I : BitVec 32) (D : ℕ → EReal) : ℕ → EReal
  | 0 => 0
  | n + 1 => pick I D n + weight I n * D n

theorem hits_congr {D D' : ℕ → EReal} (z : EReal) : ∀ n, (∀ j < n, D j = D' j) → hits D z n = hits D' z n
  | 0, _ => rfl
  | n + 1, h => by
    show IntOp.addi (hits D z n) (hit (D n) z) = IntOp.addi (hits D' z n) (hit (D' n) z)
    rw [hits_congr z n fun j hj => h j (by omega), h n (by omega)]

/-- A sample needs only the seventeen places there are. -/
theorem sample_congr {D D' P P' : ℕ → EReal} (z : EReal) (hD : ∀ j ≤ 16, D j = D' j) (hP : ∀ j ≤ 16, P j = P' j) : sample D P z = sample D' P' z := by
  have e : slotAt D z = slotAt D' z := by
    unfold slotAt slot; rw [hits_congr z 17 fun j hj => hD j (by omega)]
  have h := slotAt_lt D' z
  unfold sample
  rw [e, hD _ (by omega), hD _ (by omega), hP _ (by omega), hP _ (by omega)]

end Cert.Walk

end
-- ==== Proof.IdealPost.lean ====
/- What the kernel samples: the values it takes from its path are those of the walk. -/
module

public import proofs.«01_k».proof.Proof.IdealFrame
public import proofs.«01_k».proof.Proof.Gather
public import proofs.«01_k».proof.Proof.Sample
@[expose] public section
set_option maxRecDepth 8192
set_option maxHeartbeats 4000000
noncomputable section
namespace Cert.KernelIdeal.Hand
open Cert.KernelIdeal Cert.KernelIdeal.Gen
open Idealize Idealize.ShloMosaic Idealize.ShloMosaic.Pointwise
open Cert.Walk

/-- The loop's state before trip `k`. -/
def kst (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (k : ℕ) : Carry Ideal :=
  (st2 c arg0 harg0 arg1 harg1 arg2 harg2 arg3 harg3 arg4 harg4 arg5 harg5 arg6 harg6 arg7 harg7 arg8 harg8 arg9 harg9 (kernelRun.sl.r arg0 harg0 x0) (kernelRun.sl.r_1 arg0 harg0 x0) (kernelRun.sl.r_2 arg0 harg0 x0)
    (kernelRun.sl.r_3 c arg0 harg0 arg1 harg1 arg2 harg2 arg3 harg3 arg4 harg4 arg5 harg5 arg6 harg6 arg7 harg7 arg8 harg8 arg9 harg9 x0 x2) (kernelRun.sl.r_4 arg1 harg1 x1) (kernelRun.sl.r_5 arg1 harg1 x1) (kernelRun.sl.r_6 arg1 harg1 x1)
    kernelRun.sl.cst_15 (harg3.unread x3)
    (kernelRun.sl.r_3 c arg0 harg0 arg1 harg1 arg2 harg2 arg3 harg3 arg4 harg4 arg5 harg5 arg6 harg6 arg7 harg7 arg8 harg8 arg9 harg9 x0 x2, kernelRun.sl.r arg0 harg0 x0, kernelRun.sl.r_1 arg0 harg0 x0, kernelRun.sl.r_2 arg0 harg0 x0,
      kernelRun.sl.r_4 arg1 harg1 x1, kernelRun.sl.r_5 arg1 harg1 x1, kernelRun.sl.r_6 arg1 harg1 x1, k0_pay67 kernelRun.sl.cst_15) k).1

/-- The state before a trip, under its own name. -/
theorem kst_eq (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) :
    (fun k => (st2 c arg0 harg0 arg1 harg1 arg2 harg2 arg3 harg3 arg4 harg4 arg5 harg5 arg6 harg6 arg7 harg7 arg8 harg8 arg9 harg9 (kernelRun.sl.r arg0 harg0 x0) (kernelRun.sl.r_1 arg0 harg0 x0) (kernelRun.sl.r_2 arg0 harg0 x0)
    (kernelRun.sl.r_3 c arg0 harg0 arg1 harg1 arg2 harg2 arg3 harg3 arg4 harg4 arg5 harg5 arg6 harg6 arg7 harg7 arg8 harg8 arg9 harg9 x0 x2) (kernelRun.sl.r_4 arg1 harg1 x1) (kernelRun.sl.r_5 arg1 harg1 x1) (kernelRun.sl.r_6 arg1 harg1 x1)
    kernelRun.sl.cst_15 (harg3.unread x3)
    (kernelRun.sl.r_3 c arg0 harg0 arg1 harg1 arg2 harg2 arg3 harg3 arg4 harg4 arg5 harg5 arg6 harg6 arg7 harg7 arg8 harg8 arg9 harg9 x0 x2, kernelRun.sl.r arg0 harg0 x0, kernelRun.sl.r_1 arg0 harg0 x0, kernelRun.sl.r_2 arg0 harg0 x0,
      kernelRun.sl.r_4 arg1 harg1 x1, kernelRun.sl.r_5 arg1 harg1 x1, kernelRun.sl.r_6 arg1 harg1 x1, k0_pay67 kernelRun.sl.cst_15) k).1) = kst c arg0 harg0 arg1 harg1 arg2 harg2 arg3 harg3 arg4 harg4 arg5 harg5 arg6 harg6 arg7 harg7 arg8 harg8 arg9 harg9 x0 x1 x2 x3 := rfl

/-- The distances, as the kernel keeps them. -/
def kD (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (r : Fin 2048) (j : ℕ) : EReal :=
  row6 k0_pay59 (kst c arg0 harg0 arg1 harg1 arg2 harg2 arg3 harg3 arg4 harg4 arg5 harg5 arg6 harg6 arg7 harg7 arg8 harg8 arg9 harg9 x0 x1 x2 x3) j (ix2 0 r)

theorem addi_zero (w : BitVec 32) : IntOp.addi 0#32 w = w := BitVec.zero_add w

theorem z_at (arg4 : Memref sig .tc .vmem S64x1 .f32) (harg4 : arg4.IsWhole) (x4 : Vec Ideal S64x1 .f32) (inb) (s : Fin 64) :
    (View.readAt (Elt Ideal) arg4.view (Rect.unit (s := S64x1) ![0, 0] ![64, 1] inb).toLoadRect (harg4.unread x4) (ix2 s 0) : EReal) = x4 (ix2 s 0) := by
  rw [View.readAt_eq_ld, Memref.IsWhole.read_unread]
  exact congrArg x4 (funext fun a => Fin.ext (by fin_cases a <;> simp [Rect.unit, Rect.toLoadRect]))

theorem slot_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (s : Fin 64) (r : Fin 2048) :
    kernelRun.sl.r_11 c arg0 harg0 arg1 harg1 arg2 harg2 arg3 harg3 arg4 harg4 arg5 harg5 arg6 harg6 arg7 harg7 arg8 harg8 arg9 harg9 x0 x1 x2 x3 x4 f6 (ix2 s r) = slot (kD c arg0 harg0 arg1 harg1 arg2 harg2 arg3 harg3 arg4 harg4 arg5 harg5 arg6 harg6 arg7 harg7 arg8 harg8 arg9 harg9 x0 x1 x2 x3 r) (x4 (ix2 s 0)) := by
  pointwise [kernelRun.sl.r_11, kernelRun.sl.r_10, kernelRun.sl.r_9, kernelRun.sl.r_8, kernelRun.sl.r_7, k0_pay76, k0_pay75, k0_pay74, k0_pay73, k0_pay72]
  simp (config := { proj := false }) (disch := decide) only [View.readCov, st2_read6, kernelRun.sl.v73, kernelRun.sl.v501, kernelRun.sl.v689, kernelRun.sl.v349, kernelRun.sl.v109, kernelRun.sl.v545, kernelRun.sl.v609, kernelRun.sl.v205,
      kernelRun.sl.v653, kernelRun.sl.v473, kernelRun.sl.v637, kernelRun.sl.v133, kernelRun.sl.v55, kernelRun.sl.v313, kernelRun.sl.v429, kernelRun.sl.v421,
      kernelRun.sl.v509, kernelRun.sl.v681, kernelRun.sl.v277, kernelRun.sl.v529, kernelRun.sl.v321, kernelRun.sl.v673, kernelRun.sl.v401, kernelRun.sl.v181,
      kernelRun.sl.v465, kernelRun.sl.v103, kernelRun.sl.v285, kernelRun.sl.v537, kernelRun.sl.v127, kernelRun.sl.v645, kernelRun.sl.v173, kernelRun.sl.v97,
      kernelRun.sl.v177, kernelRun.sl.v165, kernelRun.sl.v493, kernelRun.sl.v357, kernelRun.sl.v85, kernelRun.sl.v717, kernelRun.sl.v617, kernelRun.sl.v365,
      kernelRun.sl.v49, kernelRun.sl.v213, kernelRun.sl.v43, kernelRun.sl.v169, kernelRun.sl.v91, kernelRun.sl.v293, kernelRun.sl.v249, kernelRun.sl.v565,
      kernelRun.sl.v61, kernelRun.sl.v329, kernelRun.sl.v67, kernelRun.sl.v37, kernelRun.sl.v257, kernelRun.sl.v581, kernelRun.sl.v437, kernelRun.sl.v385,
      kernelRun.sl.v121, kernelRun.sl.v393, kernelRun.sl.v709, kernelRun.sl.v725, kernelRun.sl.v601, kernelRun.sl.v221, kernelRun.sl.v185, kernelRun.sl.v457,
      kernelRun.sl.v573, kernelRun.sl.v79, kernelRun.sl.v241, kernelRun.sl.v115, z_at, kst_eq]
  simp only [slot, hits, hit, kD, addi_zero]
  generalize hK : (fun j => (row6 k0_pay59 (kst c arg0 harg0 arg1 harg1 arg2 harg2 arg3 harg3 arg4 harg4 arg5 harg5 arg6 harg6 arg7 harg7 arg8 harg8 arg9 harg9 x0 x1 x2 x3) j (ix2 0 r) : EReal)) = D
  simp only [fun j => congrFun hK j]

/-- The first weight, kept under a name of its own. -/
theorem w0_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (s : Fin 64) (r : Fin 2048) :
    (kernelRun.sl.r_12 c arg0 harg0 arg1 harg1 arg2 harg2 arg3 harg3 arg4 harg4 arg5 harg5 arg6 harg6 arg7 harg7 arg8 harg8 arg9 harg9 x0 x1 x2 x3 x4 f6 (ix2 s r) : EReal)
      = FloatOps.sitofp (F := Ideal) FTy.f32 (BitVec.setWidth 32 (IntOp.cmpi CmpIPredicate.eq (kernelRun.sl.r_11 c arg0 harg0 arg1 harg1 arg2 harg2 arg3 harg3 arg4 harg4 arg5 harg5 arg6 harg6 arg7 harg7 arg8 harg8 arg9 harg9 x0 x1 x2 x3 x4 f6 (ix2 s r)) 0#32)) := by
  pointwise [kernelRun.sl.r_12, k0_pay85]
  rfl

theorem d0_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (s : Fin 64) (r : Fin 2048) :
    (kernelRun.sl.r_135 c arg0 harg0 arg1 harg1 arg2 harg2 arg3 harg3 arg4 harg4 arg5 harg5 arg6 harg6 arg7 harg7 arg8 harg8 arg9 harg9 x0 x1 x2 x3 x4 f6 (ix2 s r) : EReal) = pick (kernelRun.sl.r_11 c arg0 harg0 arg1 harg1 arg2 harg2 arg3 harg3 arg4 harg4 arg5 harg5 arg6 harg6 arg7 harg7 arg8 harg8 arg9 harg9 x0 x1 x2 x3 x4 f6 (ix2 s r)) (kD c arg0 harg0 arg1 harg1 arg2 harg2 arg3 harg3 arg4 harg4 arg5 harg5 arg6 harg6 arg7 harg7 arg8 harg8 arg9 harg9 x0 x1 x2 x3 r) 16 := by
  pointwise [kernelRun.sl.r_13, kernelRun.sl.r_14, kernelRun.sl.r_15, kernelRun.sl.r_16, kernelRun.sl.r_17, kernelRun.sl.r_18, kernelRun.sl.r_19, kernelRun.sl.r_20,
      kernelRun.sl.r_21, kernelRun.sl.r_22, kernelRun.sl.r_23, kernelRun.sl.r_24, kernelRun.sl.r_25, kernelRun.sl.r_26, kernelRun.sl.r_27, kernelRun.sl.r_28,
      kernelRun.sl.r_29, kernelRun.sl.r_30, kernelRun.sl.r_31, kernelRun.sl.r_32, kernelRun.sl.r_33, kernelRun.sl.r_34, kernelRun.sl.r_35, kernelRun.sl.r_36,
      kernelRun.sl.r_37, kernelRun.sl.r_38, kernelRun.sl.r_39, kernelRun.sl.r_40, kernelRun.sl.r_41, kernelRun.sl.r_42, kernelRun.sl.r_43, kernelRun.sl.r_44,
      kernelRun.sl.r_45, kernelRun.sl.r_46, kernelRun.sl.r_47, kernelRun.sl.r_48, kernelRun.sl.r_49, kernelRun.sl.r_50, kernelRun.sl.r_51, kernelRun.sl.r_52,
      kernelRun.sl.r_53, kernelRun.sl.r_54, kernelRun.sl.r_55, kernelRun.sl.r_56, kernelRun.sl.r_57, kernelRun.sl.r_58, kernelRun.sl.r_59, kernelRun.sl.r_60,
      kernelRun.sl.r_61, kernelRun.sl.r_62, kernelRun.sl.r_63, kernelRun.sl.r_64, kernelRun.sl.r_65, kernelRun.sl.r_66, kernelRun.sl.r_67, kernelRun.sl.r_68,
      kernelRun.sl.r_69, kernelRun.sl.r_70, kernelRun.sl.r_71, kernelRun.sl.r_72, kernelRun.sl.r_73, kernelRun.sl.r_74, kernelRun.sl.r_75, kernelRun.sl.r_76,
      kernelRun.sl.r_77, kernelRun.sl.r_78, kernelRun.sl.r_79, kernelRun.sl.r_80, kernelRun.sl.r_81, kernelRun.sl.r_82, kernelRun.sl.r_83, kernelRun.sl.r_84,
      kernelRun.sl.r_85, kernelRun.sl.r_86, kernelRun.sl.r_87, kernelRun.sl.r_88, kernelRun.sl.r_89, kernelRun.sl.r_90, kernelRun.sl.r_91, kernelRun.sl.r_92,
      kernelRun.sl.r_93, kernelRun.sl.r_94, kernelRun.sl.r_95, kernelRun.sl.r_96, kernelRun.sl.r_97, kernelRun.sl.r_98, kernelRun.sl.r_99, kernelRun.sl.r_100,
      kernelRun.sl.r_101, kernelRun.sl.r_102, kernelRun.sl.r_103, kernelRun.sl.r_104, kernelRun.sl.r_105, kernelRun.sl.r_106, kernelRun.sl.r_107, kernelRun.sl.r_108,
      kernelRun.sl.r_109, kernelRun.sl.r_110, kernelRun.sl.r_111, kernelRun.sl.r_112, kernelRun.sl.r_113, kernelRun.sl.r_114, kernelRun.sl.r_115, kernelRun.sl.r_116,
      kernelRun.sl.r_117, kernelRun.sl.r_118, kernelRun.sl.r_119, kernelRun.sl.r_120, kernelRun.sl.r_121, kernelRun.sl.r_122, kernelRun.sl.r_123, kernelRun.sl.r_124,
      kernelRun.sl.r_125, kernelRun.sl.r_126, kernelRun.sl.r_127, kernelRun.sl.r_128, kernelRun.sl.r_129, kernelRun.sl.r_130, kernelRun.sl.r_131, kernelRun.sl.r_132,
      kernelRun.sl.r_133, kernelRun.sl.r_134, kernelRun.sl.r_135, kernelRun.sl.r_136, kernelRun.sl.r_137, kernelRun.sl.r_138, kernelRun.sl.r_139, kernelRun.sl.r_140,
      kernelRun.sl.r_141, kernelRun.sl.r_142, kernelRun.sl.r_143, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219, k0_pay220, k0_pay221, k0_pay222]
  simp (config := { proj := false }) (disch := decide) only [View.readCov, st2_read6, kernelRun.sl.v73, kernelRun.sl.v501, kernelRun.sl.v689, kernelRun.sl.v349, kernelRun.sl.v109, kernelRun.sl.v545, kernelRun.sl.v609, kernelRun.sl.v205,
      kernelRun.sl.v653, kernelRun.sl.v473, kernelRun.sl.v637, kernelRun.sl.v133, kernelRun.sl.v55, kernelRun.sl.v313, kernelRun.sl.v429, kernelRun.sl.v421,
      kernelRun.sl.v509, kernelRun.sl.v681, kernelRun.sl.v277, kernelRun.sl.v529, kernelRun.sl.v321, kernelRun.sl.v673, kernelRun.sl.v401, kernelRun.sl.v181,
      kernelRun.sl.v465, kernelRun.sl.v103, kernelRun.sl.v285, kernelRun.sl.v537, kernelRun.sl.v127, kernelRun.sl.v645, kernelRun.sl.v173, kernelRun.sl.v97,
      kernelRun.sl.v177, kernelRun.sl.v165, kernelRun.sl.v493, kernelRun.sl.v357, kernelRun.sl.v85, kernelRun.sl.v717, kernelRun.sl.v617, kernelRun.sl.v365,
      kernelRun.sl.v49, kernelRun.sl.v213, kernelRun.sl.v43, kernelRun.sl.v169, kernelRun.sl.v91, kernelRun.sl.v293, kernelRun.sl.v249, kernelRun.sl.v565,
      kernelRun.sl.v61, kernelRun.sl.v329, kernelRun.sl.v67, kernelRun.sl.v37, kernelRun.sl.v257, kernelRun.sl.v581, kernelRun.sl.v437, kernelRun.sl.v385,
      kernelRun.sl.v121, kernelRun.sl.v393, kernelRun.sl.v709, kernelRun.sl.v725, kernelRun.sl.v601, kernelRun.sl.v221, kernelRun.sl.v185, kernelRun.sl.v457,
      kernelRun.sl.v573, kernelRun.sl.v79, kernelRun.sl.v241, kernelRun.sl.v115, kst_eq]
  simp only [pick, weight, zero_add, Nat.reduceAdd, kD, w0_at]

/-- The places' coordinates, as the kernel keeps them. -/
def kX (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (r : Fin 2048) (j : ℕ) : EReal :=
  row7 (k0_pay60 (View.readAt (Elt Ideal) arg0.view (Rect.unit (s := S3x2048) ![0, 0] S1x2048.size inb_S3x2048_S1x2048_0_0).toLoadRect (harg0.unread x0))) (kst c arg0 harg0 arg1 harg1 arg2 harg2 arg3 harg3 arg4 harg4 arg5 harg5 arg6 harg6 arg7 harg7 arg8 harg8 arg9 harg9 x0 x1 x2 x3) j (ix2 0 r)

def kY (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (r : Fin 2048) (j : ℕ) : EReal :=
  row8 (k0_pay61 (View.readAt (Elt Ideal) arg0.view (Rect.unit (s := S3x2048) ![1, 0] S1x2048.size inb_S3x2048_S1x2048_1_0).toLoadRect (harg0.unread x0))) (kst c arg0 harg0 arg1 harg1 arg2 harg2 arg3 harg3 arg4 harg4 arg5 harg5 arg6 harg6 arg7 harg7 arg8 harg8 arg9 harg9 x0 x1 x2 x3) j (ix2 0 r)

def kZ (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (r : Fin 2048) (j : ℕ) : EReal :=
  row9 (k0_pay62 (View.readAt (Elt Ideal) arg0.view (Rect.unit (s := S3x2048) ![2, 0] S1x2048.size inb_S3x2048_S1x2048_2_0).toLoadRect (harg0.unread x0))) (kst c arg0 harg0 arg1 harg1 arg2 harg2 arg3 harg3 arg4 harg4 arg5 harg5 arg6 harg6 arg7 harg7 arg8 harg8 arg9 harg9 x0 x1 x2 x3) j (ix2 0 r)

theorem d1_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (s : Fin 64) (r : Fin 2048) :
    (kernelRun.sl.r_136 c arg0 harg0 arg1 harg1 arg2 harg2 arg3 harg3 arg4 harg4 arg5 harg5 arg6 harg6 arg7 harg7 arg8 harg8 arg9 harg9 x0 x1 x2 x3 x4 f6 (ix2 s r) : EReal) = pick (kernelRun.sl.r_11 c arg0 harg0 arg1 harg1 arg2 harg2 arg3 harg3 arg4 harg4 arg5 harg5 arg6 harg6 arg7 harg7 arg8 harg8 arg9 harg9 x0 x1 x2 x3 x4 f6 (ix2 s r)) (fun j => kD c arg0 harg0 arg1 harg1 arg2 harg2 arg3 harg3 arg4 harg4 arg5 harg5 arg6 harg6 arg7 harg7 arg8 harg8 arg9 harg9 x0 x1 x2 x3 r (j + 1)) 16 := by
  pointwise [kernelRun.sl.r_13, kernelRun.sl.r_14, kernelRun.sl.r_15, kernelRun.sl.r_16, kernelRun.sl.r_17, kernelRun.sl.r_18, kernelRun.sl.r_19, kernelRun.sl.r_20,
      kernelRun.sl.r_21, kernelRun.sl.r_22, kernelRun.sl.r_23, kernelRun.sl.r_24, kernelRun.sl.r_25, kernelRun.sl.r_26, kernelRun.sl.r_27, kernelRun.sl.r_28,
      kernelRun.sl.r_29, kernelRun.sl.r_30, kernelRun.sl.r_31, kernelRun.sl.r_32, kernelRun.sl.r_33, kernelRun.sl.r_34, kernelRun.sl.r_35, kernelRun.sl.r_36,
      kernelRun.sl.r_37, kernelRun.sl.r_38, kernelRun.sl.r_39, kernelRun.sl.r_40, kernelRun.sl.r_41, kernelRun.sl.r_42, kernelRun.sl.r_43, kernelRun.sl.r_44,
      kernelRun.sl.r_45, kernelRun.sl.r_46, kernelRun.sl.r_47, kernelRun.sl.r_48, kernelRun.sl.r_49, kernelRun.sl.r_50, kernelRun.sl.r_51, kernelRun.sl.r_52,
      kernelRun.sl.r_53, kernelRun.sl.r_54, kernelRun.sl.r_55, kernelRun.sl.r_56, kernelRun.sl.r_57, kernelRun.sl.r_58, kernelRun.sl.r_59, kernelRun.sl.r_60,
      kernelRun.sl.r_61, kernelRun.sl.r_62, kernelRun.sl.r_63, kernelRun.sl.r_64, kernelRun.sl.r_65, kernelRun.sl.r_66, kernelRun.sl.r_67, kernelRun.sl.r_68,
      kernelRun.sl.r_69, kernelRun.sl.r_70, kernelRun.sl.r_71, kernelRun.sl.r_72, kernelRun.sl.r_73, kernelRun.sl.r_74, kernelRun.sl.r_75, kernelRun.sl.r_76,
      kernelRun.sl.r_77, kernelRun.sl.r_78, kernelRun.sl.r_79, kernelRun.sl.r_80, kernelRun.sl.r_81, kernelRun.sl.r_82, kernelRun.sl.r_83, kernelRun.sl.r_84,
      kernelRun.sl.r_85, kernelRun.sl.r_86, kernelRun.sl.r_87, kernelRun.sl.r_88, kernelRun.sl.r_89, kernelRun.sl.r_90, kernelRun.sl.r_91, kernelRun.sl.r_92,
      kernelRun.sl.r_93, kernelRun.sl.r_94, kernelRun.sl.r_95, kernelRun.sl.r_96, kernelRun.sl.r_97, kernelRun.sl.r_98, kernelRun.sl.r_99, kernelRun.sl.r_100,
      kernelRun.sl.r_101, kernelRun.sl.r_102, kernelRun.sl.r_103, kernelRun.sl.r_104, kernelRun.sl.r_105, kernelRun.sl.r_106, kernelRun.sl.r_107, kernelRun.sl.r_108,
      kernelRun.sl.r_109, kernelRun.sl.r_110, kernelRun.sl.r_111, kernelRun.sl.r_112, kernelRun.sl.r_113, kernelRun.sl.r_114, kernelRun.sl.r_115, kernelRun.sl.r_116,
      kernelRun.sl.r_117, kernelRun.sl.r_118, kernelRun.sl.r_119, kernelRun.sl.r_120, kernelRun.sl.r_121, kernelRun.sl.r_122, kernelRun.sl.r_123, kernelRun.sl.r_124,
      kernelRun.sl.r_125, kernelRun.sl.r_126, kernelRun.sl.r_127, kernelRun.sl.r_128, kernelRun.sl.r_129, kernelRun.sl.r_130, kernelRun.sl.r_131, kernelRun.sl.r_132,
      kernelRun.sl.r_133, kernelRun.sl.r_134, kernelRun.sl.r_135, kernelRun.sl.r_136, kernelRun.sl.r_137, kernelRun.sl.r_138, kernelRun.sl.r_139, kernelRun.sl.r_140,
      kernelRun.sl.r_141, kernelRun.sl.r_142, kernelRun.sl.r_143, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219, k0_pay220, k0_pay221, k0_pay222]
  simp (config := { proj := false }) (disch := decide) only [View.readCov, st2_read6, kernelRun.sl.v73, kernelRun.sl.v501, kernelRun.sl.v689, kernelRun.sl.v349, kernelRun.sl.v109, kernelRun.sl.v545, kernelRun.sl.v609, kernelRun.sl.v205,
      kernelRun.sl.v653, kernelRun.sl.v473, kernelRun.sl.v637, kernelRun.sl.v133, kernelRun.sl.v55, kernelRun.sl.v313, kernelRun.sl.v429, kernelRun.sl.v421,
      kernelRun.sl.v509, kernelRun.sl.v681, kernelRun.sl.v277, kernelRun.sl.v529, kernelRun.sl.v321, kernelRun.sl.v673, kernelRun.sl.v401, kernelRun.sl.v181,
      kernelRun.sl.v465, kernelRun.sl.v103, kernelRun.sl.v285, kernelRun.sl.v537, kernelRun.sl.v127, kernelRun.sl.v645, kernelRun.sl.v173, kernelRun.sl.v97,
      kernelRun.sl.v177, kernelRun.sl.v165, kernelRun.sl.v493, kernelRun.sl.v357, kernelRun.sl.v85, kernelRun.sl.v717, kernelRun.sl.v617, kernelRun.sl.v365,
      kernelRun.sl.v49, kernelRun.sl.v213, kernelRun.sl.v43, kernelRun.sl.v169, kernelRun.sl.v91, kernelRun.sl.v293, kernelRun.sl.v249, kernelRun.sl.v565,
      kernelRun.sl.v61, kernelRun.sl.v329, kernelRun.sl.v67, kernelRun.sl.v37, kernelRun.sl.v257, kernelRun.sl.v581, kernelRun.sl.v437, kernelRun.sl.v385,
      kernelRun.sl.v121, kernelRun.sl.v393, kernelRun.sl.v709, kernelRun.sl.v725, kernelRun.sl.v601, kernelRun.sl.v221, kernelRun.sl.v185, kernelRun.sl.v457,
      kernelRun.sl.v573, kernelRun.sl.v79, kernelRun.sl.v241, kernelRun.sl.v115, kst_eq]
  simp only [pick, weight, zero_add, Nat.reduceAdd, kD, w0_at]

theorem x0_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (f7 : BufTy.Contents (Elt Ideal) arg7.view.ty) (s : Fin 64) (r : Fin 2048) :
    (kernelRun.sl.r_137 c arg0 harg0 arg1 harg1 arg2 harg2 arg3 harg3 arg4 harg4 arg5 harg5 arg6 harg6 arg7 harg7 arg8 harg8 arg9 harg9 x0 x1 x2 x3 x4 f6 f7 (ix2 s r) : EReal) = pick (kernelRun.sl.r_11 c arg0 harg0 arg1 harg1 arg2 harg2 arg3 harg3 arg4 harg4 arg5 harg5 arg6 harg6 arg7 harg7 arg8 harg8 arg9 harg9 x0 x1 x2 x3 x4 f6 (ix2 s r)) (kX c arg0 harg0 arg1 harg1 arg2 harg2 arg3 harg3 arg4 harg4 arg5 harg5 arg6 harg6 arg7 harg7 arg8 harg8 arg9 harg9 x0 x1 x2 x3 r) 16 := by
  pointwise [kernelRun.sl.r_13, kernelRun.sl.r_14, kernelRun.sl.r_15, kernelRun.sl.r_16, kernelRun.sl.r_17, kernelRun.sl.r_18, kernelRun.sl.r_19, kernelRun.sl.r_20,
      kernelRun.sl.r_21, kernelRun.sl.r_22, kernelRun.sl.r_23, kernelRun.sl.r_24, kernelRun.sl.r_25, kernelRun.sl.r_26, kernelRun.sl.r_27, kernelRun.sl.r_28,
      kernelRun.sl.r_29, kernelRun.sl.r_30, kernelRun.sl.r_31, kernelRun.sl.r_32, kernelRun.sl.r_33, kernelRun.sl.r_34, kernelRun.sl.r_35, kernelRun.sl.r_36,
      kernelRun.sl.r_37, kernelRun.sl.r_38, kernelRun.sl.r_39, kernelRun.sl.r_40, kernelRun.sl.r_41, kernelRun.sl.r_42, kernelRun.sl.r_43, kernelRun.sl.r_44,
      kernelRun.sl.r_45, kernelRun.sl.r_46, kernelRun.sl.r_47, kernelRun.sl.r_48, kernelRun.sl.r_49, kernelRun.sl.r_50, kernelRun.sl.r_51, kernelRun.sl.r_52,
      kernelRun.sl.r_53, kernelRun.sl.r_54, kernelRun.sl.r_55, kernelRun.sl.r_56, kernelRun.sl.r_57, kernelRun.sl.r_58, kernelRun.sl.r_59, kernelRun.sl.r_60,
      kernelRun.sl.r_61, kernelRun.sl.r_62, kernelRun.sl.r_63, kernelRun.sl.r_64, kernelRun.sl.r_65, kernelRun.sl.r_66, kernelRun.sl.r_67, kernelRun.sl.r_68,
      kernelRun.sl.r_69, kernelRun.sl.r_70, kernelRun.sl.r_71, kernelRun.sl.r_72, kernelRun.sl.r_73, kernelRun.sl.r_74, kernelRun.sl.r_75, kernelRun.sl.r_76,
      kernelRun.sl.r_77, kernelRun.sl.r_78, kernelRun.sl.r_79, kernelRun.sl.r_80, kernelRun.sl.r_81, kernelRun.sl.r_82, kernelRun.sl.r_83, kernelRun.sl.r_84,
      kernelRun.sl.r_85, kernelRun.sl.r_86, kernelRun.sl.r_87, kernelRun.sl.r_88, kernelRun.sl.r_89, kernelRun.sl.r_90, kernelRun.sl.r_91, kernelRun.sl.r_92,
      kernelRun.sl.r_93, kernelRun.sl.r_94, kernelRun.sl.r_95, kernelRun.sl.r_96, kernelRun.sl.r_97, kernelRun.sl.r_98, kernelRun.sl.r_99, kernelRun.sl.r_100,
      kernelRun.sl.r_101, kernelRun.sl.r_102, kernelRun.sl.r_103, kernelRun.sl.r_104, kernelRun.sl.r_105, kernelRun.sl.r_106, kernelRun.sl.r_107, kernelRun.sl.r_108,
      kernelRun.sl.r_109, kernelRun.sl.r_110, kernelRun.sl.r_111, kernelRun.sl.r_112, kernelRun.sl.r_113, kernelRun.sl.r_114, kernelRun.sl.r_115, kernelRun.sl.r_116,
      kernelRun.sl.r_117, kernelRun.sl.r_118, kernelRun.sl.r_119, kernelRun.sl.r_120, kernelRun.sl.r_121, kernelRun.sl.r_122, kernelRun.sl.r_123, kernelRun.sl.r_124,
      kernelRun.sl.r_125, kernelRun.sl.r_126, kernelRun.sl.r_127, kernelRun.sl.r_128, kernelRun.sl.r_129, kernelRun.sl.r_130, kernelRun.sl.r_131, kernelRun.sl.r_132,
      kernelRun.sl.r_133, kernelRun.sl.r_134, kernelRun.sl.r_135, kernelRun.sl.r_136, kernelRun.sl.r_137, kernelRun.sl.r_138, kernelRun.sl.r_139, kernelRun.sl.r_140,
      kernelRun.sl.r_141, kernelRun.sl.r_142, kernelRun.sl.r_143, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219, k0_pay220, k0_pay221, k0_pay222]
  simp (config := { proj := false }) (disch := decide) only [View.readCov, st2_read7, kernelRun.sl.v73, kernelRun.sl.v501, kernelRun.sl.v689, kernelRun.sl.v349, kernelRun.sl.v109, kernelRun.sl.v545, kernelRun.sl.v609, kernelRun.sl.v205,
      kernelRun.sl.v653, kernelRun.sl.v473, kernelRun.sl.v637, kernelRun.sl.v133, kernelRun.sl.v55, kernelRun.sl.v313, kernelRun.sl.v429, kernelRun.sl.v421,
      kernelRun.sl.v509, kernelRun.sl.v681, kernelRun.sl.v277, kernelRun.sl.v529, kernelRun.sl.v321, kernelRun.sl.v673, kernelRun.sl.v401, kernelRun.sl.v181,
      kernelRun.sl.v465, kernelRun.sl.v103, kernelRun.sl.v285, kernelRun.sl.v537, kernelRun.sl.v127, kernelRun.sl.v645, kernelRun.sl.v173, kernelRun.sl.v97,
      kernelRun.sl.v177, kernelRun.sl.v165, kernelRun.sl.v493, kernelRun.sl.v357, kernelRun.sl.v85, kernelRun.sl.v717, kernelRun.sl.v617, kernelRun.sl.v365,
      kernelRun.sl.v49, kernelRun.sl.v213, kernelRun.sl.v43, kernelRun.sl.v169, kernelRun.sl.v91, kernelRun.sl.v293, kernelRun.sl.v249, kernelRun.sl.v565,
      kernelRun.sl.v61, kernelRun.sl.v329, kernelRun.sl.v67, kernelRun.sl.v37, kernelRun.sl.v257, kernelRun.sl.v581, kernelRun.sl.v437, kernelRun.sl.v385,
      kernelRun.sl.v121, kernelRun.sl.v393, kernelRun.sl.v709, kernelRun.sl.v725, kernelRun.sl.v601, kernelRun.sl.v221, kernelRun.sl.v185, kernelRun.sl.v457,
      kernelRun.sl.v573, kernelRun.sl.v79, kernelRun.sl.v241, kernelRun.sl.v115, kst_eq]
  simp only [pick, weight, zero_add, Nat.reduceAdd, kX, w0_at]

theorem x1_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (f7 : BufTy.Contents (Elt Ideal) arg7.view.ty) (s : Fin 64) (r : Fin 2048) :
    (kernelRun.sl.r_138 c arg0 harg0 arg1 harg1 arg2 harg2 arg3 harg3 arg4 harg4 arg5 harg5 arg6 harg6 arg7 harg7 arg8 harg8 arg9 harg9 x0 x1 x2 x3 x4 f6 f7 (ix2 s r) : EReal) = pick (kernelRun.sl.r_11 c arg0 harg0 arg1 harg1 arg2 harg2 arg3 harg3 arg4 harg4 arg5 harg5 arg6 harg6 arg7 harg7 arg8 harg8 arg9 harg9 x0 x1 x2 x3 x4 f6 (ix2 s r)) (fun j => kX c arg0 harg0 arg1 harg1 arg2 harg2 arg3 harg3 arg4 harg4 arg5 harg5 arg6 harg6 arg7 harg7 arg8 harg8 arg9 harg9 x0 x1 x2 x3 r (j + 1)) 16 := by
  pointwise [kernelRun.sl.r_13, kernelRun.sl.r_14, kernelRun.sl.r_15, kernelRun.sl.r_16, kernelRun.sl.r_17, kernelRun.sl.r_18, kernelRun.sl.r_19, kernelRun.sl.r_20,
      kernelRun.sl.r_21, kernelRun.sl.r_22, kernelRun.sl.r_23, kernelRun.sl.r_24, kernelRun.sl.r_25, kernelRun.sl.r_26, kernelRun.sl.r_27, kernelRun.sl.r_28,
      kernelRun.sl.r_29, kernelRun.sl.r_30, kernelRun.sl.r_31, kernelRun.sl.r_32, kernelRun.sl.r_33, kernelRun.sl.r_34, kernelRun.sl.r_35, kernelRun.sl.r_36,
      kernelRun.sl.r_37, kernelRun.sl.r_38, kernelRun.sl.r_39, kernelRun.sl.r_40, kernelRun.sl.r_41, kernelRun.sl.r_42, kernelRun.sl.r_43, kernelRun.sl.r_44,
      kernelRun.sl.r_45, kernelRun.sl.r_46, kernelRun.sl.r_47, kernelRun.sl.r_48, kernelRun.sl.r_49, kernelRun.sl.r_50, kernelRun.sl.r_51, kernelRun.sl.r_52,
      kernelRun.sl.r_53, kernelRun.sl.r_54, kernelRun.sl.r_55, kernelRun.sl.r_56, kernelRun.sl.r_57, kernelRun.sl.r_58, kernelRun.sl.r_59, kernelRun.sl.r_60,
      kernelRun.sl.r_61, kernelRun.sl.r_62, kernelRun.sl.r_63, kernelRun.sl.r_64, kernelRun.sl.r_65, kernelRun.sl.r_66, kernelRun.sl.r_67, kernelRun.sl.r_68,
      kernelRun.sl.r_69, kernelRun.sl.r_70, kernelRun.sl.r_71, kernelRun.sl.r_72, kernelRun.sl.r_73, kernelRun.sl.r_74, kernelRun.sl.r_75, kernelRun.sl.r_76,
      kernelRun.sl.r_77, kernelRun.sl.r_78, kernelRun.sl.r_79, kernelRun.sl.r_80, kernelRun.sl.r_81, kernelRun.sl.r_82, kernelRun.sl.r_83, kernelRun.sl.r_84,
      kernelRun.sl.r_85, kernelRun.sl.r_86, kernelRun.sl.r_87, kernelRun.sl.r_88, kernelRun.sl.r_89, kernelRun.sl.r_90, kernelRun.sl.r_91, kernelRun.sl.r_92,
      kernelRun.sl.r_93, kernelRun.sl.r_94, kernelRun.sl.r_95, kernelRun.sl.r_96, kernelRun.sl.r_97, kernelRun.sl.r_98, kernelRun.sl.r_99, kernelRun.sl.r_100,
      kernelRun.sl.r_101, kernelRun.sl.r_102, kernelRun.sl.r_103, kernelRun.sl.r_104, kernelRun.sl.r_105, kernelRun.sl.r_106, kernelRun.sl.r_107, kernelRun.sl.r_108,
      kernelRun.sl.r_109, kernelRun.sl.r_110, kernelRun.sl.r_111, kernelRun.sl.r_112, kernelRun.sl.r_113, kernelRun.sl.r_114, kernelRun.sl.r_115, kernelRun.sl.r_116,
      kernelRun.sl.r_117, kernelRun.sl.r_118, kernelRun.sl.r_119, kernelRun.sl.r_120, kernelRun.sl.r_121, kernelRun.sl.r_122, kernelRun.sl.r_123, kernelRun.sl.r_124,
      kernelRun.sl.r_125, kernelRun.sl.r_126, kernelRun.sl.r_127, kernelRun.sl.r_128, kernelRun.sl.r_129, kernelRun.sl.r_130, kernelRun.sl.r_131, kernelRun.sl.r_132,
      kernelRun.sl.r_133, kernelRun.sl.r_134, kernelRun.sl.r_135, kernelRun.sl.r_136, kernelRun.sl.r_137, kernelRun.sl.r_138, kernelRun.sl.r_139, kernelRun.sl.r_140,
      kernelRun.sl.r_141, kernelRun.sl.r_142, kernelRun.sl.r_143, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219, k0_pay220, k0_pay221, k0_pay222]
  simp (config := { proj := false }) (disch := decide) only [View.readCov, st2_read7, kernelRun.sl.v73, kernelRun.sl.v501, kernelRun.sl.v689, kernelRun.sl.v349, kernelRun.sl.v109, kernelRun.sl.v545, kernelRun.sl.v609, kernelRun.sl.v205,
      kernelRun.sl.v653, kernelRun.sl.v473, kernelRun.sl.v637, kernelRun.sl.v133, kernelRun.sl.v55, kernelRun.sl.v313, kernelRun.sl.v429, kernelRun.sl.v421,
      kernelRun.sl.v509, kernelRun.sl.v681, kernelRun.sl.v277, kernelRun.sl.v529, kernelRun.sl.v321, kernelRun.sl.v673, kernelRun.sl.v401, kernelRun.sl.v181,
      kernelRun.sl.v465, kernelRun.sl.v103, kernelRun.sl.v285, kernelRun.sl.v537, kernelRun.sl.v127, kernelRun.sl.v645, kernelRun.sl.v173, kernelRun.sl.v97,
      kernelRun.sl.v177, kernelRun.sl.v165, kernelRun.sl.v493, kernelRun.sl.v357, kernelRun.sl.v85, kernelRun.sl.v717, kernelRun.sl.v617, kernelRun.sl.v365,
      kernelRun.sl.v49, kernelRun.sl.v213, kernelRun.sl.v43, kernelRun.sl.v169, kernelRun.sl.v91, kernelRun.sl.v293, kernelRun.sl.v249, kernelRun.sl.v565,
      kernelRun.sl.v61, kernelRun.sl.v329, kernelRun.sl.v67, kernelRun.sl.v37, kernelRun.sl.v257, kernelRun.sl.v581, kernelRun.sl.v437, kernelRun.sl.v385,
      kernelRun.sl.v121, kernelRun.sl.v393, kernelRun.sl.v709, kernelRun.sl.v725, kernelRun.sl.v601, kernelRun.sl.v221, kernelRun.sl.v185, kernelRun.sl.v457,
      kernelRun.sl.v573, kernelRun.sl.v79, kernelRun.sl.v241, kernelRun.sl.v115, kst_eq]
  simp only [pick, weight, zero_add, Nat.reduceAdd, kX, w0_at]

theorem y0_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (f8 : BufTy.Contents (Elt Ideal) arg8.view.ty) (s : Fin 64) (r : Fin 2048) :
    (kernelRun.sl.r_139 c arg0 harg0 arg1 harg1 arg2 harg2 arg3 harg3 arg4 harg4 arg5 harg5 arg6 harg6 arg7 harg7 arg8 harg8 arg9 harg9 x0 x1 x2 x3 x4 f6 f8 (ix2 s r) : EReal) = pick (kernelRun.sl.r_11 c arg0 harg0 arg1 harg1 arg2 harg2 arg3 harg3 arg4 harg4 arg5 harg5 arg6 harg6 arg7 harg7 arg8 harg8 arg9 harg9 x0 x1 x2 x3 x4 f6 (ix2 s r)) (kY c arg0 harg0 arg1 harg1 arg2 harg2 arg3 harg3 arg4 harg4 arg5 harg5 arg6 harg6 arg7 harg7 arg8 harg8 arg9 harg9 x0 x1 x2 x3 r) 16 := by
  pointwise [kernelRun.sl.r_13, kernelRun.sl.r_14, kernelRun.sl.r_15, kernelRun.sl.r_16, kernelRun.sl.r_17, kernelRun.sl.r_18, kernelRun.sl.r_19, kernelRun.sl.r_20,
      kernelRun.sl.r_21, kernelRun.sl.r_22, kernelRun.sl.r_23, kernelRun.sl.r_24, kernelRun.sl.r_25, kernelRun.sl.r_26, kernelRun.sl.r_27, kernelRun.sl.r_28,
      kernelRun.sl.r_29, kernelRun.sl.r_30, kernelRun.sl.r_31, kernelRun.sl.r_32, kernelRun.sl.r_33, kernelRun.sl.r_34, kernelRun.sl.r_35, kernelRun.sl.r_36,
      kernelRun.sl.r_37, kernelRun.sl.r_38, kernelRun.sl.r_39, kernelRun.sl.r_40, kernelRun.sl.r_41, kernelRun.sl.r_42, kernelRun.sl.r_43, kernelRun.sl.r_44,
      kernelRun.sl.r_45, kernelRun.sl.r_46, kernelRun.sl.r_47, kernelRun.sl.r_48, kernelRun.sl.r_49, kernelRun.sl.r_50, kernelRun.sl.r_51, kernelRun.sl.r_52,
      kernelRun.sl.r_53, kernelRun.sl.r_54, kernelRun.sl.r_55, kernelRun.sl.r_56, kernelRun.sl.r_57, kernelRun.sl.r_58, kernelRun.sl.r_59, kernelRun.sl.r_60,
      kernelRun.sl.r_61, kernelRun.sl.r_62, kernelRun.sl.r_63, kernelRun.sl.r_64, kernelRun.sl.r_65, kernelRun.sl.r_66, kernelRun.sl.r_67, kernelRun.sl.r_68,
      kernelRun.sl.r_69, kernelRun.sl.r_70, kernelRun.sl.r_71, kernelRun.sl.r_72, kernelRun.sl.r_73, kernelRun.sl.r_74, kernelRun.sl.r_75, kernelRun.sl.r_76,
      kernelRun.sl.r_77, kernelRun.sl.r_78, kernelRun.sl.r_79, kernelRun.sl.r_80, kernelRun.sl.r_81, kernelRun.sl.r_82, kernelRun.sl.r_83, kernelRun.sl.r_84,
      kernelRun.sl.r_85, kernelRun.sl.r_86, kernelRun.sl.r_87, kernelRun.sl.r_88, kernelRun.sl.r_89, kernelRun.sl.r_90, kernelRun.sl.r_91, kernelRun.sl.r_92,
      kernelRun.sl.r_93, kernelRun.sl.r_94, kernelRun.sl.r_95, kernelRun.sl.r_96, kernelRun.sl.r_97, kernelRun.sl.r_98, kernelRun.sl.r_99, kernelRun.sl.r_100,
      kernelRun.sl.r_101, kernelRun.sl.r_102, kernelRun.sl.r_103, kernelRun.sl.r_104, kernelRun.sl.r_105, kernelRun.sl.r_106, kernelRun.sl.r_107, kernelRun.sl.r_108,
      kernelRun.sl.r_109, kernelRun.sl.r_110, kernelRun.sl.r_111, kernelRun.sl.r_112, kernelRun.sl.r_113, kernelRun.sl.r_114, kernelRun.sl.r_115, kernelRun.sl.r_116,
      kernelRun.sl.r_117, kernelRun.sl.r_118, kernelRun.sl.r_119, kernelRun.sl.r_120, kernelRun.sl.r_121, kernelRun.sl.r_122, kernelRun.sl.r_123, kernelRun.sl.r_124,
      kernelRun.sl.r_125, kernelRun.sl.r_126, kernelRun.sl.r_127, kernelRun.sl.r_128, kernelRun.sl.r_129, kernelRun.sl.r_130, kernelRun.sl.r_131, kernelRun.sl.r_132,
      kernelRun.sl.r_133, kernelRun.sl.r_134, kernelRun.sl.r_135, kernelRun.sl.r_136, kernelRun.sl.r_137, kernelRun.sl.r_138, kernelRun.sl.r_139, kernelRun.sl.r_140,
      kernelRun.sl.r_141, kernelRun.sl.r_142, kernelRun.sl.r_143, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219, k0_pay220, k0_pay221, k0_pay222]
  simp (config := { proj := false }) (disch := decide) only [View.readCov, st2_read8, kernelRun.sl.v73, kernelRun.sl.v501, kernelRun.sl.v689, kernelRun.sl.v349, kernelRun.sl.v109, kernelRun.sl.v545, kernelRun.sl.v609, kernelRun.sl.v205,
      kernelRun.sl.v653, kernelRun.sl.v473, kernelRun.sl.v637, kernelRun.sl.v133, kernelRun.sl.v55, kernelRun.sl.v313, kernelRun.sl.v429, kernelRun.sl.v421,
      kernelRun.sl.v509, kernelRun.sl.v681, kernelRun.sl.v277, kernelRun.sl.v529, kernelRun.sl.v321, kernelRun.sl.v673, kernelRun.sl.v401, kernelRun.sl.v181,
      kernelRun.sl.v465, kernelRun.sl.v103, kernelRun.sl.v285, kernelRun.sl.v537, kernelRun.sl.v127, kernelRun.sl.v645, kernelRun.sl.v173, kernelRun.sl.v97,
      kernelRun.sl.v177, kernelRun.sl.v165, kernelRun.sl.v493, kernelRun.sl.v357, kernelRun.sl.v85, kernelRun.sl.v717, kernelRun.sl.v617, kernelRun.sl.v365,
      kernelRun.sl.v49, kernelRun.sl.v213, kernelRun.sl.v43, kernelRun.sl.v169, kernelRun.sl.v91, kernelRun.sl.v293, kernelRun.sl.v249, kernelRun.sl.v565,
      kernelRun.sl.v61, kernelRun.sl.v329, kernelRun.sl.v67, kernelRun.sl.v37, kernelRun.sl.v257, kernelRun.sl.v581, kernelRun.sl.v437, kernelRun.sl.v385,
      kernelRun.sl.v121, kernelRun.sl.v393, kernelRun.sl.v709, kernelRun.sl.v725, kernelRun.sl.v601, kernelRun.sl.v221, kernelRun.sl.v185, kernelRun.sl.v457,
      kernelRun.sl.v573, kernelRun.sl.v79, kernelRun.sl.v241, kernelRun.sl.v115, kst_eq]
  simp only [pick, weight, zero_add, Nat.reduceAdd, kY, w0_at]

theorem y1_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (f8 : BufTy.Contents (Elt Ideal) arg8.view.ty) (s : Fin 64) (r : Fin 2048) :
    (kernelRun.sl.r_140 c arg0 harg0 arg1 harg1 arg2 harg2 arg3 harg3 arg4 harg4 arg5 harg5 arg6 harg6 arg7 harg7 arg8 harg8 arg9 harg9 x0 x1 x2 x3 x4 f6 f8 (ix2 s r) : EReal) = pick (kernelRun.sl.r_11 c arg0 harg0 arg1 harg1 arg2 harg2 arg3 harg3 arg4 harg4 arg5 harg5 arg6 harg6 arg7 harg7 arg8 harg8 arg9 harg9 x0 x1 x2 x3 x4 f6 (ix2 s r)) (fun j => kY c arg0 harg0 arg1 harg1 arg2 harg2 arg3 harg3 arg4 harg4 arg5 harg5 arg6 harg6 arg7 harg7 arg8 harg8 arg9 harg9 x0 x1 x2 x3 r (j + 1)) 16 := by
  pointwise [kernelRun.sl.r_13, kernelRun.sl.r_14, kernelRun.sl.r_15, kernelRun.sl.r_16, kernelRun.sl.r_17, kernelRun.sl.r_18, kernelRun.sl.r_19, kernelRun.sl.r_20,
      kernelRun.sl.r_21, kernelRun.sl.r_22, kernelRun.sl.r_23, kernelRun.sl.r_24, kernelRun.sl.r_25, kernelRun.sl.r_26, kernelRun.sl.r_27, kernelRun.sl.r_28,
      kernelRun.sl.r_29, kernelRun.sl.r_30, kernelRun.sl.r_31, kernelRun.sl.r_32, kernelRun.sl.r_33, kernelRun.sl.r_34, kernelRun.sl.r_35, kernelRun.sl.r_36,
      kernelRun.sl.r_37, kernelRun.sl.r_38, kernelRun.sl.r_39, kernelRun.sl.r_40, kernelRun.sl.r_41, kernelRun.sl.r_42, kernelRun.sl.r_43, kernelRun.sl.r_44,
      kernelRun.sl.r_45, kernelRun.sl.r_46, kernelRun.sl.r_47, kernelRun.sl.r_48, kernelRun.sl.r_49, kernelRun.sl.r_50, kernelRun.sl.r_51, kernelRun.sl.r_52,
      kernelRun.sl.r_53, kernelRun.sl.r_54, kernelRun.sl.r_55, kernelRun.sl.r_56, kernelRun.sl.r_57, kernelRun.sl.r_58, kernelRun.sl.r_59, kernelRun.sl.r_60,
      kernelRun.sl.r_61, kernelRun.sl.r_62, kernelRun.sl.r_63, kernelRun.sl.r_64, kernelRun.sl.r_65, kernelRun.sl.r_66, kernelRun.sl.r_67, kernelRun.sl.r_68,
      kernelRun.sl.r_69, kernelRun.sl.r_70, kernelRun.sl.r_71, kernelRun.sl.r_72, kernelRun.sl.r_73, kernelRun.sl.r_74, kernelRun.sl.r_75, kernelRun.sl.r_76,
      kernelRun.sl.r_77, kernelRun.sl.r_78, kernelRun.sl.r_79, kernelRun.sl.r_80, kernelRun.sl.r_81, kernelRun.sl.r_82, kernelRun.sl.r_83, kernelRun.sl.r_84,
      kernelRun.sl.r_85, kernelRun.sl.r_86, kernelRun.sl.r_87, kernelRun.sl.r_88, kernelRun.sl.r_89, kernelRun.sl.r_90, kernelRun.sl.r_91, kernelRun.sl.r_92,
      kernelRun.sl.r_93, kernelRun.sl.r_94, kernelRun.sl.r_95, kernelRun.sl.r_96, kernelRun.sl.r_97, kernelRun.sl.r_98, kernelRun.sl.r_99, kernelRun.sl.r_100,
      kernelRun.sl.r_101, kernelRun.sl.r_102, kernelRun.sl.r_103, kernelRun.sl.r_104, kernelRun.sl.r_105, kernelRun.sl.r_106, kernelRun.sl.r_107, kernelRun.sl.r_108,
      kernelRun.sl.r_109, kernelRun.sl.r_110, kernelRun.sl.r_111, kernelRun.sl.r_112, kernelRun.sl.r_113, kernelRun.sl.r_114, kernelRun.sl.r_115, kernelRun.sl.r_116,
      kernelRun.sl.r_117, kernelRun.sl.r_118, kernelRun.sl.r_119, kernelRun.sl.r_120, kernelRun.sl.r_121, kernelRun.sl.r_122, kernelRun.sl.r_123, kernelRun.sl.r_124,
      kernelRun.sl.r_125, kernelRun.sl.r_126, kernelRun.sl.r_127, kernelRun.sl.r_128, kernelRun.sl.r_129, kernelRun.sl.r_130, kernelRun.sl.r_131, kernelRun.sl.r_132,
      kernelRun.sl.r_133, kernelRun.sl.r_134, kernelRun.sl.r_135, kernelRun.sl.r_136, kernelRun.sl.r_137, kernelRun.sl.r_138, kernelRun.sl.r_139, kernelRun.sl.r_140,
      kernelRun.sl.r_141, kernelRun.sl.r_142, kernelRun.sl.r_143, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219, k0_pay220, k0_pay221, k0_pay222]
  simp (config := { proj := false }) (disch := decide) only [View.readCov, st2_read8, kernelRun.sl.v73, kernelRun.sl.v501, kernelRun.sl.v689, kernelRun.sl.v349, kernelRun.sl.v109, kernelRun.sl.v545, kernelRun.sl.v609, kernelRun.sl.v205,
      kernelRun.sl.v653, kernelRun.sl.v473, kernelRun.sl.v637, kernelRun.sl.v133, kernelRun.sl.v55, kernelRun.sl.v313, kernelRun.sl.v429, kernelRun.sl.v421,
      kernelRun.sl.v509, kernelRun.sl.v681, kernelRun.sl.v277, kernelRun.sl.v529, kernelRun.sl.v321, kernelRun.sl.v673, kernelRun.sl.v401, kernelRun.sl.v181,
      kernelRun.sl.v465, kernelRun.sl.v103, kernelRun.sl.v285, kernelRun.sl.v537, kernelRun.sl.v127, kernelRun.sl.v645, kernelRun.sl.v173, kernelRun.sl.v97,
      kernelRun.sl.v177, kernelRun.sl.v165, kernelRun.sl.v493, kernelRun.sl.v357, kernelRun.sl.v85, kernelRun.sl.v717, kernelRun.sl.v617, kernelRun.sl.v365,
      kernelRun.sl.v49, kernelRun.sl.v213, kernelRun.sl.v43, kernelRun.sl.v169, kernelRun.sl.v91, kernelRun.sl.v293, kernelRun.sl.v249, kernelRun.sl.v565,
      kernelRun.sl.v61, kernelRun.sl.v329, kernelRun.sl.v67, kernelRun.sl.v37, kernelRun.sl.v257, kernelRun.sl.v581, kernelRun.sl.v437, kernelRun.sl.v385,
      kernelRun.sl.v121, kernelRun.sl.v393, kernelRun.sl.v709, kernelRun.sl.v725, kernelRun.sl.v601, kernelRun.sl.v221, kernelRun.sl.v185, kernelRun.sl.v457,
      kernelRun.sl.v573, kernelRun.sl.v79, kernelRun.sl.v241, kernelRun.sl.v115, kst_eq]
  simp only [pick, weight, zero_add, Nat.reduceAdd, kY, w0_at]

theorem z0_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (f9 : BufTy.Contents (Elt Ideal) arg9.view.ty) (s : Fin 64) (r : Fin 2048) :
    (kernelRun.sl.r_141 c arg0 harg0 arg1 harg1 arg2 harg2 arg3 harg3 arg4 harg4 arg5 harg5 arg6 harg6 arg7 harg7 arg8 harg8 arg9 harg9 x0 x1 x2 x3 x4 f6 f9 (ix2 s r) : EReal) = pick (kernelRun.sl.r_11 c arg0 harg0 arg1 harg1 arg2 harg2 arg3 harg3 arg4 harg4 arg5 harg5 arg6 harg6 arg7 harg7 arg8 harg8 arg9 harg9 x0 x1 x2 x3 x4 f6 (ix2 s r)) (kZ c arg0 harg0 arg1 harg1 arg2 harg2 arg3 harg3 arg4 harg4 arg5 harg5 arg6 harg6 arg7 harg7 arg8 harg8 arg9 harg9 x0 x1 x2 x3 r) 16 := by
  pointwise [kernelRun.sl.r_13, kernelRun.sl.r_14, kernelRun.sl.r_15, kernelRun.sl.r_16, kernelRun.sl.r_17, kernelRun.sl.r_18, kernelRun.sl.r_19, kernelRun.sl.r_20,
      kernelRun.sl.r_21, kernelRun.sl.r_22, kernelRun.sl.r_23, kernelRun.sl.r_24, kernelRun.sl.r_25, kernelRun.sl.r_26, kernelRun.sl.r_27, kernelRun.sl.r_28,
      kernelRun.sl.r_29, kernelRun.sl.r_30, kernelRun.sl.r_31, kernelRun.sl.r_32, kernelRun.sl.r_33, kernelRun.sl.r_34, kernelRun.sl.r_35, kernelRun.sl.r_36,
      kernelRun.sl.r_37, kernelRun.sl.r_38, kernelRun.sl.r_39, kernelRun.sl.r_40, kernelRun.sl.r_41, kernelRun.sl.r_42, kernelRun.sl.r_43, kernelRun.sl.r_44,
      kernelRun.sl.r_45, kernelRun.sl.r_46, kernelRun.sl.r_47, kernelRun.sl.r_48, kernelRun.sl.r_49, kernelRun.sl.r_50, kernelRun.sl.r_51, kernelRun.sl.r_52,
      kernelRun.sl.r_53, kernelRun.sl.r_54, kernelRun.sl.r_55, kernelRun.sl.r_56, kernelRun.sl.r_57, kernelRun.sl.r_58, kernelRun.sl.r_59, kernelRun.sl.r_60,
      kernelRun.sl.r_61, kernelRun.sl.r_62, kernelRun.sl.r_63, kernelRun.sl.r_64, kernelRun.sl.r_65, kernelRun.sl.r_66, kernelRun.sl.r_67, kernelRun.sl.r_68,
      kernelRun.sl.r_69, kernelRun.sl.r_70, kernelRun.sl.r_71, kernelRun.sl.r_72, kernelRun.sl.r_73, kernelRun.sl.r_74, kernelRun.sl.r_75, kernelRun.sl.r_76,
      kernelRun.sl.r_77, kernelRun.sl.r_78, kernelRun.sl.r_79, kernelRun.sl.r_80, kernelRun.sl.r_81, kernelRun.sl.r_82, kernelRun.sl.r_83, kernelRun.sl.r_84,
      kernelRun.sl.r_85, kernelRun.sl.r_86, kernelRun.sl.r_87, kernelRun.sl.r_88, kernelRun.sl.r_89, kernelRun.sl.r_90, kernelRun.sl.r_91, kernelRun.sl.r_92,
      kernelRun.sl.r_93, kernelRun.sl.r_94, kernelRun.sl.r_95, kernelRun.sl.r_96, kernelRun.sl.r_97, kernelRun.sl.r_98, kernelRun.sl.r_99, kernelRun.sl.r_100,
      kernelRun.sl.r_101, kernelRun.sl.r_102, kernelRun.sl.r_103, kernelRun.sl.r_104, kernelRun.sl.r_105, kernelRun.sl.r_106, kernelRun.sl.r_107, kernelRun.sl.r_108,
      kernelRun.sl.r_109, kernelRun.sl.r_110, kernelRun.sl.r_111, kernelRun.sl.r_112, kernelRun.sl.r_113, kernelRun.sl.r_114, kernelRun.sl.r_115, kernelRun.sl.r_116,
      kernelRun.sl.r_117, kernelRun.sl.r_118, kernelRun.sl.r_119, kernelRun.sl.r_120, kernelRun.sl.r_121, kernelRun.sl.r_122, kernelRun.sl.r_123, kernelRun.sl.r_124,
      kernelRun.sl.r_125, kernelRun.sl.r_126, kernelRun.sl.r_127, kernelRun.sl.r_128, kernelRun.sl.r_129, kernelRun.sl.r_130, kernelRun.sl.r_131, kernelRun.sl.r_132,
      kernelRun.sl.r_133, kernelRun.sl.r_134, kernelRun.sl.r_135, kernelRun.sl.r_136, kernelRun.sl.r_137, kernelRun.sl.r_138, kernelRun.sl.r_139, kernelRun.sl.r_140,
      kernelRun.sl.r_141, kernelRun.sl.r_142, kernelRun.sl.r_143, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219, k0_pay220, k0_pay221, k0_pay222]
  simp (config := { proj := false }) (disch := decide) only [View.readCov, st2_read9, kernelRun.sl.v73, kernelRun.sl.v501, kernelRun.sl.v689, kernelRun.sl.v349, kernelRun.sl.v109, kernelRun.sl.v545, kernelRun.sl.v609, kernelRun.sl.v205,
      kernelRun.sl.v653, kernelRun.sl.v473, kernelRun.sl.v637, kernelRun.sl.v133, kernelRun.sl.v55, kernelRun.sl.v313, kernelRun.sl.v429, kernelRun.sl.v421,
      kernelRun.sl.v509, kernelRun.sl.v681, kernelRun.sl.v277, kernelRun.sl.v529, kernelRun.sl.v321, kernelRun.sl.v673, kernelRun.sl.v401, kernelRun.sl.v181,
      kernelRun.sl.v465, kernelRun.sl.v103, kernelRun.sl.v285, kernelRun.sl.v537, kernelRun.sl.v127, kernelRun.sl.v645, kernelRun.sl.v173, kernelRun.sl.v97,
      kernelRun.sl.v177, kernelRun.sl.v165, kernelRun.sl.v493, kernelRun.sl.v357, kernelRun.sl.v85, kernelRun.sl.v717, kernelRun.sl.v617, kernelRun.sl.v365,
      kernelRun.sl.v49, kernelRun.sl.v213, kernelRun.sl.v43, kernelRun.sl.v169, kernelRun.sl.v91, kernelRun.sl.v293, kernelRun.sl.v249, kernelRun.sl.v565,
      kernelRun.sl.v61, kernelRun.sl.v329, kernelRun.sl.v67, kernelRun.sl.v37, kernelRun.sl.v257, kernelRun.sl.v581, kernelRun.sl.v437, kernelRun.sl.v385,
      kernelRun.sl.v121, kernelRun.sl.v393, kernelRun.sl.v709, kernelRun.sl.v725, kernelRun.sl.v601, kernelRun.sl.v221, kernelRun.sl.v185, kernelRun.sl.v457,
      kernelRun.sl.v573, kernelRun.sl.v79, kernelRun.sl.v241, kernelRun.sl.v115, kst_eq]
  simp only [pick, weight, zero_add, Nat.reduceAdd, kZ, w0_at]

theorem z1_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (f9 : BufTy.Contents (Elt Ideal) arg9.view.ty) (s : Fin 64) (r : Fin 2048) :
    ((kernelRun.sl.r_133 c arg0 harg0 arg1 harg1 arg2 harg2 arg3 harg3 arg4 harg4 arg5 harg5 arg6 harg6 arg7 harg7 arg8 harg8 arg9 harg9 x0 x1 x2 x3 x4 f6 f9 (ix2 s r) : EReal) + kernelRun.sl.r_134 c arg0 harg0 arg1 harg1 arg2 harg2 arg3 harg3 arg4 harg4 arg5 harg5 arg6 harg6 arg7 harg7 arg8 harg8 arg9 harg9 x0 x1 x2 x3 x4 f6 (ix2 s r) * kernelRun.sl.r_142 c arg0 harg0 arg1 harg1 arg2 harg2 arg3 harg3 arg4 harg4 arg5 harg5 arg6 harg6 arg7 harg7 arg8 harg8 arg9 harg9 x0 x1 x2 x3 f9 (ix2 s r)) = pick (kernelRun.sl.r_11 c arg0 harg0 arg1 harg1 arg2 harg2 arg3 harg3 arg4 harg4 arg5 harg5 arg6 harg6 arg7 harg7 arg8 harg8 arg9 harg9 x0 x1 x2 x3 x4 f6 (ix2 s r)) (fun j => kZ c arg0 harg0 arg1 harg1 arg2 harg2 arg3 harg3 arg4 harg4 arg5 harg5 arg6 harg6 arg7 harg7 arg8 harg8 arg9 harg9 x0 x1 x2 x3 r (j + 1)) 16 := by
  pointwise [kernelRun.sl.r_13, kernelRun.sl.r_14, kernelRun.sl.r_15, kernelRun.sl.r_16, kernelRun.sl.r_17, kernelRun.sl.r_18, kernelRun.sl.r_19, kernelRun.sl.r_20,
      kernelRun.sl.r_21, kernelRun.sl.r_22, kernelRun.sl.r_23, kernelRun.sl.r_24, kernelRun.sl.r_25, kernelRun.sl.r_26, kernelRun.sl.r_27, kernelRun.sl.r_28,
      kernelRun.sl.r_29, kernelRun.sl.r_30, kernelRun.sl.r_31, kernelRun.sl.r_32, kernelRun.sl.r_33, kernelRun.sl.r_34, kernelRun.sl.r_35, kernelRun.sl.r_36,
      kernelRun.sl.r_37, kernelRun.sl.r_38, kernelRun.sl.r_39, kernelRun.sl.r_40, kernelRun.sl.r_41, kernelRun.sl.r_42, kernelRun.sl.r_43, kernelRun.sl.r_44,
      kernelRun.sl.r_45, kernelRun.sl.r_46, kernelRun.sl.r_47, kernelRun.sl.r_48, kernelRun.sl.r_49, kernelRun.sl.r_50, kernelRun.sl.r_51, kernelRun.sl.r_52,
      kernelRun.sl.r_53, kernelRun.sl.r_54, kernelRun.sl.r_55, kernelRun.sl.r_56, kernelRun.sl.r_57, kernelRun.sl.r_58, kernelRun.sl.r_59, kernelRun.sl.r_60,
      kernelRun.sl.r_61, kernelRun.sl.r_62, kernelRun.sl.r_63, kernelRun.sl.r_64, kernelRun.sl.r_65, kernelRun.sl.r_66, kernelRun.sl.r_67, kernelRun.sl.r_68,
      kernelRun.sl.r_69, kernelRun.sl.r_70, kernelRun.sl.r_71, kernelRun.sl.r_72, kernelRun.sl.r_73, kernelRun.sl.r_74, kernelRun.sl.r_75, kernelRun.sl.r_76,
      kernelRun.sl.r_77, kernelRun.sl.r_78, kernelRun.sl.r_79, kernelRun.sl.r_80, kernelRun.sl.r_81, kernelRun.sl.r_82, kernelRun.sl.r_83, kernelRun.sl.r_84,
      kernelRun.sl.r_85, kernelRun.sl.r_86, kernelRun.sl.r_87, kernelRun.sl.r_88, kernelRun.sl.r_89, kernelRun.sl.r_90, kernelRun.sl.r_91, kernelRun.sl.r_92,
      kernelRun.sl.r_93, kernelRun.sl.r_94, kernelRun.sl.r_95, kernelRun.sl.r_96, kernelRun.sl.r_97, kernelRun.sl.r_98, kernelRun.sl.r_99, kernelRun.sl.r_100,
      kernelRun.sl.r_101, kernelRun.sl.r_102, kernelRun.sl.r_103, kernelRun.sl.r_104, kernelRun.sl.r_105, kernelRun.sl.r_106, kernelRun.sl.r_107, kernelRun.sl.r_108,
      kernelRun.sl.r_109, kernelRun.sl.r_110, kernelRun.sl.r_111, kernelRun.sl.r_112, kernelRun.sl.r_113, kernelRun.sl.r_114, kernelRun.sl.r_115, kernelRun.sl.r_116,
      kernelRun.sl.r_117, kernelRun.sl.r_118, kernelRun.sl.r_119, kernelRun.sl.r_120, kernelRun.sl.r_121, kernelRun.sl.r_122, kernelRun.sl.r_123, kernelRun.sl.r_124,
      kernelRun.sl.r_125, kernelRun.sl.r_126, kernelRun.sl.r_127, kernelRun.sl.r_128, kernelRun.sl.r_129, kernelRun.sl.r_130, kernelRun.sl.r_131, kernelRun.sl.r_132,
      kernelRun.sl.r_133, kernelRun.sl.r_134, kernelRun.sl.r_135, kernelRun.sl.r_136, kernelRun.sl.r_137, kernelRun.sl.r_138, kernelRun.sl.r_139, kernelRun.sl.r_140,
      kernelRun.sl.r_141, kernelRun.sl.r_142, kernelRun.sl.r_143, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129, k0_pay130, k0_pay131, k0_pay132,
      k0_pay133, k0_pay134, k0_pay135, k0_pay136, k0_pay137, k0_pay138, k0_pay139, k0_pay140, k0_pay141, k0_pay142, k0_pay143, k0_pay144, k0_pay145, k0_pay146, k0_pay147,
      k0_pay148, k0_pay149, k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189, k0_pay190, k0_pay191, k0_pay192,
      k0_pay193, k0_pay194, k0_pay195, k0_pay196, k0_pay197, k0_pay198, k0_pay199, k0_pay200, k0_pay201, k0_pay202, k0_pay203, k0_pay204, k0_pay205, k0_pay206, k0_pay207,
      k0_pay208, k0_pay209, k0_pay210, k0_pay211, k0_pay212, k0_pay213, k0_pay214, k0_pay215, k0_pay216, k0_pay217, k0_pay218, k0_pay219, k0_pay220, k0_pay221, k0_pay222]
  simp (config := { proj := false }) (disch := decide) only [View.readCov, st2_read9, kernelRun.sl.v73, kernelRun.sl.v501, kernelRun.sl.v689, kernelRun.sl.v349, kernelRun.sl.v109, kernelRun.sl.v545, kernelRun.sl.v609, kernelRun.sl.v205,
      kernelRun.sl.v653, kernelRun.sl.v473, kernelRun.sl.v637, kernelRun.sl.v133, kernelRun.sl.v55, kernelRun.sl.v313, kernelRun.sl.v429, kernelRun.sl.v421,
      kernelRun.sl.v509, kernelRun.sl.v681, kernelRun.sl.v277, kernelRun.sl.v529, kernelRun.sl.v321, kernelRun.sl.v673, kernelRun.sl.v401, kernelRun.sl.v181,
      kernelRun.sl.v465, kernelRun.sl.v103, kernelRun.sl.v285, kernelRun.sl.v537, kernelRun.sl.v127, kernelRun.sl.v645, kernelRun.sl.v173, kernelRun.sl.v97,
      kernelRun.sl.v177, kernelRun.sl.v165, kernelRun.sl.v493, kernelRun.sl.v357, kernelRun.sl.v85, kernelRun.sl.v717, kernelRun.sl.v617, kernelRun.sl.v365,
      kernelRun.sl.v49, kernelRun.sl.v213, kernelRun.sl.v43, kernelRun.sl.v169, kernelRun.sl.v91, kernelRun.sl.v293, kernelRun.sl.v249, kernelRun.sl.v565,
      kernelRun.sl.v61, kernelRun.sl.v329, kernelRun.sl.v67, kernelRun.sl.v37, kernelRun.sl.v257, kernelRun.sl.v581, kernelRun.sl.v437, kernelRun.sl.v385,
      kernelRun.sl.v121, kernelRun.sl.v393, kernelRun.sl.v709, kernelRun.sl.v725, kernelRun.sl.v601, kernelRun.sl.v221, kernelRun.sl.v185, kernelRun.sl.v457,
      kernelRun.sl.v573, kernelRun.sl.v79, kernelRun.sl.v241, kernelRun.sl.v115, kst_eq]
  simp only [pick, weight, zero_add, Nat.reduceAdd, kZ, w0_at]

/-- The weighted sum is the value at the slot. -/
theorem pick_upto (i : ℕ) (hi : i < 16) (D : ℕ → EReal) : ∀ n ≤ 16, pick (BitVec.ofNat 32 i) D n = if i < n then D i else 0
  | 0, _ => by simp [pick]
  | n + 1, hn => by
    show pick (BitVec.ofNat 32 i) D n + weight (BitVec.ofNat 32 i) n * D n = _
    rw [pick_upto i hi D n (by omega), weight, hot (by omega) (by omega)]
    rcases lt_trichotomy i n with h | h | h
    · rw [if_pos h, if_neg (by omega), if_pos (by omega), zero_mul, add_zero]
    · subst h; rw [if_neg (by omega), if_pos rfl, if_pos (by omega), one_mul, zero_add]
    · rw [if_neg (by omega), if_neg (by omega), if_neg (by omega), zero_mul, add_zero]

theorem pick_slot (D D' : ℕ → EReal) (z : EReal) : pick (slot D z) D' 16 = D' (slotAt D z) := by
  rw [slot_eq, pick_upto _ (slotAt_lt D z) D' 16 (le_refl _), if_pos (slotAt_lt D z)]

theorem plane0 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (f7 : BufTy.Contents (Elt Ideal) arg7.view.ty) (s : Fin 64) (r : Fin 2048) :
    (k0_pay220 (kernelRun.sl.r_7 arg4 harg4 x4) (kernelRun.sl.r_135 c arg0 harg0 arg1 harg1 arg2 harg2 arg3 harg3 arg4 harg4 arg5 harg5 arg6 harg6 arg7 harg7 arg8 harg8 arg9 harg9 x0 x1 x2 x3 x4 f6) (kernelRun.sl.r_136 c arg0 harg0 arg1 harg1 arg2 harg2 arg3 harg3 arg4 harg4 arg5 harg5 arg6 harg6 arg7 harg7 arg8 harg8 arg9 harg9 x0 x1 x2 x3 x4 f6) (kernelRun.sl.r_137 c arg0 harg0 arg1 harg1 arg2 harg2 arg3 harg3 arg4 harg4 arg5 harg5 arg6 harg6 arg7 harg7 arg8 harg8 arg9 harg9 x0 x1 x2 x3 x4 f6 f7) (kernelRun.sl.r_138 c arg0 harg0 arg1 harg1 arg2 harg2 arg3 harg3 arg4 harg4 arg5 harg5 arg6 harg6 arg7 harg7 arg8 harg8 arg9 harg9 x0 x1 x2 x3 x4 f6 f7) (ix3 0 s r) : EReal)
      = sample (kD c arg0 harg0 arg1 harg1 arg2 harg2 arg3 harg3 arg4 harg4 arg5 harg5 arg6 harg6 arg7 harg7 arg8 harg8 arg9 harg9 x0 x1 x2 x3 r) (kX c arg0 harg0 arg1 harg1 arg2 harg2 arg3 harg3 arg4 harg4 arg5 harg5 arg6 harg6 arg7 harg7 arg8 harg8 arg9 harg9 x0 x1 x2 x3 r) (x4 (ix2 s 0)) := by
  pointwise [k0_pay220, k0_pay219, kernelRun.sl.r_7, k0_pay72]
  rw [z_at, d0_at, d1_at, x0_at, x1_at, slot_at, pick_slot, pick_slot, pick_slot, pick_slot]
  rfl

theorem plane1 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (f8 : BufTy.Contents (Elt Ideal) arg8.view.ty) (s : Fin 64) (r : Fin 2048) :
    (k0_pay221 (kernelRun.sl.r_7 arg4 harg4 x4) (kernelRun.sl.r_135 c arg0 harg0 arg1 harg1 arg2 harg2 arg3 harg3 arg4 harg4 arg5 harg5 arg6 harg6 arg7 harg7 arg8 harg8 arg9 harg9 x0 x1 x2 x3 x4 f6) (kernelRun.sl.r_136 c arg0 harg0 arg1 harg1 arg2 harg2 arg3 harg3 arg4 harg4 arg5 harg5 arg6 harg6 arg7 harg7 arg8 harg8 arg9 harg9 x0 x1 x2 x3 x4 f6) (kernelRun.sl.r_139 c arg0 harg0 arg1 harg1 arg2 harg2 arg3 harg3 arg4 harg4 arg5 harg5 arg6 harg6 arg7 harg7 arg8 harg8 arg9 harg9 x0 x1 x2 x3 x4 f6 f8) (kernelRun.sl.r_140 c arg0 harg0 arg1 harg1 arg2 harg2 arg3 harg3 arg4 harg4 arg5 harg5 arg6 harg6 arg7 harg7 arg8 harg8 arg9 harg9 x0 x1 x2 x3 x4 f6 f8) (ix3 0 s r) : EReal)
      = sample (kD c arg0 harg0 arg1 harg1 arg2 harg2 arg3 harg3 arg4 harg4 arg5 harg5 arg6 harg6 arg7 harg7 arg8 harg8 arg9 harg9 x0 x1 x2 x3 r) (kY c arg0 harg0 arg1 harg1 arg2 harg2 arg3 harg3 arg4 harg4 arg5 harg5 arg6 harg6 arg7 harg7 arg8 harg8 arg9 harg9 x0 x1 x2 x3 r) (x4 (ix2 s 0)) := by
  pointwise [k0_pay221, k0_pay219, kernelRun.sl.r_7, k0_pay72]
  rw [z_at, d0_at, d1_at, y0_at, y1_at, slot_at, pick_slot, pick_slot, pick_slot, pick_slot]
  rfl

theorem plane2 (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (f6 : BufTy.Contents (Elt Ideal) arg6.view.ty) (f9 : BufTy.Contents (Elt Ideal) arg9.view.ty) (s : Fin 64) (r : Fin 2048) :
    (kernelRun.sl.r_143 c arg0 harg0 arg1 harg1 arg2 harg2 arg3 harg3 arg4 harg4 arg5 harg5 arg6 harg6 arg7 harg7 arg8 harg8 arg9 harg9 x0 x1 x2 x3 x4 f6 f9 (ix3 0 s r) : EReal)
      = sample (kD c arg0 harg0 arg1 harg1 arg2 harg2 arg3 harg3 arg4 harg4 arg5 harg5 arg6 harg6 arg7 harg7 arg8 harg8 arg9 harg9 x0 x1 x2 x3 r) (kZ c arg0 harg0 arg1 harg1 arg2 harg2 arg3 harg3 arg4 harg4 arg5 harg5 arg6 harg6 arg7 harg7 arg8 harg8 arg9 harg9 x0 x1 x2 x3 r) (x4 (ix2 s 0)) := by
  pointwise [kernelRun.sl.r_143, k0_pay222, k0_pay219, kernelRun.sl.r_7, k0_pay72]
  rw [z_at, d0_at, d1_at, z0_at, z1_at, slot_at, pick_slot, pick_slot, pick_slot, pick_slot]
  rfl

/-- The ray as the kernel starts it. -/
def kstart (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (r : Fin 2048) : Ray :=
  ⟨kernelRun.sl.r_3 c arg0 harg0 arg1 harg1 arg2 harg2 arg3 harg3 arg4 harg4 arg5 harg5 arg6 harg6 arg7 harg7 arg8 harg8 arg9 harg9 x0 x2 (ix2 0 r), fun i => x0 (ix2 i r), fun i => x1 (ix2 i r)⟩

theorem row_at (arg0 : Memref sig .tc .vmem S3x2048 .f32) (harg0 : arg0.IsWhole) (x0 : Vec Ideal S3x2048 .f32) (i : Fin 3) (inb) (r : Fin 2048) :
    (View.readAt (Elt Ideal) arg0.view (Rect.unit (s := S3x2048) ![i.val, 0] S1x2048.size inb).toLoadRect (harg0.unread x0) (ix2 0 r) : EReal) = x0 (ix2 i r) := by
  rw [View.readAt_eq_ld, Memref.IsWhole.read_unread]
  exact congrArg x0 (funext fun a => Fin.ext (by fin_cases a <;> simp [Rect.unit, Rect.toLoadRect]))

theorem whole_at (arg0 : Memref sig .tc .vmem S3x2048 .f32) (harg0 : arg0.IsWhole) (x0 : Vec Ideal S3x2048 .f32) (i : Fin 3) (inb) (r : Fin 2048) :
    (View.readAt (Elt Ideal) arg0.view (Rect.unit (s := S3x2048) ![0, 0] S3x2048.size inb).toLoadRect (harg0.unread x0) (ix2 i r) : EReal) = x0 (ix2 i r) := by
  rw [View.readAt_eq_ld, Memref.IsWhole.read_unread]
  exact congrArg x0 (funext fun a => Fin.ext (by fin_cases a <;> simp [Rect.unit, Rect.toLoadRect]))

theorem kstart_eq (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (r : Fin 2048) :
    kray (kst c arg0 harg0 arg1 harg1 arg2 harg2 arg3 harg3 arg4 harg4 arg5 harg5 arg6 harg6 arg7 harg7 arg8 harg8 arg9 harg9 x0 x1 x2 x3 0) r = kstart c arg0 harg0 arg1 harg1 arg2 harg2 arg3 harg3 arg4 harg4 arg5 harg5 arg6 harg6 arg7 harg7 arg8 harg8 arg9 harg9 x0 x1 x2 r := by
  show kray (kernelRun.sl.r_3 c arg0 harg0 arg1 harg1 arg2 harg2 arg3 harg3 arg4 harg4 arg5 harg5 arg6 harg6 arg7 harg7 arg8 harg8 arg9 harg9 x0 x2, kernelRun.sl.r arg0 harg0 x0, kernelRun.sl.r_1 arg0 harg0 x0, kernelRun.sl.r_2 arg0 harg0 x0,
      kernelRun.sl.r_4 arg1 harg1 x1, kernelRun.sl.r_5 arg1 harg1 x1, kernelRun.sl.r_6 arg1 harg1 x1, k0_pay67 kernelRun.sl.cst_15) r = _
  unfold kray kstart
  congr 1
  · funext i
    have := row_at arg0 harg0 x0 i
    fin_cases i
    · show (kernelRun.sl.r arg0 harg0 x0 (ix2 0 r) : EReal) = _
      pointwise [kernelRun.sl.r, k0_pay53]
      exact this _ r
    · show (kernelRun.sl.r_1 arg0 harg0 x0 (ix2 0 r) : EReal) = _
      pointwise [kernelRun.sl.r_1, k0_pay54]
      exact this _ r
    · show (kernelRun.sl.r_2 arg0 harg0 x0 (ix2 0 r) : EReal) = _
      pointwise [kernelRun.sl.r_2, k0_pay55]
      exact this _ r
  · funext i
    have := whole_at arg1 harg1 x1 i
    fin_cases i
    · show (kernelRun.sl.r_4 arg1 harg1 x1 (ix2 0 r) : EReal) = _
      pointwise [kernelRun.sl.r_4, k0_pay64, k0_pay63]
      exact this _ r
    · show (kernelRun.sl.r_5 arg1 harg1 x1 (ix2 0 r) : EReal) = _
      pointwise [kernelRun.sl.r_5, k0_pay65, k0_pay63]
      exact this _ r
    · show (kernelRun.sl.r_6 arg1 harg1 x1 (ix2 0 r) : EReal) = _
      pointwise [kernelRun.sl.r_6, k0_pay66, k0_pay63]
      exact this _ r

/-- The places the kernel keeps are the walk's. -/
theorem kept_path (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (r : Fin 2048) {T : Mesh} (hT : Holds x3 T) (ok : T.Ok) (hi : InRange (kernelRun.sl.r_3 c arg0 harg0 arg1 harg1 arg2 harg2 arg3 harg3 arg4 harg4 arg5 harg5 arg6 harg6 arg7 harg7 arg8 harg8 arg9 harg9 x0 x2 (ix2 0 r))) (j : ℕ) (hj : j ≤ 16) :
    kray (kst c arg0 harg0 arg1 harg1 arg2 harg2 arg3 harg3 arg4 harg4 arg5 harg5 arg6 harg6 arg7 harg7 arg8 harg8 arg9 harg9 x0 x1 x2 x3 j) r = path T (kstart c arg0 harg0 arg1 harg1 arg2 harg2 arg3 harg3 arg4 harg4 arg5 harg5 arg6 harg6 arg7 harg7 arg8 harg8 arg9 harg9 x0 x1 x2 r) j
      ∧ ((kst c arg0 harg0 arg1 harg1 arg2 harg2 arg3 harg3 arg4 harg4 arg5 harg5 arg6 harg6 arg7 harg7 arg8 harg8 arg9 harg9 x0 x1 x2 x3 j).2.2.2.2.2.2.2 (ix2 0 r) : EReal) = dist T (kstart c arg0 harg0 arg1 harg1 arg2 harg2 arg3 harg3 arg4 harg4 arg5 harg5 arg6 harg6 arg7 harg7 arg8 harg8 arg9 harg9 x0 x1 x2 r) j := by
  rw [← kstart_eq c arg0 harg0 arg1 harg1 arg2 harg2 arg3 harg3 arg4 harg4 arg5 harg5 arg6 harg6 arg7 harg7 arg8 harg8 arg9 harg9 x0 x1 x2 x3 r]
  refine st2_path c arg0 harg0 arg1 harg1 arg2 harg2 arg3 harg3 arg4 harg4 arg5 harg5 arg6 harg6 arg7 harg7 arg8 harg8 arg9 harg9 _ _ _ _ _ _ _ _ _ _ r ?_ ok hi ?_ j hj
  · rw [Memref.IsWhole.read_unread]; exact hT
  · show (k0_pay67 (F := Ideal) kernelRun.sl.cst_15 (ix2 0 r) : EReal) = 0
    pointwise [k0_pay67, kernelRun.sl.cst_15]

theorem kD_eq (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (r : Fin 2048) {T : Mesh} (hT : Holds x3 T) (ok : T.Ok) (hi : InRange (kernelRun.sl.r_3 c arg0 harg0 arg1 harg1 arg2 harg2 arg3 harg3 arg4 harg4 arg5 harg5 arg6 harg6 arg7 harg7 arg8 harg8 arg9 harg9 x0 x2 (ix2 0 r))) :
    ∀ j ≤ 16, kD c arg0 harg0 arg1 harg1 arg2 harg2 arg3 harg3 arg4 harg4 arg5 harg5 arg6 harg6 arg7 harg7 arg8 harg8 arg9 harg9 x0 x1 x2 x3 r j = dist T (kstart c arg0 harg0 arg1 harg1 arg2 harg2 arg3 harg3 arg4 harg4 arg5 harg5 arg6 harg6 arg7 harg7 arg8 harg8 arg9 harg9 x0 x1 x2 r) j
  | 0, _ => by
    show (k0_pay59 (F := Ideal) (ix2 0 r) : EReal) = 0
    pointwise [k0_pay59]
  | j + 1, hj => by
    rw [← (kept_path c arg0 harg0 arg1 harg1 arg2 harg2 arg3 harg3 arg4 harg4 arg5 harg5 arg6 harg6 arg7 harg7 arg8 harg8 arg9 harg9 x0 x1 x2 x3 r hT ok hi (j + 1) hj).2]
    show (k0_pay68 (kst c arg0 harg0 arg1 harg1 arg2 harg2 arg3 harg3 arg4 harg4 arg5 harg5 arg6 harg6 arg7 harg7 arg8 harg8 arg9 harg9 x0 x1 x2 x3 (j + 1)).2.2.2.2.2.2.2 (ix2 0 r) : EReal) = _
    pointwise [k0_pay68]

theorem kX_eq (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (r : Fin 2048) {T : Mesh} (hT : Holds x3 T) (ok : T.Ok) (hi : InRange (kernelRun.sl.r_3 c arg0 harg0 arg1 harg1 arg2 harg2 arg3 harg3 arg4 harg4 arg5 harg5 arg6 harg6 arg7 harg7 arg8 harg8 arg9 harg9 x0 x2 (ix2 0 r))) :
    ∀ j ≤ 16, kX c arg0 harg0 arg1 harg1 arg2 harg2 arg3 harg3 arg4 harg4 arg5 harg5 arg6 harg6 arg7 harg7 arg8 harg8 arg9 harg9 x0 x1 x2 x3 r j = (path T (kstart c arg0 harg0 arg1 harg1 arg2 harg2 arg3 harg3 arg4 harg4 arg5 harg5 arg6 harg6 arg7 harg7 arg8 harg8 arg9 harg9 x0 x1 x2 r) j).pos 0
  | 0, _ => by
    show (k0_pay60 (View.readAt (Elt Ideal) arg0.view (Rect.unit (s := S3x2048) ![0, 0] S1x2048.size _).toLoadRect (harg0.unread x0)) (ix2 0 r) : EReal) = _
    pointwise [k0_pay60, k0_pay53, k0_pay54, k0_pay55]
    exact row_at arg0 harg0 x0 0 _ r
  | j + 1, hj => by
    rw [← (kept_path c arg0 harg0 arg1 harg1 arg2 harg2 arg3 harg3 arg4 harg4 arg5 harg5 arg6 harg6 arg7 harg7 arg8 harg8 arg9 harg9 x0 x1 x2 x3 r hT ok hi (j + 1) hj).1]
    show (k0_pay69 (kst c arg0 harg0 arg1 harg1 arg2 harg2 arg3 harg3 arg4 harg4 arg5 harg5 arg6 harg6 arg7 harg7 arg8 harg8 arg9 harg9 x0 x1 x2 x3 (j + 1)).2.1 (ix2 0 r) : EReal) = (kst c arg0 harg0 arg1 harg1 arg2 harg2 arg3 harg3 arg4 harg4 arg5 harg5 arg6 harg6 arg7 harg7 arg8 harg8 arg9 harg9 x0 x1 x2 x3 (j + 1)).2.1 (ix2 0 r)
    pointwise [k0_pay69]

theorem kY_eq (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (r : Fin 2048) {T : Mesh} (hT : Holds x3 T) (ok : T.Ok) (hi : InRange (kernelRun.sl.r_3 c arg0 harg0 arg1 harg1 arg2 harg2 arg3 harg3 arg4 harg4 arg5 harg5 arg6 harg6 arg7 harg7 arg8 harg8 arg9 harg9 x0 x2 (ix2 0 r))) :
    ∀ j ≤ 16, kY c arg0 harg0 arg1 harg1 arg2 harg2 arg3 harg3 arg4 harg4 arg5 harg5 arg6 harg6 arg7 harg7 arg8 harg8 arg9 harg9 x0 x1 x2 x3 r j = (path T (kstart c arg0 harg0 arg1 harg1 arg2 harg2 arg3 harg3 arg4 harg4 arg5 harg5 arg6 harg6 arg7 harg7 arg8 harg8 arg9 harg9 x0 x1 x2 r) j).pos 1
  | 0, _ => by
    show (k0_pay61 (View.readAt (Elt Ideal) arg0.view (Rect.unit (s := S3x2048) ![1, 0] S1x2048.size _).toLoadRect (harg0.unread x0)) (ix2 0 r) : EReal) = _
    pointwise [k0_pay61, k0_pay53, k0_pay54, k0_pay55]
    exact row_at arg0 harg0 x0 1 _ r
  | j + 1, hj => by
    rw [← (kept_path c arg0 harg0 arg1 harg1 arg2 harg2 arg3 harg3 arg4 harg4 arg5 harg5 arg6 harg6 arg7 harg7 arg8 harg8 arg9 harg9 x0 x1 x2 x3 r hT ok hi (j + 1) hj).1]
    show (k0_pay70 (kst c arg0 harg0 arg1 harg1 arg2 harg2 arg3 harg3 arg4 harg4 arg5 harg5 arg6 harg6 arg7 harg7 arg8 harg8 arg9 harg9 x0 x1 x2 x3 (j + 1)).2.2.1 (ix2 0 r) : EReal) = (kst c arg0 harg0 arg1 harg1 arg2 harg2 arg3 harg3 arg4 harg4 arg5 harg5 arg6 harg6 arg7 harg7 arg8 harg8 arg9 harg9 x0 x1 x2 x3 (j + 1)).2.2.1 (ix2 0 r)
    pointwise [k0_pay70]

theorem kZ_eq (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (r : Fin 2048) {T : Mesh} (hT : Holds x3 T) (ok : T.Ok) (hi : InRange (kernelRun.sl.r_3 c arg0 harg0 arg1 harg1 arg2 harg2 arg3 harg3 arg4 harg4 arg5 harg5 arg6 harg6 arg7 harg7 arg8 harg8 arg9 harg9 x0 x2 (ix2 0 r))) :
    ∀ j ≤ 16, kZ c arg0 harg0 arg1 harg1 arg2 harg2 arg3 harg3 arg4 harg4 arg5 harg5 arg6 harg6 arg7 harg7 arg8 harg8 arg9 harg9 x0 x1 x2 x3 r j = (path T (kstart c arg0 harg0 arg1 harg1 arg2 harg2 arg3 harg3 arg4 harg4 arg5 harg5 arg6 harg6 arg7 harg7 arg8 harg8 arg9 harg9 x0 x1 x2 r) j).pos 2
  | 0, _ => by
    show (k0_pay62 (View.readAt (Elt Ideal) arg0.view (Rect.unit (s := S3x2048) ![2, 0] S1x2048.size _).toLoadRect (harg0.unread x0)) (ix2 0 r) : EReal) = _
    pointwise [k0_pay62, k0_pay53, k0_pay54, k0_pay55]
    exact row_at arg0 harg0 x0 2 _ r
  | j + 1, hj => by
    rw [← (kept_path c arg0 harg0 arg1 harg1 arg2 harg2 arg3 harg3 arg4 harg4 arg5 harg5 arg6 harg6 arg7 harg7 arg8 harg8 arg9 harg9 x0 x1 x2 x3 r hT ok hi (j + 1) hj).1]
    show (k0_pay71 (kst c arg0 harg0 arg1 harg1 arg2 harg2 arg3 harg3 arg4 harg4 arg5 harg5 arg6 harg6 arg7 harg7 arg8 harg8 arg9 harg9 x0 x1 x2 x3 (j + 1)).2.2.2.1 (ix2 0 r) : EReal) = (kst c arg0 harg0 arg1 harg1 arg2 harg2 arg3 harg3 arg4 harg4 arg5 harg5 arg6 harg6 arg7 harg7 arg8 harg8 arg9 harg9 x0 x1 x2 x3 (j + 1)).2.2.2.1 (ix2 0 r)
    pointwise [k0_pay71]

/-- Three planes laid down one after the other are read back each. -/
theorem three_planes (a0 a1 a2 : Vec Ideal S1x64x2048 .f32) (i0 i1 i2) (s : Fin 64) (r : Fin 2048) (p : Fin 3) :
    (View.canon (Val := Elt Ideal) (s := S3x64x2048) (e := .f32) [⟨Rect.unit ![2, 0, 0] S1x64x2048.size i2, a2⟩, ⟨Rect.unit ![1, 0, 0] S1x64x2048.size i1, a1⟩, ⟨Rect.unit ![0, 0, 0] S1x64x2048.size i0, a0⟩] (ix3 p s r) : EReal)
      = (![a0 (ix3 0 s r), a1 (ix3 0 s r), a2 (ix3 0 s r)] : V3) p := by
  have emb : ∀ (n : ℕ) (hn : n < 3) (inb), (ix3 ⟨n, hn⟩ s r : S3x64x2048.Idx) = (Rect.unit (s := S3x64x2048) ![n, 0, 0] S1x64x2048.size inb).emb (ix3 0 s r : S1x64x2048.Idx) := fun n hn inb =>
    funext fun a => Fin.ext (by fin_cases a <;> simp [Rect.unit, Rect.emb])
  have off : ∀ (n m : ℕ) (hn : n < 3) (inb), n ≠ m → (ix3 ⟨n, hn⟩ s r : S3x64x2048.Idx) ∉ (Rect.unit (s := S3x64x2048) ![m, 0, 0] S1x64x2048.size inb).set := fun n m hn inb h hm => by
    rw [Rect.mem_set_unit] at hm
    have h0 := hm 0
    have e1 : m ≤ n := h0.1
    have e2 : n < m + 1 := h0.2
    exact h (by omega)
  fin_cases p
  · refine Eq.trans (View.canon_cons_of_not_mem (Val := Elt Ideal) (s := S3x64x2048) (e := .f32) ⟨Rect.unit ![2, 0, 0] S1x64x2048.size i2, a2⟩ _ ?_) ?_
    · exact off 0 2 (by decide) i2 (by decide)
    refine Eq.trans (View.canon_cons_of_not_mem (Val := Elt Ideal) (s := S3x64x2048) (e := .f32) ⟨Rect.unit ![1, 0, 0] S1x64x2048.size i1, a1⟩ _ ?_) ?_
    · exact off 0 1 (by decide) i1 (by decide)
    refine (congrArg _ (emb 0 (by decide) i0)).trans ?_
    exact View.canon_cons_emb _ _ _ _
  · refine Eq.trans (View.canon_cons_of_not_mem (Val := Elt Ideal) (s := S3x64x2048) (e := .f32) ⟨Rect.unit ![2, 0, 0] S1x64x2048.size i2, a2⟩ _ ?_) ?_
    · exact off 1 2 (by decide) i2 (by decide)
    refine (congrArg _ (emb 1 (by decide) i1)).trans ?_
    exact View.canon_cons_emb _ _ _ _
  · refine (congrArg _ (emb 2 (by decide) i2)).trans ?_
    exact View.canon_cons_emb _ _ _ _

/-- Every entry of the output is the walk's sample. -/
theorem out_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x1 : Vec Ideal S3x2048 .f32) (x2 : Vec Ideal S4096x12 .f32) (x3 : Vec Ideal S28x4096 .f32) (x4 : Vec Ideal S64x1 .f32) (s : Fin 64) (r : Fin 2048) {T : Mesh} (hT : Holds x3 T) (ok : T.Ok) (hi : InRange (kernelRun.sl.r_3 c arg0 harg0 arg1 harg1 arg2 harg2 arg3 harg3 arg4 harg4 arg5 harg5 arg6 harg6 arg7 harg7 arg8 harg8 arg9 harg9 x0 x2 (ix2 0 r))) (p : Fin 3) :
    (bodyOut (F := Ideal) c arg0 harg0 arg1 harg1 arg2 harg2 arg3 harg3 arg4 harg4 arg5 harg5 arg6 harg6 arg7 harg7 arg8 harg8 arg9 harg9 x0 x1 x2 x3 x4 (ix3 p s r) : EReal)
      = sample (dist T (kstart c arg0 harg0 arg1 harg1 arg2 harg2 arg3 harg3 arg4 harg4 arg5 harg5 arg6 harg6 arg7 harg7 arg8 harg8 arg9 harg9 x0 x1 x2 r)) (fun j => (path T (kstart c arg0 harg0 arg1 harg1 arg2 harg2 arg3 harg3 arg4 harg4 arg5 harg5 arg6 harg6 arg7 harg7 arg8 harg8 arg9 harg9 x0 x1 x2 r) j).pos p) (x4 (ix2 s 0)) := by
  have key : ∃ i0 i1 i2, outPieces (F := Ideal) c arg0 harg0 arg1 harg1 arg2 harg2 arg3 harg3 arg4 harg4 arg5 harg5 arg6 harg6 arg7 harg7 arg8 harg8 arg9 harg9 x0 x1 x2 x3 x4 =
      [⟨Rect.unit ![2, 0, 0] S1x64x2048.size i2, kernelRun.sl.r_143 c arg0 harg0 arg1 harg1 arg2 harg2 arg3 harg3 arg4 harg4 arg5 harg5 arg6 harg6 arg7 harg7 arg8 harg8 arg9 harg9 x0 x1 x2 x3 x4 arg6.view.junk arg9.view.junk⟩,
       ⟨Rect.unit ![1, 0, 0] S1x64x2048.size i1, k0_pay221 (kernelRun.sl.r_7 arg4 harg4 x4) (kernelRun.sl.r_135 c arg0 harg0 arg1 harg1 arg2 harg2 arg3 harg3 arg4 harg4 arg5 harg5 arg6 harg6 arg7 harg7 arg8 harg8 arg9 harg9 x0 x1 x2 x3 x4 arg6.view.junk) (kernelRun.sl.r_136 c arg0 harg0 arg1 harg1 arg2 harg2 arg3 harg3 arg4 harg4 arg5 harg5 arg6 harg6 arg7 harg7 arg8 harg8 arg9 harg9 x0 x1 x2 x3 x4 arg6.view.junk) (kernelRun.sl.r_139 c arg0 harg0 arg1 harg1 arg2 harg2 arg3 harg3 arg4 harg4 arg5 harg5 arg6 harg6 arg7 harg7 arg8 harg8 arg9 harg9 x0 x1 x2 x3 x4 arg6.view.junk arg8.view.junk) (kernelRun.sl.r_140 c arg0 harg0 arg1 harg1 arg2 harg2 arg3 harg3 arg4 harg4 arg5 harg5 arg6 harg6 arg7 harg7 arg8 harg8 arg9 harg9 x0 x1 x2 x3 x4 arg6.view.junk arg8.view.junk)⟩,
       ⟨Rect.unit ![0, 0, 0] S1x64x2048.size i0, k0_pay220 (kernelRun.sl.r_7 arg4 harg4 x4) (kernelRun.sl.r_135 c arg0 harg0 arg1 harg1 arg2 harg2 arg3 harg3 arg4 harg4 arg5 harg5 arg6 harg6 arg7 harg7 arg8 harg8 arg9 harg9 x0 x1 x2 x3 x4 arg6.view.junk) (kernelRun.sl.r_136 c arg0 harg0 arg1 harg1 arg2 harg2 arg3 harg3 arg4 harg4 arg5 harg5 arg6 harg6 arg7 harg7 arg8 harg8 arg9 harg9 x0 x1 x2 x3 x4 arg6.view.junk) (kernelRun.sl.r_137 c arg0 harg0 arg1 harg1 arg2 harg2 arg3 harg3 arg4 harg4 arg5 harg5 arg6 harg6 arg7 harg7 arg8 harg8 arg9 harg9 x0 x1 x2 x3 x4 arg6.view.junk arg7.view.junk) (kernelRun.sl.r_138 c arg0 harg0 arg1 harg1 arg2 harg2 arg3 harg3 arg4 harg4 arg5 harg5 arg6 harg6 arg7 harg7 arg8 harg8 arg9 harg9 x0 x1 x2 x3 x4 arg6.view.junk arg7.view.junk)⟩] := by
    unfold outPieces kernelRun; exact ⟨_, _, _, rfl⟩
  obtain ⟨i0, i1, i2, e⟩ := key
  unfold bodyOut
  rw [e]
  have hD := kD_eq c arg0 harg0 arg1 harg1 arg2 harg2 arg3 harg3 arg4 harg4 arg5 harg5 arg6 harg6 arg7 harg7 arg8 harg8 arg9 harg9 x0 x1 x2 x3 r hT ok hi
  rw [three_planes]
  fin_cases p
  · exact (plane0 c arg0 harg0 arg1 harg1 arg2 harg2 arg3 harg3 arg4 harg4 arg5 harg5 arg6 harg6 arg7 harg7 arg8 harg8 arg9 harg9 x0 x1 x2 x3 x4 _ _ s r).trans (sample_congr _ hD (kX_eq c arg0 harg0 arg1 harg1 arg2 harg2 arg3 harg3 arg4 harg4 arg5 harg5 arg6 harg6 arg7 harg7 arg8 harg8 arg9 harg9 x0 x1 x2 x3 r hT ok hi))
  · exact (plane1 c arg0 harg0 arg1 harg1 arg2 harg2 arg3 harg3 arg4 harg4 arg5 harg5 arg6 harg6 arg7 harg7 arg8 harg8 arg9 harg9 x0 x1 x2 x3 x4 _ _ s r).trans (sample_congr _ hD (kY_eq c arg0 harg0 arg1 harg1 arg2 harg2 arg3 harg3 arg4 harg4 arg5 harg5 arg6 harg6 arg7 harg7 arg8 harg8 arg9 harg9 x0 x1 x2 x3 r hT ok hi))
  · exact (plane2 c arg0 harg0 arg1 harg1 arg2 harg2 arg3 harg3 arg4 harg4 arg5 harg5 arg6 harg6 arg7 harg7 arg8 harg8 arg9 harg9 x0 x1 x2 x3 x4 _ _ s r).trans (sample_congr _ hD (kZ_eq c arg0 harg0 arg1 harg1 arg2 harg2 arg3 harg3 arg4 harg4 arg5 harg5 arg6 harg6 arg7 harg7 arg8 harg8 arg9 harg9 x0 x1 x2 x3 r hT ok hi))

end Cert.KernelIdeal.Hand

end
-- ==== Proof.Locate.lean ====
/- Where a ray starts: the first cell holding its origin, or none; found by a running minimum or by a first true flag. -/
module

public import proofs.«01_k».proof.Proof.Path

@[expose] public section

set_option maxRecDepth 8192

noncomputable section

namespace Cert.Walk

open Idealize Idealize.ShloMosaic

/-- A point's coordinate `i` in a cell: its row of the cell's matrix less the offset. -/
def local' (C : Fin 12 → EReal) (p : V3) (i : Fin 3) : EReal :=
  C ⟨3 * i.val, by omega⟩ * p 0 + C ⟨3 * i.val + 1, by omega⟩ * p 1 + C ⟨3 * i.val + 2, by omega⟩ * p 2 - C ⟨9 + i.val, by omega⟩

/-- The point lies in the cell. -/
def Inside (C : Fin 12 → EReal) (p : V3) : Prop :=
  ((∀ i, 0 ≤ local' C p i) ∧ ∀ i, local' C p i ≤ 1) ∧ local' C p 0 + local' C p 1 + local' C p 2 ≤ 1

/-- `w` is the first of `n` to hold, or `none`. -/
def Found (Q : ℕ → Prop) (n : ℕ) (none w : BitVec 32) : Prop :=
  (∃ t < n, Q t ∧ (∀ u < t, ¬ Q u) ∧ w = BitVec.ofNat 32 t) ∨ ((∀ u < n, ¬ Q u) ∧ w = none)

theorem Found.unique {Q : ℕ → Prop} {n : ℕ} {a w w' : BitVec 32} (h : Found Q n a w) (h' : Found Q n a w') : w = w' := by
  rcases h with ⟨t, ht, q, l, e⟩ | ⟨l, e⟩ <;> rcases h' with ⟨t', ht', q', l', e'⟩ | ⟨l', e'⟩
  · have : t = t' := by
      rcases lt_trichotomy t t' with h | h | h
      · exact absurd q (l' t h)
      · exact h
      · exact absurd q' (l t' h)
    rw [e, e', this]
  · exact absurd q (l' t ht)
  · exact absurd q' (l t' ht')
  · rw [e, e']

theorem Found.inRange {Q : ℕ → Prop} {w : BitVec 32} (h : Found Q 4096 4294967295#32 w) : InRange w := by
  rcases h with ⟨t, ht, _, _, e⟩ | ⟨_, e⟩
  · exact .inr ⟨⟨t, ht⟩, e⟩
  · exact .inl e

theorem minsi_cases (a b : BitVec 32) : (IntOp.minsi a b = a ∨ IntOp.minsi a b = b) ∧ (IntOp.minsi a b).toInt ≤ a.toInt ∧ (IntOp.minsi a b).toInt ≤ b.toInt := by
  unfold IntOp.minsi
  split <;> rename_i h <;> rw [BitVec.slt_iff_toInt_lt] at h
  · exact ⟨.inl rfl, le_refl _, h.le⟩
  · exact ⟨.inr rfl, by omega, le_refl _⟩

/-- A running minimum is one of its terms and below all of them. -/
theorem fold_minsi {α : Type} [DecidableEq α] (b : BitVec 32) (f : α → BitVec 32) (S : Finset α) :
    (S.fold IntOp.minsi b f = b ∨ ∃ x ∈ S, S.fold IntOp.minsi b f = f x) ∧ (S.fold IntOp.minsi b f).toInt ≤ b.toInt ∧ ∀ x ∈ S, (S.fold IntOp.minsi b f).toInt ≤ (f x).toInt := by
  induction S using Finset.induction_on with
  | empty => exact ⟨.inl rfl, le_refl _, fun x hx => absurd hx (Finset.notMem_empty x)⟩
  | insert a S ha ih =>
    rw [Finset.fold_insert ha]
    obtain ⟨h1, h2, h3⟩ := minsi_cases (f a) (S.fold IntOp.minsi b f)
    obtain ⟨i1, i2, i3⟩ := ih
    refine ⟨?_, by omega, fun x hx => ?_⟩
    · rcases h1 with e | e
      · exact .inr ⟨a, Finset.mem_insert_self a S, e⟩
      · rcases i1 with i | ⟨x, hx, i⟩
        · exact .inl (e.trans i)
        · exact .inr ⟨x, Finset.mem_insert_of_mem hx, e.trans i⟩
    · rcases Finset.mem_insert.1 hx with rfl | hx
      · exact h2
      · have := i3 x hx; omega

/-- One more stretch of 512 searched. -/
theorem Found.step {Q : ℕ → Prop} {k : ℕ} (hk : k < 8) {acc : BitVec 32} (h : Found Q (512 * k) 1073741824#32 acc) (f : Fin 512 → BitVec 32)
    (ht : ∀ x : Fin 512, Q (512 * k + x.val) → f x = BitVec.ofNat 32 (512 * k + x.val)) (hf : ∀ x : Fin 512, ¬ Q (512 * k + x.val) → f x = 1073741824#32) :
    Found Q (512 * (k + 1)) 1073741824#32 (IntOp.minsi acc (Finset.univ.fold IntOp.minsi 2147483647#32 f)) := by
  obtain ⟨m1, m2, m3⟩ := minsi_cases acc (Finset.univ.fold IntOp.minsi 2147483647#32 f)
  obtain ⟨f1, f2, f3⟩ := fold_minsi 2147483647#32 f Finset.univ
  generalize Finset.univ.fold IntOp.minsi 2147483647#32 f = F at *
  have eB : (1073741824#32 : BitVec 32).toInt = 1073741824 := by decide
  have eM : (2147483647#32 : BitVec 32).toInt = 2147483647 := by decide
  rcases h with ⟨t, h1, q, l, e⟩ | ⟨l, e⟩
  · refine .inl ⟨t, by omega, q, l, ?_⟩
    rcases m1 with m | m
    · rw [m, e]
    · exfalso
      rw [m, e, toInt_word t (by omega)] at m2
      rcases f1 with g | ⟨x, _, g⟩
      · rw [g, eM] at m2; omega
      · by_cases hq : Q (512 * k + x.val)
        · rw [g, ht x hq, toInt_word _ (by omega)] at m2; omega
        · rw [g, hf x hq, eB] at m2; omega
  · by_cases hx : ∃ x : Fin 512, Q (512 * k + x.val)
    · have hq : ∃ t, Q t := let ⟨x, hx⟩ := hx; ⟨_, hx⟩
      classical
      obtain ⟨x, hx⟩ := hx
      have tle : Nat.find hq ≤ 512 * k + x.val := Nat.find_min' hq hx
      have tq := Nat.find_spec hq
      have tl : ∀ u < Nat.find hq, ¬ Q u := fun u hu => Nat.find_min hq hu
      generalize Nat.find hq = t at *
      have tk : 512 * k ≤ t := by
        by_contra hlt; exact l t (by omega) tq
      refine .inl ⟨t, by omega, tq, tl, ?_⟩
      have et : f ⟨t - 512 * k, by omega⟩ = BitVec.ofNat 32 t := by
        rw [ht _ (by rw [show 512 * k + (t - 512 * k) = t by omega]; exact tq)]
        exact congrArg _ (by show 512 * k + (t - 512 * k) = t; omega)
      have b := f3 ⟨t - 512 * k, by omega⟩ (Finset.mem_univ _)
      rw [et, toInt_word t (by omega)] at b
      rcases m1 with m | m
      · rw [m, e, eB] at m3; omega
      · rw [m]
        rcases f1 with g | ⟨y, _, g⟩
        · rw [g, eM] at b; omega
        · by_cases hy : Q (512 * k + y.val)
          · rw [g, ht y hy] at b ⊢
            rw [toInt_word _ (by omega)] at b
            have : t ≤ 512 * k + y.val := by
              by_contra hlt; exact tl _ (by omega) hy
            exact congrArg _ (by omega)
          · rw [g, hf y hy, eB] at b; omega
    · refine .inr ⟨fun u hu hq => ?_, ?_⟩
      · by_cases h1 : u < 512 * k
        · exact l u h1 hq
        · exact hx ⟨⟨u - 512 * k, by omega⟩, by rw [show 512 * k + (u - 512 * k) = u by omega]; exact hq⟩
      · rcases m1 with m | m
        · rw [m, e]
        · rw [m]
          rcases f1 with g | ⟨y, _, g⟩
          · rw [m, g, e, eM, eB] at m2; omega
          · rw [g, hf y fun hq => hx ⟨y, hq⟩]

/-- The mark of an unsuccessful search replaced. -/
theorem Found.mark {Q : ℕ → Prop} {w : BitVec 32} (h : Found Q 4096 1073741824#32 w) :
    Found Q 4096 4294967295#32 (Scalar.select (IntOp.cmpi CmpIPredicate.sge w 1073741824#32) 4294967295#32 w) := by
  rcases h with ⟨t, ht, q, l, e⟩ | ⟨l, e⟩
  · refine .inl ⟨t, ht, q, l, ?_⟩
    rw [e]
    have : IntOp.cmpi CmpIPredicate.sge (BitVec.ofNat 32 t) 1073741824#32 = 0#1 := by
      show BitVec.ofBool (BitVec.sle 1073741824#32 (BitVec.ofNat 32 t)) = _
      rw [BitVec.sle_eq_decide, toInt_word t (by omega), show (1073741824#32 : BitVec 32).toInt = 1073741824 by decide]
      exact congrArg BitVec.ofBool (decide_eq_false (by omega))
    rw [this]; rfl
  · exact .inr ⟨l, by rw [e]; rfl⟩

theorem bit_cases (b : BitVec 1) : b = 0#1 ∨ b = 1#1 := by
  revert b; decide

theorem fold_ori {α : Type} [DecidableEq α] (f : α → BitVec 1) (S : Finset α) : S.fold IntOp.ori 0#1 f = 1#1 ↔ ∃ x ∈ S, f x = 1#1 := by
  induction S using Finset.induction_on with
  | empty => simp
  | insert a S ha ih =>
    rw [Finset.fold_insert ha]
    have : ∀ x y : BitVec 1, IntOp.ori x y = 1#1 ↔ x = 1#1 ∨ y = 1#1 := by decide
    rw [this, ih]; simp

theorem fold_andi {α : Type} [DecidableEq α] (f : α → BitVec 1) (S : Finset α) : S.fold IntOp.andi 1#1 f = 1#1 ↔ ∀ x ∈ S, f x = 1#1 := by
  induction S using Finset.induction_on with
  | empty => simp
  | insert a S ha ih =>
    rw [Finset.fold_insert ha]
    have : ∀ x y : BitVec 1, IntOp.andi x y = 1#1 ↔ x = 1#1 ∧ y = 1#1 := by decide
    rw [this, ih]; simp

theorem andi_iff (x y : BitVec 1) : IntOp.andi x y = 1#1 ↔ x = 1#1 ∧ y = 1#1 := by
  revert x y; decide

theorem ofBool_iff (p : Prop) [Decidable p] : BitVec.ofBool (decide p) = 1#1 ↔ p := by
  by_cases h : p <;> simp [h]

end Cert.Walk

end
-- ==== Proof.IdealLoc.lean ====
/- Where the kernel starts a ray: its eight stretches of 512 cells searched for the first holding the origin. -/
module

public import proofs.«01_k».proof.Proof.IdealPost
public import proofs.«01_k».proof.Proof.Locate
@[expose] public section
set_option maxRecDepth 8192
set_option maxHeartbeats 4000000
noncomputable section
namespace Cert.KernelIdeal.Hand
open Cert.KernelIdeal Cert.KernelIdeal.Gen
open Idealize Idealize.ShloMosaic Idealize.ShloMosaic.Pointwise
open Cert.Walk

theorem trips1 : Scf.trips k0_t1_loop.lb k0_t1_loop.ub k0_t1_loop.st = 8 := by decide +kernel

theorem sel_true {α : Type} {b : BitVec 1} (h : b = 1#1) (x y : α) : Scalar.select b x y = x := by rw [h]; rfl

theorem sel_false {α : Type} {b : BitVec 1} (h : b ≠ 1#1) (x y : α) : Scalar.select b x y = y := by
  rcases bit_cases b with e | e
  · rw [e]; rfl
  · exact absurd e h

/-- One trip of the search, at one ray. -/
theorem loc_trip (v0 v2 v4 : Vec Ideal S1x2048 .f32) (acc : IVec S1x2048 32) (V : Vec Ideal S512x12 .f32) (C : ℕ → Fin 12 → EReal) (p : V3) (k : ℕ) (hk : k < 8) (r : Fin 2048)
    (h0 : p 0 = v0 (ix2 0 r)) (h1 : p 1 = v2 (ix2 0 r)) (h2 : p 2 = v4 (ix2 0 r)) (hV : ∀ (x : Fin 512) i, (V (ix2 x i) : EReal) = C (512 * k + x.val) i)
    (h : Found (fun t => Inside (C t) p) (512 * k) 1073741824#32 (acc (ix2 0 r))) :
    Found (fun t => Inside (C t) p) (512 * (k + 1)) 1073741824#32 (k0_pay57 acc (Scf.iv 0#32 1#32 k) (k0_pay1 (k0_pay53 v0) (k0_pay54 v2) (k0_pay55 v4) V) (k0_pay2 (k0_pay53 v0) (k0_pay54 v2) (k0_pay55 v4) V) (k0_pay3 (k0_pay53 v0) (k0_pay54 v2) (k0_pay55 v4) V) (k0_pay4 (k0_pay53 v0) (k0_pay54 v2) (k0_pay55 v4) V) Gen.trip_k0_t1.sl.cst_324 (ix2 0 r)) := by
  pointwise [k0_pay57, k0_pay1, k0_pay2, k0_pay3, k0_pay4, k0_pay53, k0_pay54, k0_pay55, Gen.trip_k0_t1.sl.cst_324]
  have word : ∀ x : Fin 512, IntOp.addi (BitVec.ofNat 32 ↑x) (Scalar.muli (Scf.iv 0#32 1#32 k) 512#32) = BitVec.ofNat 32 (512 * k + x.val) := fun x => by
    rw [col_word, show x.val + 512 * k = 512 * k + x.val by omega]
  obtain rfl : p = ![v0 (ix2 0 r), v2 (ix2 0 r), v4 (ix2 0 r)] := funext fun i => by fin_cases i; exacts [h0, h1, h2]
  have test : ∀ (x : Fin 512) (b0 b1 b2 c0 c1 c2 s : BitVec 1),
      (b0 = 1#1 ↔ 0 ≤ local' (fun i => V (ix2 x i)) ![v0 (ix2 0 r), v2 (ix2 0 r), v4 (ix2 0 r)] 0) → (b1 = 1#1 ↔ 0 ≤ local' (fun i => V (ix2 x i)) ![v0 (ix2 0 r), v2 (ix2 0 r), v4 (ix2 0 r)] 1) → (b2 = 1#1 ↔ 0 ≤ local' (fun i => V (ix2 x i)) ![v0 (ix2 0 r), v2 (ix2 0 r), v4 (ix2 0 r)] 2) →
      (c0 = 1#1 ↔ local' (fun i => V (ix2 x i)) ![v0 (ix2 0 r), v2 (ix2 0 r), v4 (ix2 0 r)] 0 ≤ 1) → (c1 = 1#1 ↔ local' (fun i => V (ix2 x i)) ![v0 (ix2 0 r), v2 (ix2 0 r), v4 (ix2 0 r)] 1 ≤ 1) → (c2 = 1#1 ↔ local' (fun i => V (ix2 x i)) ![v0 (ix2 0 r), v2 (ix2 0 r), v4 (ix2 0 r)] 2 ≤ 1) →
      (s = 1#1 ↔ local' (fun i => V (ix2 x i)) ![v0 (ix2 0 r), v2 (ix2 0 r), v4 (ix2 0 r)] 0 + local' (fun i => V (ix2 x i)) ![v0 (ix2 0 r), v2 (ix2 0 r), v4 (ix2 0 r)] 1 + local' (fun i => V (ix2 x i)) ![v0 (ix2 0 r), v2 (ix2 0 r), v4 (ix2 0 r)] 2 ≤ 1) →
      (IntOp.andi (IntOp.andi (IntOp.andi (IntOp.andi (IntOp.andi (IntOp.andi b0 b1) b2) c0) c1) c2) s = 1#1 ↔ Inside (C (512 * k + x.val)) ![v0 (ix2 0 r), v2 (ix2 0 r), v4 (ix2 0 r)]) := by
    intro x b0 b1 b2 c0 c1 c2 s e0 e1 e2 e3 e4 e5 e6
    rw [← show (fun i => V (ix2 x i)) = C (512 * k + x.val) from funext (hV x)]
    simp only [andi_iff, e0, e1, e2, e3, e4, e5, e6, Inside, Fin.forall_fin_succ, IsEmpty.forall_iff]
    constructor
    · rintro ⟨⟨⟨⟨⟨⟨h0, h1⟩, h2⟩, h3⟩, h4⟩, h5⟩, h6⟩; exact ⟨⟨⟨h0, h1, h2, trivial⟩, h3, h4, h5, trivial⟩, h6⟩
    · rintro ⟨⟨⟨h0, h1, h2, _⟩, h3, h4, h5, _⟩, h6⟩; exact ⟨⟨⟨⟨⟨⟨h0, h1⟩, h2⟩, h3⟩, h4⟩, h5⟩, h6⟩
  refine Found.step hk h _ (fun x q => ?_) (fun x q => ?_)
  · refine (sel_true ((test x _ _ _ _ _ _ _ (ofBool_iff _) (ofBool_iff _) (ofBool_iff _) (ofBool_iff _) (ofBool_iff _) (ofBool_iff _) (ofBool_iff _)).2 q) _ _).trans (word x)
  · exact sel_false (fun e => q ((test x _ _ _ _ _ _ _ (ofBool_iff _) (ofBool_iff _) (ofBool_iff _) (ofBool_iff _) (ofBool_iff _) (ofBool_iff _) (ofBool_iff _)).1 e)) _ _

theorem off1_eq (k : Fin k0_t1_loop.trips) : k0_off1 k = ![512 * k.val, 0] := by
  exact (by decide +kernel : ∀ k : Fin k0_t1_loop.trips, k0_off1 k = ![512 * k.val, 0]) k

/-- The table of cells, by number. -/
def cells (X : Vec Ideal S4096x12 .f32) (t : ℕ) : Fin 12 → EReal := if h : t < 4096 then fun i => X (ix2 ⟨t, h⟩ i) else fun _ => 0

/-- The search after `k` stretches. -/
theorem loc_upto (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (v0 v2 v4 : Vec Ideal S1x2048 .f32) (X2 : BufTy.Contents (Elt Ideal) arg2.view.ty) (r : Fin 2048) :
    ∀ k ≤ 8, Found (fun t => Inside (cells (arg2.view.read (Elt Ideal) X2) t) ![v0 (ix2 0 r), v2 (ix2 0 r), v4 (ix2 0 r)]) (512 * k) 1073741824#32
      (st_k0_t1 (F := Ideal) Variants.none c none arg0 harg0 arg1 harg1 arg2 harg2 arg3 harg3 arg4 harg4 arg5 harg5 arg6 harg6 arg7 harg7 arg8 harg8 arg9 harg9 v0 v2 v4 X2 k0_pay56 k (ix2 0 r))
  | 0, _ => .inr ⟨fun u hu => absurd hu (by omega), by
    show k0_pay56 (ix2 0 r) = _
    pointwise [k0_pay56]⟩
  | k + 1, hk => by
    have hk' : k < k0_t1_loop.trips := by rw [show k0_t1_loop.trips = 8 from trips1]; omega
    have ih := loc_upto c arg0 harg0 arg1 harg1 arg2 harg2 arg3 harg3 arg4 harg4 arg5 harg5 arg6 harg6 arg7 harg7 arg8 harg8 arg9 harg9 v0 v2 v4 X2 r k (by omega)
    rw [st_k0_t1_succ (F := Ideal) Variants.none c none arg0 harg0 arg1 harg1 arg2 harg2 arg3 harg3 arg4 harg4 arg5 harg5 arg6 harg6 arg7 harg7 arg8 harg8 arg9 harg9 v0 v2 v4 X2 k0_pay56 ⟨k, hk'⟩]
    unfold tripR_k0_t1 trip_k0_t1
    dsimp only
    refine loc_trip v0 v2 v4 _ _ (cells (arg2.view.read (Elt Ideal) X2)) _ k (by omega) r rfl rfl rfl (fun x i => ?_) ih
    unfold cells
    rw [dif_pos (by omega)]
    refine congrArg (arg2.view.read (Elt Ideal) X2) (funext fun a => Fin.ext ?_)
    fin_cases a
    · show k0_off1 ⟨k, hk'⟩ 0 + 1 * x.val = 512 * k + x.val
      rw [off1_eq]; show 512 * k + 1 * x.val = _; omega
    · show k0_off1 ⟨k, hk'⟩ 1 + 1 * i.val = i.val
      rw [off1_eq]; show 0 + 1 * i.val = _; omega

/-- The ray starts in the first cell holding its origin. -/
theorem loc_at (c : Dev nD) (arg0 : Memref sig .tc .vmem S3x2048 .f32) (harg0 : arg0.IsWhole) (arg1 : Memref sig .tc .vmem S3x2048 .f32) (harg1 : arg1.IsWhole) (arg2 : Memref sig .tc .vmem S4096x12 .f32) (harg2 : arg2.IsWhole) (arg3 : Memref sig .tc .vmem S28x4096 .f32) (harg3 : arg3.IsWhole) (arg4 : Memref sig .tc .vmem S64x1 .f32) (harg4 : arg4.IsWhole) (arg5 : Memref sig .tc .vmem S3x64x2048 .f32) (harg5 : arg5.IsWhole) (arg6 : Memref sig .tc .vmem S24x2048 .f32) (harg6 : arg6.IsWhole) (arg7 : Memref sig .tc .vmem S24x2048 .f32) (harg7 : arg7.IsWhole) (arg8 : Memref sig .tc .vmem S24x2048 .f32) (harg8 : arg8.IsWhole) (arg9 : Memref sig .tc .vmem S24x2048 .f32) (harg9 : arg9.IsWhole) (x0 : Vec Ideal S3x2048 .f32) (x2 : Vec Ideal S4096x12 .f32) (r : Fin 2048) :
    Found (fun t => Inside (cells x2 t) (fun i => x0 (ix2 i r))) 4096 4294967295#32 (kernelRun.sl.r_3 c arg0 harg0 arg1 harg1 arg2 harg2 arg3 harg3 arg4 harg4 arg5 harg5 arg6 harg6 arg7 harg7 arg8 harg8 arg9 harg9 x0 x2 (ix2 0 r)) := by
  pointwise [kernelRun.sl.r_3, k0_pay58]
  refine Found.mark ?_
  rw [show Scf.trips k0_t1_loop.lb k0_t1_loop.ub k0_t1_loop.st = 8 from trips1]
  have h := loc_upto c arg0 harg0 arg1 harg1 arg2 harg2 arg3 harg3 arg4 harg4 arg5 harg5 arg6 harg6 arg7 harg7 arg8 harg8 arg9 harg9 (View.readAt (Elt Ideal) arg0.view (Rect.unit (s := S3x2048) ![0, 0] S1x2048.size inb_S3x2048_S1x2048_0_0).toLoadRect (harg0.unread x0)) (View.readAt (Elt Ideal) arg0.view (Rect.unit (s := S3x2048) ![1, 0] S1x2048.size inb_S3x2048_S1x2048_1_0).toLoadRect (harg0.unread x0)) (View.readAt (Elt Ideal) arg0.view (Rect.unit (s := S3x2048) ![2, 0] S1x2048.size inb_S3x2048_S1x2048_2_0).toLoadRect (harg0.unread x0)) (harg2.unread x2) r 8 (le_refl _)
  have e : (![(View.readAt (Elt Ideal) arg0.view (Rect.unit (s := S3x2048) ![0, 0] S1x2048.size inb_S3x2048_S1x2048_0_0).toLoadRect (harg0.unread x0) (ix2 0 r) : EReal), View.readAt (Elt Ideal) arg0.view (Rect.unit (s := S3x2048) ![1, 0] S1x2048.size inb_S3x2048_S1x2048_1_0).toLoadRect (harg0.unread x0) (ix2 0 r), View.readAt (Elt Ideal) arg0.view (Rect.unit (s := S3x2048) ![2, 0] S1x2048.size inb_S3x2048_S1x2048_2_0).toLoadRect (harg0.unread x0) (ix2 0 r)] : V3) = fun i => x0 (ix2 i r) := funext fun i => by
    have := row_at arg0 harg0 x0 i
    fin_cases i
    · exact this _ r
    · exact this _ r
    · exact this _ r
  rw [e, Memref.IsWhole.read_unread] at h
  exact h

end Cert.KernelIdeal.Hand

end
-- ==== Proof.Answer.lean ====
/- What either program answers for one ray, one distance and one coordinate, as a relation that has one answer. -/
module

public import proofs.«01_k».proof.Proof.Sample
public import proofs.«01_k».proof.Proof.Locate
@[expose] public section
noncomputable section
namespace Cert.Walk

/-- The search table's row of a cell. -/
def cellsOf (X : Fin 4096 → Fin 12 → EReal) (t : ℕ) : Fin 12 → EReal := if h : t < 4096 then fun i => X ⟨t, h⟩ i else fun _ => 0

/-- The mesh of three tables. -/
def meshOf (A : Fin 4096 → Fin 20 → EReal) (N E : Fin 4096 → Fin 4 → BitVec 32) : Mesh := ⟨fun j => tetOf (A j), N, E⟩

/-- `v` is the coordinate `i` of the ray from `p` along `d` at the distance `z`. -/
def Answer (X : Fin 4096 → Fin 12 → EReal) (T : Mesh) (p d : V3) (i : Fin 3) (z v : EReal) : Prop :=
  ∃ w : BitVec 32, Found (fun t => Inside (cellsOf X t) p) 4096 4294967295#32 w ∧
    v = sample (dist T ⟨w, p, d⟩) (fun j => (path T ⟨w, p, d⟩ j).pos i) z

theorem Answer.unique {X : Fin 4096 → Fin 12 → EReal} {T : Mesh} {p d : V3} {i : Fin 3} {z v v' : EReal}
    (h : Answer X T p d i z v) (h' : Answer X T p d i z v') : v = v' := by
  obtain ⟨w, hw, e⟩ := h
  obtain ⟨w', hw', e'⟩ := h'
  obtain rfl := Found.unique hw hw'
  rw [e, e']

end Cert.Walk
-- ==== Proof.IdealValue.lean ====
/- The kernel program's value: what its arrays hold on entry, and its result at an element. -/
module

public import proofs.«01_k».proof.Proof.IdealLoc
public import proofs.«01_k».proof.Proof.IdealFrame
public import proofs.«01_k».proof.Proof.Answer
public import Idealize.ShloMosaic.Lib.Pipeline.ValueKit.Geometry
import Idealize.ShloMosaic.Lib.StableHlo.RunRead
import Idealize.ShloMosaic.Lib.StableHlo.ReadAt
@[expose] public section
set_option maxRecDepth 8192
set_option maxHeartbeats 4000000
noncomputable section
namespace Cert.KernelIdeal.Hand
open Cert.KernelIdeal Cert.KernelIdeal.Gen
open Idealize Idealize.ShloMosaic Idealize.ShloMosaic.Pointwise
open Cert.Walk Idealize.ShloMosaic.Tactic

variable (m : (ℓ : Loc nD τ sig) → Buf (Elt Ideal) ℓ)

/-- The origins, transposed. -/
theorem V_v13 (c : Dev nD) (r : Fin 2048) (i : Fin 3) : (V m c main_v13 (ix2 i r) : EReal) = m (c, Proc.devRef .tc main_arg0) (ix2 r i) := by
  unfold V V0
  after_reads_at

/-- The directions, transposed. -/
theorem V_v14 (c : Dev nD) (r : Fin 2048) (i : Fin 3) : (V m c main_v14 (ix2 i r) : EReal) = m (c, Proc.devRef .tc main_arg1) (ix2 r i) := by
  unfold V V0
  after_reads_at

/-- The packed table: the cell's own numbers, its neighbours, its neighbours' entry faces. -/
theorem V_v3 (c : Dev nD) (j : Fin 4096) :
    (∀ i : Fin 20, (V m c main_v3 (ix2 ⟨i.val, by omega⟩ j) : EReal) = m (c, Proc.devRef .tc main_arg3) (ix2 j i)) ∧
    (∀ f : Fin 4, (V m c main_v3 (ix2 ⟨20 + f.val, by omega⟩ j) : EReal) = FloatOps.sitofp (F := Ideal) .f32 (m (c, Proc.devRef .tc main_arg4) (ix2 j f))) ∧
    ∀ f : Fin 4, (V m c main_v3 (ix2 ⟨24 + f.val, by omega⟩ j) : EReal) = FloatOps.sitofp (F := Ideal) .f32 (m (c, Proc.devRef .tc main_arg5) (ix2 j f)) := by
  have h0 : StableHlo.upto [hostOps0, hostOps0_1, hostOps0_2].flatten (fun b => m (c, b)) 2 (Proc.tc.devRef main_arg3) = m (c, Proc.devRef .tc main_arg3) := by after_reads_simp
  have h1 : StableHlo.upto [hostOps0, hostOps0_1, hostOps0_2].flatten (fun b => m (c, b)) 2 (Proc.tc.devRef main_v0) = (sitofp (F := Ideal) (s := S4096x4) .f32 (m (c, Proc.devRef .tc main_arg4)) : Vec Ideal S4096x4 .f32) := by after_reads_simp
  have h2 : StableHlo.upto [hostOps0, hostOps0_1, hostOps0_2].flatten (fun b => m (c, b)) 2 (Proc.tc.devRef main_v1) = (sitofp (F := Ideal) (s := S4096x4) .f32 (m (c, Proc.devRef .tc main_arg5)) : Vec Ideal S4096x4 .f32) := by after_reads_simp
  refine ⟨fun i => ?_, fun f => ?_, fun f => ?_⟩
  · unfold V V0
    after_reads_at
    rw [h0]
  · unfold V V0
    after_reads_at
    rw [h1]
    rfl
  · unfold V V0
    after_reads_at
    rw [dif_neg (by simp; try omega), dif_neg (by simp; try omega), h2]
    have e : 24 + f.val - 20 - 4 = f.val := by omega
    simp only [e]
    rfl

/-- The distances asked for, evenly spaced. -/
def spaced (c : Dev nD) : Vec Ideal S64 .f32 := V m c main_v11

theorem V_v12 (c : Dev nD) (s : Fin 64) : (V m c main_v12 (ix2 s 0) : EReal) = spaced m c (ix1 s) := by
  unfold spaced V V0
  after_reads_at

/-- Window 0's block is its array. -/
theorem iblk0 (c : Dev nD) (t : Fin cfg0.N) : iblk m c 0 t = V m c main_v13 := by
  have z : ∀ a, win0_0.index t a = 0 := fun a => rfl
  funext y; blk_ext [iblk, z]

/-- Window 1's block is its array. -/
theorem iblk1 (c : Dev nD) (t : Fin cfg0.N) : iblk m c 1 t = V m c main_v14 := by
  have z : ∀ a, win0_1.index t a = 0 := fun a => rfl
  funext y; blk_ext [iblk, z]

/-- Window 2's block is its array. -/
theorem iblk2 (c : Dev nD) (t : Fin cfg0.N) : iblk m c 2 t = V m c main_arg2 := by
  have z : ∀ a, win0_2.index t a = 0 := fun a => rfl
  funext y; blk_ext [iblk, z]

/-- Window 3's block is its array. -/
theorem iblk3 (c : Dev nD) (t : Fin cfg0.N) : iblk m c 3 t = V m c main_v3 := by
  have z : ∀ a, win0_3.index t a = 0 := fun a => rfl
  funext y; blk_ext [iblk, z]

/-- Window 4's block is its array. -/
theorem iblk4 (c : Dev nD) (t : Fin cfg0.N) : iblk m c 4 t = V m c main_v12 := by
  have z : ∀ a, win0_4.index t a = 0 := fun a => rfl
  funext y; blk_ext [iblk, z]

/-- The output array after the launch: what the body left. -/
theorem out_array (c : Dev nD) : (dats m 0 c).arrAt 5 cfg0.N = outBlk m c t0_0 := by
  refine (dats m 0 c).arrAt_eq_of_after_last 5 t0_0 (by decide +kernel) _ fun j => ?_
  blk_simp
  rfl

/-- The result: the output array, transposed. -/
theorem tail_v16 (c : Dev nD) (r : Fin 2048) (s : Fin 64) (p : Fin 3) :
    (Pipeline.afterTail₀ cfgs (dats m) 0 (V0 m) [hostOps1] c main_v16 (ix3 r s p) : EReal) = outBlk m c t0_0 (ix3 p s r) := by
  have h : Pipeline.withArrays spec0 c (V0 m c) (fun w => (dats m 0 c).arrAt w cfg0.N) (Proc.devRef .tc main_v15) = outBlk m c t0_0 :=
    (Pipeline.withArrays_arr spec0 (by decide +kernel) c (V0 m c) _ 5).trans (out_array m c)
  unfold Pipeline.afterTail₀
  after_reads_at
  exact congrFun h (ix3 p s r)

/-- The program's tables, as the walk has them. -/
def kmesh (c : Dev nD) : Mesh := meshOf (fun j i => m (c, Proc.devRef .tc main_arg3) (ix2 j i)) (fun j f => m (c, Proc.devRef .tc main_arg4) (ix2 j f)) (fun j f => m (c, Proc.devRef .tc main_arg5) (ix2 j f))

theorem holds (c : Dev nD) : Holds (V m c main_v3) (kmesh m c) where
  tet j := congrArg tetOf (funext fun i => (V_v3 m c j).1 i)
  next j f := (V_v3 m c j).2.1 f
  first j f := (V_v3 m c j).2.2 f

/-- The program's result at an element. -/
theorem value_at (c : Dev nD) (ok : (kmesh m c).Ok) (r : Fin 2048) (s : Fin 64) (p : Fin 3) :
    Answer (fun t i => m (c, Proc.devRef .tc main_arg2) (ix2 t i)) (kmesh m c) (fun i => m (c, Proc.devRef .tc main_arg0) (ix2 r i)) (fun i => m (c, Proc.devRef .tc main_arg1) (ix2 r i))
      p (spaced m c (ix1 s)) (Pipeline.afterTail₀ cfgs (dats m) 0 (V0 m) [hostOps1] c main_v16 (ix3 r s p)) := by
  rw [tail_v16]
  unfold outBlk
  rw [iblk0, iblk1, iblk2, iblk3, iblk4]
  have hl := loc_at c (st0_0 t0_0) (hstage0_0 0) (st0_1 t0_0) (hstage0_1 0) (st0_2 t0_0) (hstage0_2 0) (st0_3 t0_0) (hstage0_3 0) (st0_4 t0_0) (hstage0_4 0) (st0_5 t0_0) (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (V m c main_v13) (V m c main_arg2) r
  rw [out_at c _ _ _ _ _ _ _ _ _ _ _ _ _ _ _ _ _ _ _ _ _ _ _ _ _ s r (holds m c) ok (Found.inRange hl) p, V_v12]
  have e0 : (fun i => (V m c main_v13 (ix2 i r) : EReal)) = fun i => m (c, Proc.devRef .tc main_arg0) (ix2 r i) := funext fun i => V_v13 m c r i
  have e1 : (fun i => (V m c main_v14 (ix2 i r) : EReal)) = fun i => m (c, Proc.devRef .tc main_arg1) (ix2 r i) := funext fun i => V_v14 m c r i
  rw [V_main_arg2] at hl ⊢
  rw [← e0, ← e1]
  exact ⟨_, hl, rfl⟩

end Cert.KernelIdeal.Hand
-- ==== Proof.RefStep.lean ====
/- One trip of the reference's loop, read at one ray: it is the step of Walk.lean from the tables' rows. -/
module

public import proofs.«01_k».proof.Proof.Gen.ReferenceIdeal.Run
public import proofs.«01_k».proof.Proof.Path
public import Idealize.ShloMosaic.Lib.WordCmp

@[expose] public section

set_option maxRecDepth 8192
set_option maxHeartbeats 4000000

noncomputable section

namespace Cert.ReferenceIdeal.Hand

open Cert.ReferenceIdeal Cert.ReferenceIdeal.Value
open Idealize Idealize.ShloMosaic Idealize.ShloMosaic.Pointwise Idealize.ShloMosaic.StableHlo
open Cert.Walk

/-! ## The tables' rows -/

/-- A gather's coordinate on an axis that the indices start: the index, read signed and kept within the operand. -/
theorem gstart {s si t : Shape} {w : Nat} (d : GatherDims s si t) (j : t.Idx) (idx : IVec si w) (a : Fin s.rank) (hm : a ∈ d.startIndexMap)
    (hb : a ∉ d.operandBatchingDims) (hk : a ∉ d.sKept) (y : si.Idx) (hy : ∀ b, (d.siIdx j ⟨d.startIndexMap.idxOf a, List.idxOf_lt_length_iff.2 hm⟩ b).val = (y b).val) :
    (d.operandIdx j idx a).val = min (idx y).toInt.toNat (s.size a - d.sliceSizes a) := by
  show d.start j idx a + d.batchCoord j a + d.offCoord j a = _
  rw [GatherDims.batchCoord_eq_zero _ _ _ hb, GatherDims.offCoord_eq_zero _ _ _ hk]
  unfold GatherDims.start
  rw [dif_pos hm, (funext fun b => Fin.ext (hy b) : d.siIdx j _ = y)]; rfl

/-- A gather's coordinate on an axis that it keeps: the result's own. -/
theorem gkept {s si t : Shape} {w : Nat} (d : GatherDims s si t) (j : t.Idx) (idx : IVec si w) (a : Fin s.rank) (hm : a ∉ d.startIndexMap)
    (hb : a ∉ d.operandBatchingDims) (hk : a ∈ d.sKept) :
    (d.operandIdx j idx a).val = (j (d.offsetDims[d.sKept.idxOf a]'(by rw [d.offset_length]; exact List.idxOf_lt_length_iff.2 hk))).val := by
  show d.start j idx a + d.batchCoord j a + d.offCoord j a = _
  rw [GatherDims.batchCoord_eq_zero _ _ _ hb]
  unfold GatherDims.start GatherDims.offCoord
  rw [dif_neg hm, dif_pos hk, Nat.zero_add]

section Gathers

variable {α : Type} (idx : IVec S2048x1 32) (r : Fin 2048)

/-- The row that the indices give ray `r`. -/
def take : Fin 4096 := ⟨min (idx (ix2 r 0)).toInt.toNat 4095, by omega⟩

theorem gat3 (x : S4096x3.Idx → α) (i : Fin 3) :
    Host.gather gather_S4096x3_S2048x1_S2048x3_1_0_n_n_0_1_13 x idx (ix2 r i) = x (ix2 (take idx r) i) := by
  refine congrArg x (funext fun a => Fin.ext ?_)
  rcases (by decide : ∀ a : Fin 2, a = 0 ∨ a = 1) a with rfl | rfl
  · exact gstart _ _ _ _ (by decide) List.not_mem_nil (by decide) (ix2 r 0) fun b => by fin_cases b <;> rfl
  · exact gkept _ _ _ _ (by decide) List.not_mem_nil (by decide)

theorem gat1 (x : S4096.Idx → α) :
    Host.gather gather_S4096_S2048x1_S2048_n_0_n_n_0_1_1 x idx (ix1 r) = x (ix1 (take idx r)) := by
  refine congrArg x (funext fun a => Fin.ext ?_)
  obtain rfl : a = 0 := Subsingleton.elim (α := Fin 1) _ _
  exact gstart _ _ _ _ (by decide) List.not_mem_nil (by decide) (ix2 r 0) fun b => by fin_cases b <;> rfl

theorem gat43 (x : S4096x4x3.Idx → α) (f : Fin 4) (i : Fin 3) :
    Host.gather gather_S4096x4x3_S2048x1_S2048x4x3_12_0_n_n_0_1_143 x idx (ix3 r f i) = x (ix3 (take idx r) f i) := by
  refine congrArg x (funext fun a => Fin.ext ?_)
  rcases (by decide : ∀ a : Fin 3, a = 0 ∨ a = 1 ∨ a = 2) a with rfl | rfl | rfl
  · exact gstart _ _ _ _ (by decide) List.not_mem_nil (by decide) (ix2 r 0) fun b => by fin_cases b <;> rfl
  · exact gkept _ _ _ _ (by decide) List.not_mem_nil (by decide)
  · exact gkept _ _ _ _ (by decide) List.not_mem_nil (by decide)

theorem gat4 (x : S4096x4.Idx → α) (f : Fin 4) :
    Host.gather gather_S4096x4_S2048x1_S2048x4_1_0_n_n_0_1_14 x idx (ix2 r f) = x (ix2 (take idx r) f) := by
  refine congrArg x (funext fun a => Fin.ext ?_)
  rcases (by decide : ∀ a : Fin 2, a = 0 ∨ a = 1) a with rfl | rfl
  · exact gstart _ _ _ _ (by decide) List.not_mem_nil (by decide) (ix2 r 0) fun b => by fin_cases b <;> rfl
  · exact gkept _ _ _ _ (by decide) List.not_mem_nil (by decide)

theorem gatP (x : S2048x4.Idx → α) (idx : IVec S2048x2 32) :
    Host.gather gather_S2048x4_S2048x2_S2048_n_01_n_n_01_1_11 x idx (ix1 r)
      = x (ix2 ⟨min (idx (ix2 r 0)).toInt.toNat 2047, by omega⟩ ⟨min (idx (ix2 r 1)).toInt.toNat 3, by omega⟩) := by
  refine congrArg x (funext fun a => Fin.ext ?_)
  rcases (by decide : ∀ a : Fin 2, a = 0 ∨ a = 1) a with rfl | rfl
  · exact gstart _ _ _ _ (by decide) List.not_mem_nil (by decide) (ix2 r 0) fun b => by fin_cases b <;> rfl
  · exact gstart _ _ _ _ (by decide) List.not_mem_nil (by decide) (ix2 r 1) fun b => by fin_cases b <;> rfl

end Gathers

/-! ## A trip at ray `r` -/

variable (V : Valuation τ sig (Elt Ideal)) (r : Fin 2048)

/-- The position that ray `r` carries. -/
def rpos : V3 := fun i => V (Proc.devRef .tc main_v45_10) (ix2 r i)

/-- The direction that ray `r` carries. -/
def rdir : V3 := fun i => V (Proc.devRef .tc main_v45_11) (ix2 r i)

/-- The index word that ray `r` carries. -/
def rword : BitVec 32 := V (Proc.devRef .tc main_v45_9) (ix1 r)

/-- The tetrahedron in a row of the tables. -/
def rtab (j : Fin 4096) : Tet where
  n i := V (Proc.devRef .tc main_v45_0) (ix2 j i)
  a := V (Proc.devRef .tc main_v45_1) (ix1 j)
  ml f i := V (Proc.devRef .tc main_v45_2) (ix3 j f i)
  ql f := V (Proc.devRef .tc main_v45_3) (ix2 j f)

/-- The tetrahedron of ray `r`. -/
def rtet : Tet := rtab V (rowOf (rword V r))

/-- The indices as the gathers have them. -/
theorem take_eq : take (broadcastInDim S2048x1 ![0] Gen.bcast_S2048_S2048x1_0 (select (cmpi .slt (V (Proc.devRef .tc main_v45_9)) (broadcastInDim S2048 ![] Gen.bcast_S_S2048 (constantI S_ 32 0#32))) (addi (V (Proc.devRef .tc main_v45_9)) (broadcastInDim S2048 ![] Gen.bcast_S_S2048 (constantI S_ 32 4096#32))) (V (Proc.devRef .tc main_v45_9)))) r = rowOf (rword V r) := by
  unfold take
  refine Fin.ext ?_
  pointwise []
  rfl

theorem v95_at (i : Fin 3) : res_main_while0b_v95 V (ix2 r i) = (rtet V r).n i := by
  unfold res_main_while0b_v95
  rw [gat3, take_eq]; rfl

theorem v187_at (f : Fin 4) (i : Fin 3) : res_main_while0b_v187 V (ix3 r f i) = (rtet V r).ml f i := by
  unfold res_main_while0b_v187
  rw [gat43, take_eq]; rfl

theorem v103_at : res_main_while0b_v103 V (ix1 r) = (rtet V r).n 0 ∧ res_main_while0b_v105 V (ix1 r) = (rtet V r).n 1 ∧ res_main_while0b_v107 V (ix1 r) = (rtet V r).n 2 := by
  refine ⟨?_, ?_, ?_⟩
  · pointwise [res_main_while0b_v103]; exact v95_at V r 0
  · pointwise [res_main_while0b_v105]; exact v95_at V r 1
  · pointwise [res_main_while0b_v107]; exact v95_at V r 2

theorem v97_at : res_main_while0b_v97 V (ix1 r) = rdir V r 0 ∧ res_main_while0b_v99 V (ix1 r) = rdir V r 1 ∧ res_main_while0b_v101 V (ix1 r) = rdir V r 2 := by
  refine ⟨?_, ?_, ?_⟩
  · pointwise [res_main_while0b_v97]; rfl
  · pointwise [res_main_while0b_v99]; rfl
  · pointwise [res_main_while0b_v101]; rfl

theorem v120_at (i : Fin 3) : res_main_while0b_v120 V (ix2 r i) = cross (rdir V r) (rtet V r).n i := by
  obtain ⟨a, b, c⟩ := v97_at V r
  obtain ⟨x, y, z⟩ := v103_at V r
  fin_cases i
  · show res_main_while0b_v120 V (ix2 r 0) = _
    pointwise [res_main_while0b_v120]; rw [b, c, y, z]; rfl
  · show res_main_while0b_v120 V (ix2 r 1) = _
    pointwise [res_main_while0b_v120]; rw [a, c, x, z]; rfl
  · show res_main_while0b_v120 V (ix2 r 2) = _
    pointwise [res_main_while0b_v120]; rw [a, b, x, y]; rfl

theorem v126_at (i : Fin 3) : res_main_while0b_v126 V (ix2 r i) = Ideal.div (cross (rdir V r) (rtet V r).n i) (len (cross (rdir V r) (rtet V r).n)) := by
  pointwise [res_main_while0b_v126]
  rw [Fin.sum_univ_three, v120_at, v120_at, v120_at, v120_at]; rfl

theorem v128_at : res_main_while0b_v128 V (ix1 r) = (rtet V r).n 0 ∧ res_main_while0b_v130 V (ix1 r) = (rtet V r).n 1 ∧ res_main_while0b_v132 V (ix1 r) = (rtet V r).n 2 := by
  refine ⟨?_, ?_, ?_⟩
  · pointwise [res_main_while0b_v128]; exact v95_at V r 0
  · pointwise [res_main_while0b_v130]; exact v95_at V r 1
  · pointwise [res_main_while0b_v132]; exact v95_at V r 2

theorem v134_at : res_main_while0b_v134 V (ix1 r) = res_main_while0b_v126 V (ix2 r 0) ∧ res_main_while0b_v136 V (ix1 r) = res_main_while0b_v126 V (ix2 r 1) ∧ res_main_while0b_v138 V (ix1 r) = res_main_while0b_v126 V (ix2 r 2) := by
  refine ⟨?_, ?_, ?_⟩
  · pointwise [res_main_while0b_v134]
  · pointwise [res_main_while0b_v136]
  · pointwise [res_main_while0b_v138]

theorem v151_at (i : Fin 3) : res_main_while0b_v151 V (ix2 r i) = nq (rtet V r) (rdir V r) i := by
  obtain ⟨a, b, c⟩ := v134_at V r
  obtain ⟨x, y, z⟩ := v128_at V r
  fin_cases i
  · show res_main_while0b_v151 V (ix2 r 0) = _
    pointwise [res_main_while0b_v151]; rw [b, c, y, z, v126_at, v126_at]; rfl
  · show res_main_while0b_v151 V (ix2 r 1) = _
    pointwise [res_main_while0b_v151]; rw [a, c, x, z, v126_at, v126_at]; rfl
  · show res_main_while0b_v151 V (ix2 r 2) = _
    pointwise [res_main_while0b_v151]; rw [a, b, x, y, v126_at, v126_at]; rfl

theorem v176_at (i : Fin 3) : res_main_while0b_v176 V (ix2 r i) = centre (rtet V r) (rpos V r) (rdir V r) i := by
  pointwise [res_main_while0b_v176]
  rw [gat1, take_eq, Fin.sum_univ_three, Fin.sum_univ_three, Fin.sum_univ_three]
  simp only [v95_at, v151_at]; rfl

theorem v177_at (i : Fin 3) : res_main_while0b_v177 V (ix2 r i) = arm (rtet V r) (rpos V r) (rdir V r) i := by
  pointwise [res_main_while0b_v177]
  rw [v176_at]; rfl

theorem v180_at : res_main_while0b_v180 V (ix1 r) = radius (rtet V r) (rpos V r) (rdir V r) := by
  pointwise [res_main_while0b_v180]
  rw [Fin.sum_univ_three]
  simp only [v177_at]; rfl

theorem v199_at (f : Fin 4) : res_main_while0b_v199 V (ix2 r f) = -dot ((rtet V r).ml f) (arm (rtet V r) (rpos V r) (rdir V r)) := by
  pointwise [res_main_while0b_v199]
  rw [Fin.sum_univ_three]
  simp only [v177_at, v187_at]; rfl

theorem v206_at (f : Fin 4) : res_main_while0b_v206 V (ix2 r f) = radius (rtet V r) (rpos V r) (rdir V r) * dot ((rtet V r).ml f) (rdir V r) := by
  pointwise [res_main_while0b_v206]
  rw [Fin.sum_univ_three]
  simp only [v180_at, v187_at]; rfl

theorem v211_at (f : Fin 4) : res_main_while0b_v211 V (ix2 r f) = dot ((rtet V r).ml f) (centre (rtet V r) (rpos V r) (rdir V r)) + (rtet V r).ql f := by
  pointwise [res_main_while0b_v211]
  rw [gat4, take_eq, Fin.sum_univ_three]
  simp only [v176_at, v187_at]; rfl

/-- The remainders of the two angles. -/
theorem call3_at (f : Fin 4) (c1 c2 c3 : EReal) (h1 : res_main_while0b_v199 V (ix2 r f) = c1) (h2 : res_main_while0b_v206 V (ix2 r f) = c2) (h3 : res_main_while0b_v211 V (ix2 r f) = c3) :
    res_main_while0b_call3_v2 V (ix3 0 r f) = Ideal.remf (Ideal.ofBits FTy.f32 1073741824#32 * Ideal.atan2 (Ideal.div (c2 + disc c1 c2 c3) (c1 - c3)) 1) (Ideal.ofBits FTy.f32 1086918619#32)
    ∧ res_main_while0b_call3_v2 V (ix3 1 r f) = Ideal.remf (Ideal.ofBits FTy.f32 1073741824#32 * Ideal.atan2 (Ideal.div (c2 - disc c1 c2 c3) (c1 - c3)) 1) (Ideal.ofBits FTy.f32 1086918619#32) := by
  constructor
  · pointwise [res_main_while0b_call3_v2, res_main_while0b_call3_v0, res_main_while0b_v217]; rw [h1, h2, h3]; rfl
  · pointwise [res_main_while0b_call3_v2, res_main_while0b_call3_v0, res_main_while0b_v217]; rw [h1, h2, h3]; rfl

theorem fold_two (g : Fin 2 → EReal) : Finset.fold min (⊤ : EReal) g Finset.univ = min (g 0) (g 1) := by
  rw [show (Finset.univ : Finset (Fin 2)) = insert 0 {1} from by decide, Finset.fold_insert (by decide), Finset.fold_singleton, min_top_right]

theorem ne_xor (a b : BitVec 1) : IntOp.cmpi CmpIPredicate.ne a b = IntOp.xori a b := by
  revert a b; decide

theorem v232_at (f : Fin 4) : res_main_while0b_v232 V (ix2 r f) = angle (rtet V r) (rpos V r) (rdir V r) f := by
  obtain ⟨e0, e1⟩ := call3_at V r f _ _ _ (v199_at V r f) (v206_at V r f) (v211_at V r f)
  unfold res_main_while0b_v232
  change Host.reduce (α := EReal) (FloatOps.minimumf (F := Ideal) (φ := .f32)) _ _ _ _ (ix2 r f) = _
  rw [Host.reduce_eq_fold]
  refine (Shape.ReducesTo.fold_fiber_r3_a0 (n0 := 2) (n1 := 2048) (n2 := 4) (t := S2048x4) Gen.reducesTo_S2x2048x4_S2048x4_d0 (ix2 r f) _ _ _).trans ?_
  pointwise []
  rw [show Ideal.ofBits FTy.f32 2139095040#32 = ⊤ from by simp [Ideal.ofBits, Ideal.ieee]]
  refine (fold_two _).trans ?_
  rw [e0, e1, ne_xor, ne_xor]; rfl

theorem v234_at (f : Fin 4) : res_main_while0b_v234 V (ix2 r f) = angle (rtet V r) (rpos V r) (rdir V r) f := by
  pointwise [res_main_while0b_v234]
  exact (if_neg fun h => h rfl).trans (v232_at V r f)

theorem v236_at : res_main_while0b_v236 V (ix2 r 0) = least (angle (rtet V r) (rpos V r) (rdir V r)) := by
  pointwise [res_main_while0b_v236]
  refine (Shape.ReducesTo.fold_fiber_r2_a1 (n0 := 2048) (n1 := 4) (t := S2048) Gen.reducesTo_S2048x4_S2048_d1 (ix1 r) _ _ _).trans ?_
  exact congrArg (fun φ : Fin 4 → EReal => Finset.fold min (Ideal.ofBits FTy.f32 2139095040#32) φ Finset.univ) (funext fun f => v234_at V r f)

/-- The face ray `r` leaves by, the face numbers being the first coordinate's. -/
theorem v241_at (h4 : ∀ f : Fin 4, V (Proc.devRef .tc main_v45_4) (ix2 r f) = BitVec.ofNat 32 f.val) :
    res_main_while0b_v241 V (ix1 r) = face (angle (rtet V r) (rpos V r) (rdir V r)) := by
  unfold res_main_while0b_v241
  change Host.reduce (α := BitVec 32) IntOp.minsi _ _ _ _ (ix1 r) = _
  rw [Host.reduce_eq_fold]
  refine (Shape.ReducesTo.fold_fiber_r2_a1 (n0 := 2048) (n1 := 4) (t := S2048) Gen.reducesTo_S2048x4_S2048_d1 (ix1 r) _ _ _).trans ?_
  unfold face
  refine congrArg (fun φ => Finset.fold IntOp.minsi _ φ Finset.univ) (funext fun f => ?_)
  pointwise []
  rw [v234_at, v236_at, h4]

theorem v244_at : res_main_while0b_v244 V (ix2 r 0) = beyond (rtet V r) (rpos V r) (rdir V r) := by
  pointwise [res_main_while0b_v244]
  rw [v236_at]; rfl

theorem v254_at (i : Fin 3) : res_main_while0b_v254 V (ix2 r i) = pos' (rtet V r) (rpos V r) (rdir V r) i := by
  pointwise [res_main_while0b_v254]
  rw [v176_at, v177_at, v180_at, v244_at]; rfl

theorem rpos_STEP : rpos (STEP V) r = pos' (rtet V r) (rpos V r) (rdir V r) := by
  funext i
  unfold rpos
  rw [STEP_main_v45_10]
  exact v254_at V r i

theorem rdir_STEP : rdir (STEP V) r = dir' (rtet V r) (rpos V r) (rdir V r) := by
  funext i
  show STEP V (Proc.devRef .tc main_v45_11) (ix2 r i) = _
  rw [STEP_main_v45_11]
  unfold step_main_v45_11
  rw [id_eq]
  pointwise []
  rw [v177_at, v180_at, v244_at]; rfl

/-- The distance that the trip goes. -/
theorem gap_at : Host.sqrt (F := Ideal) (Host.reduceAdd (mulf (res_main_while0b_v297 V) (res_main_while0b_v297 V)) (constant S_ .f32 0x00000000#32) Gen.reducesTo_S2048x3_S2048_d1 Gen.h_S_) (ix1 r)
    = gap (rtet V r) (rpos V r) (rdir V r) := by
  pointwise [res_main_while0b_v297]
  rw [Fin.sum_univ_three, v254_at, v254_at, v254_at]; rfl

/-- The word of a number below `2 ^ 31` is not negative. -/
theorem toInt_small (n : ℕ) (h : n < 2 ^ 31) : (BitVec.ofNat 32 n).toInt = n := by
  rw [BitVec.toInt_ofNat', Int.bmod_eq_of_le (by omega) (by omega)]

theorem select_small (n : ℕ) (h : n < 2 ^ 31) (c : BitVec 32) :
    Scalar.select (IntOp.cmpi CmpIPredicate.slt (BitVec.ofNat 32 n) 0#32) (IntOp.addi (BitVec.ofNat 32 n) c) (BitVec.ofNat 32 n) = BitVec.ofNat 32 n := by
  have e : IntOp.cmpi CmpIPredicate.slt (BitVec.ofNat 32 n) 0#32 = 0#1 := by
    show BitVec.ofBool ((BitVec.ofNat 32 n).slt 0#32) = _
    rw [BitVec.slt_eq_decide, toInt_small n h]
    exact congrArg BitVec.ofBool (decide_eq_false (by simp))
  rw [e]; rfl

theorem step9_at (h4 : ∀ f : Fin 4, V (Proc.devRef .tc main_v45_4) (ix2 r f) = BitVec.ofNat 32 f.val)
    (h7 : V (Proc.devRef .tc main_v45_7) (ix1 r) = BitVec.ofNat 32 r.val) (f : Fin 4)
    (hf : face (angle (rtet V r) (rpos V r) (rdir V r)) = BitVec.ofNat 32 f.val) :
    rword (STEP V) r = Scalar.select (IntOp.cmpi CmpIPredicate.slt (rword V r) 0#32)
      (V (Proc.devRef .tc main_v45_5) (ix2 (rowOf (rword V r)) f)) (V (Proc.devRef .tc main_v45_6) (ix2 (rowOf (rword V r)) f)) := by
  have n1 : min (Scalar.select (IntOp.cmpi CmpIPredicate.slt (V (Proc.devRef .tc main_v45_7) (ix1 r)) 0#32)
                        (IntOp.addi (V (Proc.devRef .tc main_v45_7) (ix1 r)) 2048#32)
                        (V (Proc.devRef .tc main_v45_7) (ix1 r))).toInt.toNat 2047 = r.val := by
    rw [h7, select_small _ (by omega), toInt_small _ (by omega)]; omega
  have n2 : min (Scalar.select (IntOp.cmpi CmpIPredicate.slt (res_main_while0b_v241 V (ix1 r)) 0#32)
                    (IntOp.addi (res_main_while0b_v241 V (ix1 r)) 4#32) (res_main_while0b_v241 V (ix1 r))).toInt.toNat 3 = f.val := by
    rw [v241_at V r h4, hf, select_small _ (by omega), toInt_small _ (by omega)]; omega
  show STEP V (Proc.devRef .tc main_v45_9) (ix1 r) = _
  rw [STEP_main_v45_9]
  unfold step_main_v45_9
  rw [id_eq, gatP]
  pointwise []
  have e1 : ∀ h, (⟨_, h⟩ : Fin 2048) = r := fun h => Fin.ext n1
  have e2 : ∀ h, (⟨_, h⟩ : Fin 4) = f := fun h => Fin.ext n2
  rw [gat4, gat4, take_eq, e1, e2]; rfl

section Rows

variable {α : Type} (k : ℕ) (j : Fin 16)

/-- A row written into an array of rows. -/
theorem row2 (x : S16x2048.Idx → α) (u : S1x2048.Idx → α) (h : S16x2048.Slices ![k, 0] S1x2048) :
    updateSlice x u ![k, 0] h (ix2 j r) = if j.val = k then u (ix2 0 r) else x (ix2 j r) := by
  unfold updateSlice
  by_cases e : j.val = k
  · rw [if_pos e, dif_pos]
    · refine congrArg u (funext fun a => Fin.ext ?_)
      fin_cases a
      · show j.val - k = 0; omega
      · rfl
    · intro a
      fin_cases a
      · show k ≤ j.val ∧ j.val < k + 1; omega
      · show 0 ≤ r.val ∧ r.val < 0 + 2048; omega
  · rw [if_neg e, dif_neg fun hh => e ?_]
    have h0 : k ≤ j.val ∧ j.val < k + 1 := hh 0
    omega

theorem row3 (x : S16x2048x3.Idx → α) (u : S1x2048x3.Idx → α) (h : S16x2048x3.Slices ![k, 0, 0] S1x2048x3) (i : Fin 3) :
    updateSlice x u ![k, 0, 0] h (ix3 j r i) = if j.val = k then u (ix3 0 r i) else x (ix3 j r i) := by
  unfold updateSlice
  by_cases e : j.val = k
  · rw [if_pos e, dif_pos]
    · refine congrArg u (funext fun a => Fin.ext ?_)
      fin_cases a
      · show j.val - k = 0; omega
      · rfl
      · rfl
    · intro a
      fin_cases a
      · show k ≤ j.val ∧ j.val < k + 1; omega
      · show 0 ≤ r.val ∧ r.val < 0 + 2048; omega
      · show 0 ≤ i.val ∧ i.val < 0 + 3; omega
  · rw [if_neg e, dif_neg fun hh => e ?_]
    have h0 : k ≤ j.val ∧ j.val < k + 1 := hh 0
    omega

end Rows

theorem slab2 (k : ℕ) (hk : k < 16) : Shape.Slices ⟨2, ![16, 2048]⟩ ![k, 0] ⟨2, ![1, 2048]⟩ := ⟨rfl, fun a => by
  fin_cases a
  · show k + 1 ≤ 16; omega
  · exact Nat.le_refl 2048⟩

theorem slab3 (k : ℕ) (hk : k < 16) : Shape.Slices ⟨3, ![16, 2048, 3]⟩ ![k, 0, 0] ⟨3, ![1, 2048, 3]⟩ := ⟨rfl, fun a => by
  fin_cases a
  · show k + 1 ≤ 16; omega
  · exact Nat.le_refl 2048
  · exact Nat.le_refl 3⟩

theorem start8 (k : ℕ) (h8 : V (Proc.devRef .tc main_v45_8) ix0 = BitVec.ofNat 32 k) (hk : k < 16) :
    BitVec.toInt (V (Proc.devRef .tc main_v45_8) (Shape.Idx.first Gen.h_S_)) = (k : Int) := by
  rw [show V (Proc.devRef .tc main_v45_8) (Shape.Idx.first Gen.h_S_) = BitVec.ofNat 32 k from
    (congrArg _ (funext fun a => a.elim0 : (Shape.Idx.first Gen.h_S_ : S_.Idx) = ix0)).trans h8, toInt_small _ (by omega)]

theorem step13_at (k : ℕ) (h8 : V (Proc.devRef .tc main_v45_8) ix0 = BitVec.ofNat 32 k) (hk : k < 16) (j : Fin 16) :
    STEP V (Proc.devRef .tc main_v45_13) (ix2 j r) = if j.val = k then gap (rtet V r) (rpos V r) (rdir V r) else V (Proc.devRef .tc main_v45_13) (ix2 j r) := by
  rw [STEP_main_v45_13]
  unfold step_main_v45_13
  rw [id_eq, WordCmp.dynamicUpdateSlice_eq_update _ _ _ _ ![k, 0] (slab2 k hk) (fun a => by
    fin_cases a
    · exact start8 V k h8 hk

    · rfl)]
  rw [← gap_at V r]
  refine (row2 r k j _ _ _).trans ?_
  by_cases e : j.val = k
  · rw [if_pos e, if_pos e]
    pointwise []
  · rw [if_neg e, if_neg e]

theorem step12_at (k : ℕ) (h8 : V (Proc.devRef .tc main_v45_8) ix0 = BitVec.ofNat 32 k) (hk : k < 16) (j : Fin 16) (i : Fin 3) :
    STEP V (Proc.devRef .tc main_v45_12) (ix3 j r i) = if j.val = k then pos' (rtet V r) (rpos V r) (rdir V r) i else V (Proc.devRef .tc main_v45_12) (ix3 j r i) := by
  rw [STEP_main_v45_12]
  unfold step_main_v45_12
  rw [id_eq, WordCmp.dynamicUpdateSlice_eq_update _ _ _ _ ![k, 0, 0] (slab3 k hk) (fun a => by
    fin_cases a
    · exact start8 V k h8 hk

    · rfl
    · rfl)]
  rw [← v254_at V r]
  refine (row3 r k j _ _ _ i).trans ?_
  by_cases e : j.val = k
  · rw [if_pos e, if_pos e]
    pointwise []
  · rw [if_neg e, if_neg e]

theorem step8_at (k : ℕ) (h8 : V (Proc.devRef .tc main_v45_8) ix0 = BitVec.ofNat 32 k) : STEP V (Proc.devRef .tc main_v45_8) ix0 = BitVec.ofNat 32 (k + 1) := by
  rw [STEP_main_v45_8]
  show IntOp.addi (V (Proc.devRef .tc main_v45_8) ix0) 1#32 = _
  rw [h8]
  show BitVec.ofNat 32 k + 1#32 = _
  rw [BitVec.ofNat_add]

end Cert.ReferenceIdeal.Hand

end
-- ==== Proof.RefPath.lean ====
/- The reference's walk, repeated: each ray follows the path of Path.lean, and the two histories keep its places and its gaps. -/
module

public import proofs.«01_k».proof.Proof.RefStep

@[expose] public section

set_option maxRecDepth 8192
set_option maxHeartbeats 4000000

noncomputable section

namespace Cert.ReferenceIdeal.Hand

open Cert.ReferenceIdeal Cert.ReferenceIdeal.Value
open Idealize Idealize.ShloMosaic Idealize.ShloMosaic.Pointwise Idealize.ShloMosaic.StableHlo
open Cert.Walk

/-- The mesh that the walk's tables hold. -/
def rmesh (V : Valuation τ sig (Elt Ideal)) : Mesh where
  tet := rtab V
  next j f := V (Proc.devRef .tc main_v45_6) (ix2 j f)
  first j f := V (Proc.devRef .tc main_v45_5) (ix2 j f)

/-- Ray `r` as the walk carries it. -/
def rray (V : Valuation τ sig (Elt Ideal)) (r : Fin 2048) : Ray := ⟨rword V r, rpos V r, rdir V r⟩

variable (V : Valuation τ sig (Elt Ideal)) (r : Fin 2048)

theorem rmesh_STEP : rmesh (STEP V) = rmesh V := by
  unfold rmesh rtab
  rw [STEP_main_v45_0, STEP_main_v45_1, STEP_main_v45_2, STEP_main_v45_3, STEP_main_v45_5, STEP_main_v45_6]

theorem rray_STEP (h4 : ∀ f : Fin 4, V (Proc.devRef .tc main_v45_4) (ix2 r f) = BitVec.ofNat 32 f.val)
    (h7 : V (Proc.devRef .tc main_v45_7) (ix1 r) = BitVec.ofNat 32 r.val) : rray (STEP V) r = (rray V r).step (rmesh V) := by
  have hw := step9_at V r h4 h7 ((rray V r).exit (rmesh V)) (exit_spec (rmesh V) (rray V r))
  unfold rray
  rw [hw, rpos_STEP, rdir_STEP]; rfl

/-- After `k` steps. -/
structure At (V0 V : Valuation τ sig (Elt Ideal)) (k : ℕ) : Prop where
  mesh : rmesh V = rmesh V0
  faces : V (Proc.devRef .tc main_v45_4) = V0 (Proc.devRef .tc main_v45_4)
  rays : V (Proc.devRef .tc main_v45_7) = V0 (Proc.devRef .tc main_v45_7)
  count : V (Proc.devRef .tc main_v45_8) ix0 = BitVec.ofNat 32 k
  ray : ∀ r, rray V r = path (rmesh V0) (rray V0 r) k
  gaps : ∀ (j : Fin 16) (r : Fin 2048), j.val < k → (V (Proc.devRef .tc main_v45_13) (ix2 j r) : EReal) = (path (rmesh V0) (rray V0 r) j.val).gap (rmesh V0)
  places : ∀ (j : Fin 16) (r : Fin 2048) (i : Fin 3), j.val < k → (V (Proc.devRef .tc main_v45_12) (ix3 j r i) : EReal) = (path (rmesh V0) (rray V0 r) (j.val + 1)).pos i

theorem at_iter (V0 : Valuation τ sig (Elt Ideal)) (h4 : ∀ (r : Fin 2048) (f : Fin 4), V0 (Proc.devRef .tc main_v45_4) (ix2 r f) = BitVec.ofNat 32 f.val)
    (h7 : ∀ r : Fin 2048, V0 (Proc.devRef .tc main_v45_7) (ix1 r) = BitVec.ofNat 32 r.val) (h8 : V0 (Proc.devRef .tc main_v45_8) ix0 = 0#32) :
    ∀ k ≤ 16, At V0 (STEP^[k] V0) k
  | 0, _ => ⟨rfl, rfl, rfl, h8, fun _ => rfl, fun _ _ h => absurd h (by omega), fun _ _ _ h => absurd h (by omega)⟩
  | k + 1, hk => by
    have ih := at_iter V0 h4 h7 h8 k (by omega)
    rw [Function.iterate_succ_apply']
    generalize STEP^[k] V0 = V at ih
    refine ⟨(rmesh_STEP V).trans ih.mesh, (STEP_main_v45_4 V).trans ih.faces, (STEP_main_v45_7 V).trans ih.rays, step8_at V k ih.count, fun r => ?_, fun j r hj => ?_, fun j r i hj => ?_⟩
    · rw [rray_STEP V r (fun f => by rw [ih.faces]; exact h4 r f) (by rw [ih.rays]; exact h7 r), ih.ray r, ih.mesh]; rfl
    · rw [step13_at V r k ih.count (by omega) j]
      by_cases e : j.val = k
      · rw [if_pos e, e, ← ih.ray r, ← ih.mesh]; rfl
      · rw [if_neg e]; exact ih.gaps j r (by omega)
    · rw [step12_at V r k ih.count (by omega) j i]
      by_cases e : j.val = k
      · rw [if_pos e, e]
        show _ = ((path (rmesh V0) (rray V0 r) k).step (rmesh V0)).pos i
        rw [← ih.ray r, ← ih.mesh]; rfl
      · rw [if_neg e]; exact ih.places j r i (by omega)

end Cert.ReferenceIdeal.Hand

end
-- ==== Proof.RefPost.lean ====
/- The reference after its walk: the gaps added up, the samples' slots counted, and the two places of each slot joined. -/
module

public import proofs.«01_k».proof.Proof.RefPath
public import proofs.«01_k».proof.Proof.Answer
import Idealize.ShloMosaic.Lib.Routing.Ops
import Idealize.ShloMosaic.Lib.StableHlo.RunRead
import Idealize.ShloMosaic.Lib.StableHlo.ReadAt
@[expose] public section
set_option maxRecDepth 8192
set_option maxHeartbeats 4000000
noncomputable section
namespace Cert.ReferenceIdeal.Hand
open Cert.ReferenceIdeal Cert.ReferenceIdeal.Value Cert.ReferenceIdeal.Gen
open Idealize Idealize.ShloMosaic Idealize.ShloMosaic.Pointwise Idealize.ShloMosaic.StableHlo
open Cert.Walk Idealize.ShloMosaic.Tactic

variable (W : Valuation τ sig (Elt Ideal))

/-- What every array holds at the end, from what it holds after the walk. -/
def Z : Valuation τ sig (Elt Ideal) :=
  after [hostOps0_7, hostOps0_8, hostOps0_9, hostOps0_10, hostOps0_11, hostOps0_12, hostOps0_13].flatten W

theorem Z_eq : afterL postI W = Z W := afterL_eq_after_flatten _ _

/-- The places of a ray, the start first. -/
theorem Z_48 (r : Fin 2048) (j : Fin 17) (i : Fin 3) : (Z W (Proc.devRef .tc main_v48) (ix3 r j i) : EReal)
    = if h : j.val < 1 then W (Proc.devRef .tc main_arg0) (ix2 r i) else W (Proc.devRef .tc main_v45_12) (ix3 ⟨j.val - 1, by omega⟩ r i) := by
  unfold Z
  after_reads_at

/-- The gaps of a ray, a zero first. -/
theorem Z_51 (r : Fin 2048) (j : Fin 17) : (Z W (Proc.devRef .tc main_v51) (ix2 r j) : EReal)
    = if h : j.val < 1 then (0 : EReal) else W (Proc.devRef .tc main_v45_13) (ix2 ⟨j.val - 1, by omega⟩ r) := by
  unfold Z
  after_reads_at

/-- The distances come by a ray. -/
def come : Vec Ideal S2048x17 .f32 := Z W (Proc.devRef .tc main_v52)

/-- The samples' slots. -/
def slots : IVec S2048x64 32 := Z W (Proc.devRef .tc main_v62)

/-- The distances asked for. -/
def asked : Vec Ideal S2048x64 .f32 := W (Proc.devRef .tc main_v14)

/-- The distance at the slot, and at the place after it. -/
def come0 : Vec Ideal S2048x64 .f32 := Z W (Proc.devRef .tc main_v72)
def come1 : Vec Ideal S2048x64 .f32 := Z W (Proc.devRef .tc main_v73)

/-- The place at the slot, and the one after it. -/
def place0 : Vec Ideal S2048x64x3 .f32 := Z W (Proc.devRef .tc main_v82)
def place1 : Vec Ideal S2048x64x3 .f32 := Z W (Proc.devRef .tc main_v83)

/-- How far between them the sample lies. -/
def part : Vec Ideal S2048x64 .f32 := Z W (Proc.devRef .tc main_v81)

theorem Z_52 : come W = Host.reduceWindowAdd (F := Ideal) ![1, 17] ![1, 1] ![0, 16] ![0, 0] (Z W (Proc.devRef .tc main_v51)) (broadcastInDim S_ ![] bcast_S_S_ (constant (F := Ideal) S_ .f32 0x00000000#32)) reduceWindows_S2048x17_S2048x17_w1s1p0_0_w17s1p16_0 h_S_ := by
  simp only [come, slots, asked, come0, come1, place0, place1, part, Z]
  after_reads_simp
  simp -implicitDefEqProofs only [TRef.toBuf, TRef.ofBuf, cast_cast, cast_eq, id_eq]

theorem Z_62 : slots W = minsi (broadcastInDim S2048x64 ![] bcast_S_S2048x64 (constantI S_ 32 15#32)) (maxsi (broadcastInDim S2048x64 ![] bcast_S_S2048x64 (constantI S_ 32 0#32))
    (subi (Host.reduce IntOp.addi (extui 32 (cmpf (F := Ideal) (φ := .f32) (s := S2048x64x17) .ole (broadcastInDim S2048x64x17 ![0, 1, 2] bcast_S2048x1x17_S2048x64x17_0_1_2 (broadcastInDim S2048x1x17 ![0, 2] bcast_S2048x17_S2048x1x17_0_2 (come W) : Vec Ideal S2048x1x17 .f32))
      (broadcastInDim S2048x64x17 ![0, 1, 2] bcast_S2048x64x1_S2048x64x17_0_1_2 (broadcastInDim S2048x64x1 ![0, 1] bcast_S2048x64_S2048x64x1_0_1 (asked W) : Vec Ideal S2048x64x1 .f32))) natLt_1_32) (constantI S_ 32 0#32) reducesTo_S2048x64x17_S2048x64_d2 h_S_)
      (broadcastInDim S2048x64 ![] bcast_S_S2048x64 (constantI S_ 32 1#32)))) := by
  simp only [come, slots, asked, come0, come1, place0, place1, part, Z]
  after_reads_simp
  simp -implicitDefEqProofs only [TRef.toBuf, TRef.ofBuf, cast_cast, cast_eq, id_eq]

theorem Z_66 (r : Fin 2048) (s : Fin 64) : Z W (Proc.devRef .tc main_v66) (ix3 r s 0) = BitVec.ofNat 32 r.val ∧ Z W (Proc.devRef .tc main_v66) (ix3 r s 1) = slots W (ix2 r s) := by
  have h4 : upto [hostOps0_7, hostOps0_8, hostOps0_9, hostOps0_10, hostOps0_11, hostOps0_12, hostOps0_13].flatten W 32 (Proc.devRef .tc main_v64) = broadcastInDim S2048x64x1 ![0, 1] bcast_S2048x64_S2048x64x1_0_1 (iotaInDim S2048x64 32 0) := by
    after_reads_simp
  have h5 : upto [hostOps0_7, hostOps0_8, hostOps0_9, hostOps0_10, hostOps0_11, hostOps0_12, hostOps0_13].flatten W 32 (Proc.devRef .tc main_v65) = broadcastInDim S2048x64x1 ![0, 1] bcast_S2048x64_S2048x64x1_0_1 (slots W) := by
    unfold slots Z
    after_reads_simp
  generalize slots W = S at *
  have h6 : Z W (Proc.devRef .tc main_v66) = concatenate S2048x64x2 2 [⟨S2048x64x1, broadcastInDim S2048x64x1 ![0, 1] bcast_S2048x64_S2048x64x1_0_1 (iotaInDim S2048x64 32 0)⟩, ⟨S2048x64x1, broadcastInDim S2048x64x1 ![0, 1] bcast_S2048x64_S2048x64x1_0_1 S⟩] concatenates_S2048x64x1_S2048x64x1_S2048x64x2_d2 := by
    unfold Z
    after_reads_simp
    rw [h4, h5]
  rw [h6]
  constructor
  · pointwise
  · pointwise

theorem Z_71 (r : Fin 2048) (s : Fin 64) : Z W (Proc.devRef .tc main_v71) (ix3 r s 0) = BitVec.ofNat 32 r.val ∧ Z W (Proc.devRef .tc main_v71) (ix3 r s 1) = IntOp.addi (slots W (ix2 r s)) 1#32 := by
  have h4 : upto [hostOps0_7, hostOps0_8, hostOps0_9, hostOps0_10, hostOps0_11, hostOps0_12, hostOps0_13].flatten W 38 (Proc.devRef .tc main_v69) = broadcastInDim S2048x64x1 ![0, 1] bcast_S2048x64_S2048x64x1_0_1 (iotaInDim S2048x64 32 0) := by
    after_reads_simp
  have h5 : upto [hostOps0_7, hostOps0_8, hostOps0_9, hostOps0_10, hostOps0_11, hostOps0_12, hostOps0_13].flatten W 38 (Proc.devRef .tc main_v70) = broadcastInDim S2048x64x1 ![0, 1] bcast_S2048x64_S2048x64x1_0_1 (addi (slots W) (broadcastInDim S2048x64 ![] bcast_S_S2048x64 (constantI S_ 32 1#32))) := by
    unfold slots Z
    after_reads_simp
  generalize slots W = S at *
  have h6 : Z W (Proc.devRef .tc main_v71) = concatenate S2048x64x2 2 [⟨S2048x64x1, broadcastInDim S2048x64x1 ![0, 1] bcast_S2048x64_S2048x64x1_0_1 (iotaInDim S2048x64 32 0)⟩, ⟨S2048x64x1, broadcastInDim S2048x64x1 ![0, 1] bcast_S2048x64_S2048x64x1_0_1 (addi S (broadcastInDim S2048x64 ![] bcast_S_S2048x64 (constantI S_ 32 1#32)))⟩] concatenates_S2048x64x1_S2048x64x1_S2048x64x2_d2 := by
    unfold Z
    after_reads_simp
    rw [h4, h5]
  rw [h6]
  constructor
  · pointwise
  · pointwise

theorem Z_72 : come0 W = Host.gather gather_S2048x17_S2048x64x2_S2048x64_n_01_n_n_01_2_11 (come W) (Z W (Proc.devRef .tc main_v66)) := by
  simp only [come, slots, asked, come0, come1, place0, place1, part, Z]
  after_reads_simp

theorem Z_73 : come1 W = Host.gather gather_S2048x17_S2048x64x2_S2048x64_n_01_n_n_01_2_11 (come W) (Z W (Proc.devRef .tc main_v71)) := by
  simp only [come, slots, asked, come0, come1, place0, place1, part, Z]
  after_reads_simp

theorem Z_82 : place0 W = Host.gather gather_S2048x17x3_S2048x64x2_S2048x64x3_2_01_n_n_01_2_113 (Z W (Proc.devRef .tc main_v48)) (Z W (Proc.devRef .tc main_v66)) := by
  simp only [come, slots, asked, come0, come1, place0, place1, part, Z]
  after_reads_simp

theorem Z_83 : place1 W = Host.gather gather_S2048x17x3_S2048x64x2_S2048x64x3_2_01_n_n_01_2_113 (Z W (Proc.devRef .tc main_v48)) (Z W (Proc.devRef .tc main_v71)) := by
  simp only [come, slots, asked, come0, come1, place0, place1, part, Z]
  after_reads_simp

theorem Z_81 : part W = Host.divf (F := Ideal) (subf (F := Ideal) (asked W) (come0 W))
    (select (cmpf (F := Ideal) .ogt (Host.absf (F := Ideal) (subf (F := Ideal) (come1 W) (come0 W))) (broadcastInDim S2048x64 ![] bcast_S_S2048x64 (constant (F := Ideal) S_ .f32 0x2B8CBCCC#32)))
      (subf (F := Ideal) (come1 W) (come0 W)) (broadcastInDim S2048x64 ![] bcast_S_S2048x64 (constant (F := Ideal) S_ .f32 0x3F800000#32))) := by
  simp only [come, slots, asked, come0, come1, place0, place1, part, Z]
  after_reads_simp
  simp -implicitDefEqProofs only [TRef.toBuf, TRef.ofBuf, cast_cast, cast_eq, id_eq]

theorem Z_88 : (Z W (Proc.devRef .tc main_v88) : Vec Ideal S2048x64x3 .f32) = addf (F := Ideal) (φ := .f32) (s := S2048x64x3) (place0 W)
    (mulf (F := Ideal) (φ := .f32) (s := S2048x64x3) (broadcastInDim S2048x64x3 ![0, 1, 2] bcast_S2048x64x1_S2048x64x3_0_1_2 (broadcastInDim S2048x64x1 ![0, 1] bcast_S2048x64_S2048x64x1_0_1 (part W : Vec Ideal S2048x64 .f32) : Vec Ideal S2048x64x1 .f32) : Vec Ideal S2048x64x3 .f32)
    (subf (F := Ideal) (φ := .f32) (s := S2048x64x3) (place1 W) (place0 W))) := by
  simp only [come, slots, asked, come0, come1, place0, place1, part, Z]
  after_reads_simp

end Cert.ReferenceIdeal.Hand
-- ==== Proof.RefOut.lean ====
/- The reference's samples: its running sums are the walk's distances, its count the slot, its reads the two places of the slot. -/
module

public import proofs.«01_k».proof.Proof.RefPost
import proofs.«01_k».proof.Proof.RefStep
import Idealize.ShloMosaic.Lib.Routing.Ops
import Idealize.ShloMosaic.Lib.StableHlo.RunRead
import Idealize.ShloMosaic.Lib.StableHlo.ReadAt
@[expose] public section
set_option maxRecDepth 8192
set_option maxHeartbeats 4000000
noncomputable section
namespace Cert.ReferenceIdeal.Hand
open Cert.ReferenceIdeal Cert.ReferenceIdeal.Value Cert.ReferenceIdeal.Gen
open Idealize Idealize.ShloMosaic Idealize.ShloMosaic.Pointwise Idealize.ShloMosaic.StableHlo
open Cert.Walk Idealize.ShloMosaic.Tactic

/-- The sum of the first `n` numbers. -/
def tally (u : ℕ → EReal) : ℕ → EReal
  | 0 => 0
  | n + 1 => tally u n + u n

/-- A window that begins before the row adds up only what lies in the row. -/
theorem tally_window (u : ℕ → EReal) (j : ℕ) (hj : j ≤ 16) : ∀ M, (List.range M).foldl (fun s n => s + if 16 ≤ j + n then u (j + n - 16) else 0) 0 = tally u (j + M - 16)
  | 0 => by
    rw [show j + 0 - 16 = 0 by omega]; rfl
  | M + 1 => by
    rw [List.range_succ, List.foldl_append, tally_window u j hj M]
    show tally u (j + M - 16) + (if 16 ≤ j + M then u (j + M - 16) else 0) = _
    split
    · rw [show j + (M + 1) - 16 = (j + M - 16) + 1 by omega]; rfl
    · rw [show j + (M + 1) - 16 = j + M - 16 by omega, add_zero]

/-- A fold over numbered things whose every step adds a number's amount. -/
theorem foldl_tally {N : ℕ} (f : EReal → Fin N → EReal) (g : ℕ → EReal) (h : ∀ s n, f s n = s + g n.val) (b : EReal) :
    (List.finRange N).foldl f b = (List.range N).foldl (fun s n => s + g n) b := by
  rw [← List.map_coe_finRange_eq_range, List.foldl_map]
  exact congrArg (fun k => (List.finRange N).foldl k b) (funext fun s => funext fun n => h s n)

/-- The running sum along a row of seventeen. -/
theorem running (x : Vec Ideal S2048x17 .f32) (u : ℕ → EReal) (r : Fin 2048) (hx : ∀ k : Fin 17, x (ix2 r k) = u k.val)
    (init : Vec Ideal S_ .f32) (h0 : ∀ i, init i = (0 : EReal)) (j : Fin 17) :
    Host.reduceWindowAdd (F := Ideal) (φ := .f32) (s := S2048x17) (t := S2048x17) ![1, 17] ![1, 1] ![0, 16] ![0, 0] x init reduceWindows_S2048x17_S2048x17_w1s1p0_0_w17s1p16_0 h_S_ (ix2 r j) = tally u (j.val + 1) := by
  have hj := j.isLt
  change Host.reduceWindow (u := ⟨0, ![]⟩) (fun a b : EReal => a + b) ![1, 17] ![1, 1] ![0, 16] ![0, 0] x (fun _ => init (Shape.Idx.first h_S_)) reduceWindows_S2048x17_S2048x17_w1s1p0_0_w17s1p16_0 (by decide) (ix2 r j) = _
  rw [h0]
  unfold Host.reduceWindow
  refine (foldl_tally _ (fun n => if 16 ≤ j.val + n then u (j.val + n - 16) else 0) (fun s n => ?_) _).trans ?_
  · have e0 : ((Routing.shape2 1 17).rowMajor.symm n 0).val = 0 := by rw [Routing.symm2]; rfl
    have e1 : ((Routing.shape2 1 17).rowMajor.symm n 1).val = n.val := by rw [Routing.symm2]; rfl
    have hn : n.val < 17 := (n.cast (Routing.numel2 17)).isLt
    dsimp only
    refine congrArg (fun v => s + v) ?_
    by_cases c : 16 ≤ j.val + n.val
    · rw [if_pos c]
      have hin : ∀ a, (![0, 16] : Fin 2 → ℕ) a ≤ ((ix2 r j : S2048x17.Idx) a).val * (![1, 1] : Fin 2 → ℕ) a + ((Routing.shape2 1 17).rowMajor.symm n a).val
          ∧ ((ix2 r j : S2048x17.Idx) a).val * (![1, 1] : Fin 2 → ℕ) a + ((Routing.shape2 1 17).rowMajor.symm n a).val - (![0, 16] : Fin 2 → ℕ) a < S2048x17.size a := by
        intro a
        rcases (by decide : ∀ a : Fin 2, a = 0 ∨ a = 1) a with rfl | rfl
        · show 0 ≤ r.val * 1 + _ ∧ r.val * 1 + ((Routing.shape2 1 17).rowMajor.symm n 0).val - 0 < 2048
          have := r.isLt
          omega
        · show 16 ≤ j.val * 1 + ((Routing.shape2 1 17).rowMajor.symm n 1).val ∧ j.val * 1 + ((Routing.shape2 1 17).rowMajor.symm n 1).val - 16 < 17
          omega
      refine (dif_pos hin).trans ((congrArg x (funext fun a => Fin.ext ?_)).trans (hx ⟨j.val + n.val - 16, by omega⟩))
      rcases (by decide : ∀ a : Fin 2, a = 0 ∨ a = 1) a with rfl | rfl
      · show r.val * 1 + ((Routing.shape2 1 17).rowMajor.symm n 0).val - 0 = r.val
        omega
      · show j.val * 1 + ((Routing.shape2 1 17).rowMajor.symm n 1).val - 16 = j.val + n.val - 16
        omega
    · rw [if_neg c]
      refine dif_neg fun hin => c ?_
      have h1 := (hin 1).1
      change 16 ≤ j.val * 1 + ((Routing.shape2 1 17).rowMajor.symm n 1).val at h1
      omega
  · refine (tally_window u j.val (by omega) _).trans ?_
    rw [show (⟨2, ![1, 17]⟩ : Shape).numel = 17 from Routing.numel2 17, show j.val + 17 - 16 = j.val + 1 by omega]

/-- The count over all places, in any order. -/
theorem hits_fold (D : ℕ → EReal) (z : EReal) : ∀ n : ℕ, (Finset.univ : Finset (Fin n)).fold IntOp.addi 0#32 (fun k => hit (D k.val) z) = hits D z n
  | 0 => rfl
  | n + 1 => by
    rw [Fin.univ_castSuccEmb, Finset.fold_cons, Finset.fold_map]
    show IntOp.addi (hit (D n) z) (Finset.univ.fold IntOp.addi 0#32 fun k : Fin n => hit (D k.val) z) = IntOp.addi (hits D z n) (hit (D n) z)
    rw [hits_fold D z n]
    exact BitVec.add_comm _ _

section Reads

variable {α : Type} (idx : IVec S2048x64x2 32) (r : Fin 2048) (s : Fin 64)

/-- The read of one distance by ray and slot. -/
theorem read_come (x : S2048x17.Idx → α) : Host.gather gather_S2048x17_S2048x64x2_S2048x64_n_01_n_n_01_2_11 x idx (ix2 r s)
    = x (ix2 ⟨min (idx (ix3 r s 0)).toInt.toNat 2047, by omega⟩ ⟨min (idx (ix3 r s 1)).toInt.toNat 16, by omega⟩) := by
  refine congrArg x (funext fun a => Fin.ext ?_)
  rcases (by decide : ∀ a : Fin 2, a = 0 ∨ a = 1) a with rfl | rfl
  · exact gstart _ _ _ _ (by decide) List.not_mem_nil (by decide) (ix3 r s 0) fun b => by fin_cases b <;> rfl
  · exact gstart _ _ _ _ (by decide) List.not_mem_nil (by decide) (ix3 r s 1) fun b => by fin_cases b <;> rfl

/-- The read of one place by ray and slot. -/
theorem read_place (x : S2048x17x3.Idx → α) (i : Fin 3) : Host.gather gather_S2048x17x3_S2048x64x2_S2048x64x3_2_01_n_n_01_2_113 x idx (ix3 r s i)
    = x (ix3 ⟨min (idx (ix3 r s 0)).toInt.toNat 2047, by omega⟩ ⟨min (idx (ix3 r s 1)).toInt.toNat 16, by omega⟩ i) := by
  refine congrArg x (funext fun a => Fin.ext ?_)
  rcases (by decide : ∀ a : Fin 3, a = 0 ∨ a = 1 ∨ a = 2) a with rfl | rfl | rfl
  · exact gstart _ _ _ _ (by decide) List.not_mem_nil (by decide) (ix3 r s 0) fun b => by fin_cases b <;> rfl
  · exact gstart _ _ _ _ (by decide) List.not_mem_nil (by decide) (ix3 r s 1) fun b => by fin_cases b <;> rfl
  · exact gkept _ _ _ _ (by decide) List.not_mem_nil (by decide)

/-- The two reads where the index is a ray's number and a place's. -/
theorem read_at (n : Fin 17) (h0 : idx (ix3 r s 0) = BitVec.ofNat 32 r.val) (h1 : idx (ix3 r s 1) = BitVec.ofNat 32 n.val) :
    (∀ x : S2048x17.Idx → α, Host.gather gather_S2048x17_S2048x64x2_S2048x64_n_01_n_n_01_2_11 x idx (ix2 r s) = x (ix2 r n))
    ∧ ∀ (x : S2048x17x3.Idx → α) (i : Fin 3), Host.gather gather_S2048x17x3_S2048x64x2_S2048x64x3_2_01_n_n_01_2_113 x idx (ix3 r s i) = x (ix3 r n i) := by
  have hr := r.isLt
  have hn := n.isLt
  have e0 : min (idx (ix3 r s 0)).toInt.toNat 2047 = r.val := by rw [h0, toInt_word _ (by omega)]; omega
  have e1 : min (idx (ix3 r s 1)).toInt.toNat 16 = n.val := by rw [h1, toInt_word _ (by omega)]; omega
  refine ⟨fun x => (read_come idx r s x).trans (congrArg x ?_), fun x i => (read_place idx r s x i).trans (congrArg x ?_)⟩
  · congr 1 <;> exact Fin.ext (by assumption)
  · congr 1 <;> exact Fin.ext (by assumption)

end Reads

variable (W : Valuation τ sig (Elt Ideal)) (r : Fin 2048) (s : Fin 64) (T : Mesh) (q : Ray)

/-- The running sums are the distances of a walk whose gaps are the given ones. -/
theorem come_at (hg : ∀ j : Fin 16, (W (Proc.devRef .tc main_v45_13) (ix2 j r) : EReal) = (path T q j.val).gap T) (j : Fin 17) : come W (ix2 r j) = dist T q j.val := by
  have e : come W (ix2 r j) = tally (fun k => if k < 1 then 0 else (path T q (k - 1)).gap T) (j.val + 1) := by
    rw [Z_52]
    refine running _ _ r (fun k => (Z_51 W r k).trans ?_) _ (fun i => ?_) j
    · by_cases c : k.val < 1
      · rw [dif_pos c, if_pos c]
      · rw [dif_neg c, if_neg c]; exact hg ⟨k.val - 1, by omega⟩
    · exact Ideal.ofBits_zero .f32
  have t : ∀ n, tally (fun k => if k < 1 then 0 else (path T q (k - 1)).gap T) (n + 1) = dist T q n := by
    intro n
    induction n with
    | zero => exact add_zero _
    | succ n ih =>
      show tally _ (n + 1) + (if n + 1 < 1 then 0 else (path T q (n + 1 - 1)).gap T) = dist T q n + (path T q n).gap T
      rw [ih, if_neg (by omega)]; rfl
  rw [e, t]

/-- The places are those of the walk. -/
theorem place_at (h0 : ∀ i, (W (Proc.devRef .tc main_arg0) (ix2 r i) : EReal) = q.pos i)
    (hp : ∀ (j : Fin 16) (i : Fin 3), (W (Proc.devRef .tc main_v45_12) (ix3 j r i) : EReal) = (path T q (j.val + 1)).pos i) (j : Fin 17) (i : Fin 3) :
    (Z W (Proc.devRef .tc main_v48) (ix3 r j i) : EReal) = (path T q j.val).pos i := by
  rw [Z_48]
  by_cases c : j.val < 1
  · rw [dif_pos c, h0, show j.val = 0 by omega]; rfl
  · rw [dif_neg c, hp]
    show (path T q (j.val - 1 + 1)).pos i = _
    rw [show j.val - 1 + 1 = j.val by omega]

/-- The count is the slot. -/
theorem slots_at (D : ℕ → EReal) (hD : ∀ j : Fin 17, come W (ix2 r j) = D j.val) : slots W (ix2 r s) = slot D (asked W (ix2 r s)) := by
  have e : (Host.reduce IntOp.addi (extui 32 (cmpf (F := Ideal) (φ := .f32) (s := S2048x64x17) .ole (broadcastInDim S2048x64x17 ![0, 1, 2] bcast_S2048x1x17_S2048x64x17_0_1_2 (broadcastInDim S2048x1x17 ![0, 2] bcast_S2048x17_S2048x1x17_0_2 (come W) : Vec Ideal S2048x1x17 .f32))
      (broadcastInDim S2048x64x17 ![0, 1, 2] bcast_S2048x64x1_S2048x64x17_0_1_2 (broadcastInDim S2048x64x1 ![0, 1] bcast_S2048x64_S2048x64x1_0_1 (asked W) : Vec Ideal S2048x64x1 .f32))) natLt_1_32) (constantI S_ 32 0#32) reducesTo_S2048x64x17_S2048x64_d2 h_S_ : IVec S2048x64 32) (ix2 r s)
      = hits D (asked W (ix2 r s)) 17 := by
    rw [← hits_fold, Host.reduce_eq_fold]
    refine (Shape.ReducesTo.fold_fiber_r3_a2 (n0 := 2048) (n1 := 64) (n2 := 17) (t := S2048x64) reducesTo_S2048x64x17_S2048x64_d2 (ix2 r s) _ _ _).trans ?_
    refine congrArg (fun g => Finset.fold IntOp.addi _ g Finset.univ) (funext fun k => ?_)
    rw [← hD k]
    pointwise
    rfl
  rw [Z_62]
  exact congrArg (fun w => IntOp.minsi 15#32 (IntOp.maxsi 0#32 (IntOp.subi w 1#32))) e

/-- One sample of the reference, from the ray's distances and places. -/
theorem sample_at (D : ℕ → EReal) (P : Fin 3 → ℕ → EReal) (hD : ∀ j : Fin 17, come W (ix2 r j) = D j.val)
    (hP : ∀ (j : Fin 17) (i : Fin 3), (Z W (Proc.devRef .tc main_v48) (ix3 r j i) : EReal) = P i j.val) (i : Fin 3) :
    (Z W (Proc.devRef .tc main_v88) (ix3 r s i) : EReal) = sample D (P i) (asked W (ix2 r s)) := by
  have hs := (slots_at W r s D hD).trans (slot_eq _ _)
  have hl := slotAt_lt D (asked W (ix2 r s))
  have h66 := Z_66 W r s
  have h71 := Z_71 W r s
  rw [hs] at h66 h71
  have a1 : IntOp.addi (BitVec.ofNat 32 (slotAt D (asked W (ix2 r s)))) 1#32 = BitVec.ofNat 32 (slotAt D (asked W (ix2 r s)) + 1) := (BitVec.ofNat_add _ _).symm
  rw [a1] at h71
  generalize hn : slotAt D (asked W (ix2 r s)) = n at *
  have c0 : come0 W (ix2 r s) = D n := by rw [Z_72, (read_at _ r s ⟨n, by omega⟩ h66.1 h66.2).1, hD]
  have c1 : come1 W (ix2 r s) = D (n + 1) := by rw [Z_73, (read_at _ r s ⟨n + 1, by omega⟩ h71.1 h71.2).1, hD]
  have p0 : place0 W (ix3 r s i) = P i n := by rw [Z_82, (read_at _ r s ⟨n, by omega⟩ h66.1 h66.2).2]; exact hP ⟨n, by omega⟩ i
  have p1 : place1 W (ix3 r s i) = P i (n + 1) := by rw [Z_83, (read_at _ r s ⟨n + 1, by omega⟩ h71.1 h71.2).2]; exact hP ⟨n + 1, by omega⟩ i
  have f : part W (ix2 r s) = frac (D n) (D (n + 1)) (asked W (ix2 r s)) := by
    rw [Z_81]
    pointwise
    rw [c0, c1]
    unfold frac
    rfl
  have g : (Z W (Proc.devRef .tc main_v88) (ix3 r s i) : EReal) = place0 W (ix3 r s i) + part W (ix2 r s) * (place1 W (ix3 r s i) - place0 W (ix3 r s i)) := by
    rw [Z_88]
    pointwise
  rw [g, p0, p1, f]
  unfold sample between
  rw [hn]

end Cert.ReferenceIdeal.Hand
-- ==== Proof.RefEntry.lean ====
/- The reference before its walk: what the tables, the rays and the counters hold on entry. -/
module

public import proofs.«01_k».proof.Proof.RefPath
public import proofs.«01_k».proof.Proof.Answer
import Idealize.ShloMosaic.Lib.StableHlo.RunRead
import Idealize.ShloMosaic.Lib.StableHlo.ReadAt
@[expose] public section
set_option maxRecDepth 8192
set_option maxHeartbeats 4000000
noncomputable section
namespace Cert.ReferenceIdeal.Hand
open Cert.ReferenceIdeal Cert.ReferenceIdeal.Value Cert.ReferenceIdeal.Gen
open Idealize Idealize.ShloMosaic Idealize.ShloMosaic.Pointwise Idealize.ShloMosaic.StableHlo
open Cert.Walk Idealize.ShloMosaic.Tactic

variable (m : (ℓ : Loc nD τ sig) → Buf (Elt Ideal) ℓ) (c : Dev nD)

/-- What every array holds when the walk begins. -/
def E : Valuation τ sig (Elt Ideal) :=
  after [hostOps0, hostOps0_1, hostOps0_2, hostOps0_3, hostOps0_4, hostOps0_5, hostOps0_6].flatten fun b => m (c, b)

theorem E_eq : entryContents preI m c = E m c := afterL_eq_after_flatten _ _

theorem E_n (j : Fin 4096) (i : Fin 3) : (E m c (Proc.devRef .tc main_v45_0) (ix2 j i) : EReal) = m (c, Proc.devRef .tc main_arg3) (ix2 j ⟨i.val, by omega⟩) := by
  unfold E
  after_reads_at
  rw [id_eq]
  pointwise

theorem E_a (j : Fin 4096) : (E m c (Proc.devRef .tc main_v45_1) (ix1 j) : EReal) = m (c, Proc.devRef .tc main_arg3) (ix2 j 3) := by
  unfold E
  after_reads_at
  rfl

theorem E_ml (j : Fin 4096) (f : Fin 4) (i : Fin 3) : (E m c (Proc.devRef .tc main_v45_2) (ix3 j f i) : EReal) = m (c, Proc.devRef .tc main_arg3) (ix2 j ⟨4 + (i.val * 4 + f.val), by omega⟩) := by
  unfold E
  after_reads_at
  rw [id_eq]
  pointwise

theorem E_ql (j : Fin 4096) (f : Fin 4) : (E m c (Proc.devRef .tc main_v45_3) (ix2 j f) : EReal) = m (c, Proc.devRef .tc main_arg3) (ix2 j ⟨16 + f.val, by omega⟩) := by
  unfold E
  after_reads_at
  rw [id_eq]
  pointwise

theorem E_faces (r : Fin 2048) (f : Fin 4) : E m c (Proc.devRef .tc main_v45_4) (ix2 r f) = BitVec.ofNat 32 f.val := by
  unfold E
  after_reads_at
  rw [id_eq]
  rfl

theorem E_rays (r : Fin 2048) : E m c (Proc.devRef .tc main_v45_7) (ix1 r) = BitVec.ofNat 32 r.val := by
  unfold E
  after_reads_at
  rw [id_eq]
  rfl

theorem E_count : E m c (Proc.devRef .tc main_v45_8) ix0 = 0#32 := by
  unfold E
  after_reads_at
  rfl

theorem E_first : E m c (Proc.devRef .tc main_v45_5) = m (c, Proc.devRef .tc main_arg5) := by
  unfold E
  after_reads_simp
  rfl

theorem E_next : E m c (Proc.devRef .tc main_v45_6) = m (c, Proc.devRef .tc main_arg4) := by
  unfold E
  after_reads_simp
  rfl

theorem E_pos : E m c (Proc.devRef .tc main_v45_10) = m (c, Proc.devRef .tc main_arg0) := by
  unfold E
  after_reads_simp
  rfl

theorem E_arg0 : E m c (Proc.devRef .tc main_arg0) = m (c, Proc.devRef .tc main_arg0) := by
  unfold E
  after_reads_simp

theorem E_dir : E m c (Proc.devRef .tc main_v45_11) = m (c, Proc.devRef .tc main_arg1) := by
  unfold E
  after_reads_simp
  rfl

/-- The mesh on entry is that of the three tables. -/
theorem E_mesh : rmesh (E m c) = meshOf (fun j i => m (c, Proc.devRef .tc main_arg3) (ix2 j i)) (fun j f => m (c, Proc.devRef .tc main_arg4) (ix2 j f)) (fun j f => m (c, Proc.devRef .tc main_arg5) (ix2 j f)) := by
  unfold rmesh meshOf
  rw [E_first, E_next]
  congr 1
  funext j
  unfold rtab tetOf
  congr 1
  · funext i
    rw [E_n]
    fin_cases i <;> rfl
  · exact E_a m c j
  · funext f i
    rw [E_ml]
    fin_cases i
    · exact congrArg _ (congrArg _ (Fin.ext (by simp)))
    · exact congrArg _ (congrArg _ (Fin.ext (by simp; omega)))
    · exact congrArg _ (congrArg _ (Fin.ext (by simp; omega)))
  · funext f
    exact E_ql m c j f

/-- The distances asked for, evenly spaced. -/
def spaced : Vec Ideal S64 .f32 := E m c (Proc.devRef .tc main_v9)

theorem E_z (r : Fin 2048) (s : Fin 64) : (E m c (Proc.devRef .tc main_v14) (ix2 r s) : EReal) = spaced m c (ix1 s) := by
  unfold spaced E
  after_reads_at

theorem E_28 (t : Fin 4096) (i : Fin 3) (r : Fin 2048) : (E m c (Proc.devRef .tc main_v28) (ix3 t i r) : EReal) = local' (cellsOf (fun t i => m (c, Proc.devRef .tc main_arg2) (ix2 t i)) t.val) (fun i => m (c, Proc.devRef .tc main_arg0) (ix2 r i)) i := by
  unfold E
  after_reads_at
  rw [Fin.sum_univ_three]
  unfold local' cellsOf
  rw [dif_pos t.isLt]
  have e (k : Fin 3) : (⟨i.val * 3 + k.val, by omega⟩ : Fin 12) = ⟨3 * i.val + k.val, by omega⟩ := Fin.ext (by simp; omega)
  rw [e 0, e 1, e 2]
  rfl

theorem E_39 : (E m c (Proc.devRef .tc main_v39)) = andi (andi (Host.reduce IntOp.andi (cmpf .oge (E m c (Proc.devRef .tc main_v28)) (broadcastInDim S4096x3x2048 ![] bcast_S_S4096x3x2048 (constant (F := Ideal) S_ .f32 0x00000000#32))) (constantI S_ 1 1#1) reducesTo_S4096x3x2048_S4096x2048_d1 h_S_)
   (Host.reduce IntOp.andi (cmpf .ole (E m c (Proc.devRef .tc main_v28)) (broadcastInDim S4096x3x2048 ![] bcast_S_S4096x3x2048 (constant (F := Ideal) S_ .f32 0x3F800000#32))) (constantI S_ 1 1#1) reducesTo_S4096x3x2048_S4096x2048_d1 h_S_))
   (cmpf .ole (Host.reduceAdd (E m c (Proc.devRef .tc main_v28)) (constant (F := Ideal) S_ .f32 0x00000000#32) reducesTo_S4096x3x2048_S4096x2048_d1 h_S_) (broadcastInDim S4096x2048 ![] bcast_S_S4096x2048 (constant (F := Ideal) S_ .f32 0x3F800000#32))) := by
  unfold E
  after_reads_simp

theorem E_42 : (E m c (Proc.devRef .tc main_v45_9)) = select (Host.reduce IntOp.ori (E m c (Proc.devRef .tc main_v39)) (constantI S_ 1 0#1) reducesTo_S4096x2048_S2048_d0 h_S_)
   (fun j => (Host.reduce2 reducer_argmax_i1_i32 (E m c (Proc.devRef .tc main_v39)) (iotaInDim S4096x2048 32 0) (constantI S_ 1 0#1) (constantI S_ 32 0#32) reducesTo_S4096x2048_S2048_d0 h_S_ j).2) (broadcastInDim S2048 ![] bcast_S_S2048 (constantI S_ 32 4294967295#32)) := by
  unfold E
  after_reads_simp
  simp -implicitDefEqProofs only [TRef.toBuf, TRef.ofBuf, cast_cast, cast_eq, id_eq]

end Cert.ReferenceIdeal.Hand
-- ==== Proof.RefLoc.lean ====
/- Where the reference starts a ray: the first of the 4096 cells that holds its origin, as its argmax finds it. -/
module

public import proofs.«01_k».proof.Proof.RefEntry
@[expose] public section
set_option maxRecDepth 8192
set_option maxHeartbeats 4000000
noncomputable section
namespace Cert.ReferenceIdeal.Hand
open Cert.ReferenceIdeal Cert.ReferenceIdeal.Value Cert.ReferenceIdeal.Gen
open Idealize Idealize.ShloMosaic Idealize.ShloMosaic.Pointwise Idealize.ShloMosaic.StableHlo
open Cert.Walk

/-- What the running argmax holds after a list of marked indices: a least marked one, or nothing marked. -/
def Best (l : List (BitVec 1 × BitVec 32)) (s : BitVec 1 × BitVec 32) : Prop :=
  (s.1 = 1#1 ∧ s ∈ l ∧ ∀ p ∈ l, p.1 = 1#1 → s.2.toInt ≤ p.2.toInt) ∨ (s.1 = 0#1 ∧ ∀ p ∈ l, p.1 = 0#1)

theorem reducer_hit (i j : BitVec 32) : reducer_argmax_i1_i32 (1#1, i) (1#1, j) = (1#1, if i.slt j then i else j) := by
  by_cases h : i.slt j <;> simp [reducer_argmax_i1_i32, IntOp.cmpi, IntOp.ori, IntOp.andi, Scalar.select, h]

theorem reducer_keep (i j : BitVec 32) : reducer_argmax_i1_i32 (1#1, i) (0#1, j) = (1#1, i) := by
  simp [reducer_argmax_i1_i32, IntOp.cmpi, IntOp.ori, IntOp.andi, Scalar.select]

theorem reducer_take (i j : BitVec 32) : reducer_argmax_i1_i32 (0#1, i) (1#1, j) = (1#1, j) := by
  simp [reducer_argmax_i1_i32, IntOp.cmpi, IntOp.ori, IntOp.andi, Scalar.select]

theorem reducer_miss (i j : BitVec 32) : (reducer_argmax_i1_i32 (0#1, i) (0#1, j)).1 = 0#1 := by
  simp [reducer_argmax_i1_i32, IntOp.cmpi, IntOp.ori, IntOp.andi, Scalar.select]

theorem best_foldl (l : List (BitVec 1 × BitVec 32)) : Best l (l.foldl reducer_argmax_i1_i32 (0#1, 0#32)) := by
  induction l using List.reverseRecOn with
  | nil => exact .inr ⟨rfl, fun p hp => absurd hp (List.not_mem_nil)⟩
  | append_singleton l p ih =>
    rw [List.foldl_append, List.foldl_cons, List.foldl_nil]
    generalize l.foldl reducer_argmax_i1_i32 (0#1, 0#32) = s at *
    obtain ⟨v, i⟩ := s
    obtain ⟨b, j⟩ := p
    have all (P : BitVec 1 × BitVec 32 → Prop) (h : ∀ p ∈ l, P p) (h' : P (b, j)) : ∀ p ∈ l ++ [(b, j)], P p := fun p hp => by
      rcases List.mem_append.1 hp with h1 | h1
      · exact h p h1
      · rw [List.mem_singleton.1 h1]; exact h'
    rcases ih with ⟨h1, h2, h3⟩ | ⟨h1, h2⟩
    · obtain rfl : v = 1#1 := h1
      rcases bit_cases b with rfl | rfl
      · rw [reducer_keep]
        exact .inl ⟨rfl, List.mem_append_left _ h2, all _ h3 fun e => absurd (show (0#1 : BitVec 1) = 1#1 from e) (by decide)⟩
      · rw [reducer_hit]
        by_cases hs : i.slt j
        · rw [if_pos hs]
          exact .inl ⟨rfl, List.mem_append_left _ h2, all _ h3 fun _ => (BitVec.slt_iff_toInt_lt.1 hs).le⟩
        · rw [if_neg hs]
          rw [BitVec.slt_iff_toInt_lt, not_lt] at hs
          exact .inl ⟨rfl, List.mem_append_right _ (List.mem_singleton_self _), all _ (fun p hp e => hs.trans (h3 p hp e)) fun _ => le_refl _⟩
    · obtain rfl : v = 0#1 := h1
      rcases bit_cases b with rfl | rfl
      · exact .inr ⟨reducer_miss i j, all _ h2 rfl⟩
      · rw [reducer_take]
        exact .inl ⟨rfl, List.mem_append_right _ (List.mem_singleton_self _), all _ (fun p hp e => absurd (e.symm.trans (h2 p hp)) (by decide)) fun _ => le_refl _⟩

/-- The argmax and the any together, over a table of tests. -/
theorem found_of (X : Vec Ideal S4096x2048 .i1) (Q : ℕ → Prop) (r : Fin 2048) (hX : ∀ t : Fin 4096, X (ix2 t r) = 1#1 ↔ Q t.val) :
    Found Q 4096 4294967295#32 (Scalar.select (Host.reduce IntOp.ori X (constantI S_ 1 0#1) reducesTo_S4096x2048_S2048_d0 h_S_ (ix1 r))
      (Host.reduce2 reducer_argmax_i1_i32 X (iotaInDim S4096x2048 32 0) (constantI S_ 1 0#1) (constantI S_ 32 0#32) reducesTo_S4096x2048_S2048_d0 h_S_ (ix1 r)).2 4294967295#32) := by
  have hany : Host.reduce IntOp.ori X (constantI S_ 1 0#1) reducesTo_S4096x2048_S2048_d0 h_S_ (ix1 r) = 1#1 ↔ ∃ t : Fin 4096, Q t.val := by
    have e : Host.reduce IntOp.ori X (constantI S_ 1 0#1) reducesTo_S4096x2048_S2048_d0 h_S_ (ix1 r) = Finset.univ.fold IntOp.ori 0#1 fun t : Fin 4096 => X (ix2 t r) := by
      change Host.reduce (α := BitVec 1) IntOp.ori _ _ _ _ (ix1 r) = _
      rw [Host.reduce_eq_fold]
      exact Shape.ReducesTo.fold_fiber_r2_a0 (n0 := 4096) (n1 := 2048) (t := S2048) Gen.reducesTo_S4096x2048_S2048_d0 (ix1 r) _ _ _
    rw [e, fold_ori]
    simp only [Finset.mem_univ, true_and, hX]
  rw [Host.reduce2_eq_foldl_fiber]
  have mem (q : BitVec 1 × BitVec 32) : q ∈ Host.argReduceFiber X (iotaInDim S4096x2048 32 0) reducesTo_S4096x2048_S2048_d0 (ix1 r) ↔ ∃ t : Fin 4096, q = (X (ix2 t r), BitVec.ofNat 32 t.val) := by
    unfold Host.argReduceFiber
    rw [List.mem_map]
    constructor
    · rintro ⟨n, hn, rfl⟩
      have hd := of_decide_eq_true (List.mem_filter.1 hn).2
      obtain ⟨k, hk⟩ := (Shape.ReducesTo.fiber_r2_a0 (n0 := 4096) (n1 := 2048) (t := S2048) Gen.reducesTo_S4096x2048_S2048_d0 (ix1 r) _).1 hd
      exact ⟨k, by rw [← hk]; rfl⟩
    · rintro ⟨t, rfl⟩
      refine ⟨S4096x2048.rowMajor (ix2 t r), List.mem_filter.2 ⟨List.mem_finRange _, decide_eq_true ?_⟩, ?_⟩
      · rw [Equiv.symm_apply_apply]
        exact (Shape.ReducesTo.fiber_r2_a0 (n0 := 4096) (n1 := 2048) (t := S2048) Gen.reducesTo_S4096x2048_S2048_d0 (ix1 r) _).2 ⟨t, rfl⟩
      · rw [Equiv.symm_apply_apply]; rfl
  have best := best_foldl (Host.argReduceFiber X (iotaInDim S4096x2048 32 0) reducesTo_S4096x2048_S2048_d0 (ix1 r))
  change Found Q 4096 4294967295#32 (Scalar.select _ (List.foldl reducer_argmax_i1_i32 (0#1, 0#32) _).2 _)
  generalize Host.argReduceFiber X (iotaInDim S4096x2048 32 0) reducesTo_S4096x2048_S2048_d0 (ix1 r) = l at *
  generalize l.foldl reducer_argmax_i1_i32 (0#1, 0#32) = s at *
  generalize Host.reduce IntOp.ori X (constantI S_ 1 0#1) reducesTo_S4096x2048_S2048_d0 h_S_ (ix1 r) = b at *
  rcases best with ⟨h1, h2, h3⟩ | ⟨h1, h2⟩
  · obtain ⟨t, e⟩ := (mem s).1 h2
    have hq : Q t.val := (hX t).1 (by rw [← h1, e])
    rw [hany.2 ⟨t, hq⟩]
    refine .inl ⟨t.val, t.isLt, hq, fun u hu hu' => ?_, by rw [e]; rfl⟩
    have := h3 _ ((mem _).2 ⟨⟨u, by omega⟩, rfl⟩) ((hX ⟨u, by omega⟩).2 hu')
    rw [e] at this
    rw [toInt_word _ (by omega), toInt_word _ (by show u < _; omega)] at this
    have : t.val ≤ u := by exact_mod_cast this
    omega
  · have none : ∀ u < 4096, ¬ Q u := fun u hu hq => by
      have := h2 _ ((mem _).2 ⟨⟨u, hu⟩, rfl⟩)
      rw [(hX ⟨u, hu⟩).2 hq] at this
      exact absurd (show (1#1 : BitVec 1) = 0#1 from this) (by decide)
    refine .inr ⟨none, ?_⟩
    have : b = 0#1 := (bit_cases b).resolve_right fun h => let ⟨t, ht⟩ := hany.1 h; none _ t.isLt ht
    rw [this]; rfl

variable (m : (ℓ : Loc nD τ sig) → Buf (Elt Ideal) ℓ) (c : Dev nD)

theorem all_at (Y : Vec Ideal S4096x3x2048 .i1) (t : Fin 4096) (r : Fin 2048) : Host.reduce IntOp.andi Y (constantI S_ 1 1#1) reducesTo_S4096x3x2048_S4096x2048_d1 h_S_ (ix2 t r) = 1#1 ↔ ∀ i : Fin 3, Y (ix3 t i r) = 1#1 := by
  have e : Host.reduce IntOp.andi Y (constantI S_ 1 1#1) reducesTo_S4096x3x2048_S4096x2048_d1 h_S_ (ix2 t r) = Finset.univ.fold IntOp.andi 1#1 fun i : Fin 3 => Y (ix3 t i r) := by
    change Host.reduce (α := BitVec 1) IntOp.andi _ _ _ _ (ix2 t r) = _
    rw [Host.reduce_eq_fold]
    exact Shape.ReducesTo.fold_fiber_r3_a1 (n0 := 4096) (n1 := 3) (n2 := 2048) (t := S4096x2048) Gen.reducesTo_S4096x3x2048_S4096x2048_d1 (ix2 t r) _ _ _
  rw [e, fold_andi]
  simp only [Finset.mem_univ, true_imp_iff]

/-- One cell's test of one ray. -/
theorem test_at (t : Fin 4096) (r : Fin 2048) : E m c (Proc.devRef .tc main_v39) (ix2 t r) = 1#1 ↔
    Inside (cellsOf (fun t i => m (c, Proc.devRef .tc main_arg2) (ix2 t i)) t.val) (fun i => m (c, Proc.devRef .tc main_arg0) (ix2 r i)) := by
  rw [E_39]
  have h (i : Fin 3) := E_28 m c t i r
  generalize E m c (Proc.devRef .tc main_v28) = Y at *
  change IntOp.andi (IntOp.andi _ _) _ = 1#1 ↔ _
  rw [andi_iff, andi_iff, all_at, all_at]
  unfold Inside
  refine and_congr (and_congr (forall_congr' fun i => ?_) (forall_congr' fun i => ?_)) ?_
  · rw [← h i]
    pointwise
    exact ofBool_iff _
  · rw [← h i]
    pointwise
    exact ofBool_iff _
  · rw [← h 0, ← h 1, ← h 2]
    pointwise
    rw [Fin.sum_univ_three]
    exact ofBool_iff _

/-- The reference's starting cell. -/
theorem found_at (r : Fin 2048) : Found (fun t => Inside (cellsOf (fun t i => m (c, Proc.devRef .tc main_arg2) (ix2 t i)) t) (fun i => m (c, Proc.devRef .tc main_arg0) (ix2 r i))) 4096 4294967295#32
    (E m c (Proc.devRef .tc main_v45_9) (ix1 r)) := by
  rw [E_42]
  exact found_of _ _ r fun t => test_at m c t r

end Cert.ReferenceIdeal.Hand
-- ==== Proof.RefValue.lean ====
/- The reference's result: each number is the answer for its ray and distance. -/
module

public import proofs.«01_k».proof.Proof.RefOut
public import proofs.«01_k».proof.Proof.RefEntry
public import proofs.«01_k».proof.Proof.RefLoc
public import proofs.«01_k».proof.Proof.RefRun
@[expose] public section
set_option maxRecDepth 8192
set_option maxHeartbeats 4000000
noncomputable section
namespace Cert.ReferenceIdeal.Hand
open Cert.ReferenceIdeal Cert.ReferenceIdeal.Value Cert.ReferenceIdeal.Gen
open Idealize Idealize.ShloMosaic Idealize.ShloMosaic.Pointwise Idealize.ShloMosaic.StableHlo
open Cert.Walk

/-- Two arrays that the loop only passes by. -/
def still : List (Ref sig .tc) := [main_arg0, main_v14]

section Still

variable {b : Ref sig .tc} (hb : b ∈ still)
include hb

theorem body_still (V : Valuation τ sig (Elt Ideal)) : afterL bodyI V (Proc.devRef .tc b) = V (Proc.devRef .tc b) :=
  afterL_keep (F := Ideal) _ (by exact ⟨fun V => after_of_writes_sub _ V while0Ops0_writes ((by decide +kernel : ∀ b ∈ still, b ∉ while0Ops0_W) b hb),
    fun V => after_of_writes_sub _ V while0Ops0_1_writes ((by decide +kernel : ∀ b ∈ still, b ∉ while0Ops0_1_W) b hb),
    fun V => after_of_writes_sub _ V while0Ops0_2_writes ((by decide +kernel : ∀ b ∈ still, b ∉ while0Ops0_2_W) b hb),
    fun V => after_of_writes_sub _ V while0Ops0_3_writes ((by decide +kernel : ∀ b ∈ still, b ∉ while0Ops0_3_W) b hb),
    fun V => after_of_writes_sub _ V while0Ops0_4_writes ((by decide +kernel : ∀ b ∈ still, b ∉ while0Ops0_4_W) b hb),
    fun V => after_of_writes_sub _ V while0Ops0_5_writes ((by decide +kernel : ∀ b ∈ still, b ∉ while0Ops0_5_W) b hb),
    fun V => after_of_writes_sub _ V while0Ops0_6_writes ((by decide +kernel : ∀ b ∈ still, b ∉ while0Ops0_6_W) b hb),
    fun V => after_of_writes_sub _ V while0Ops0_7_writes ((by decide +kernel : ∀ b ∈ still, b ∉ while0Ops0_7_W) b hb)⟩) V

theorem cond_still (V : Valuation τ sig (Elt Ideal)) : after condOps V (Proc.devRef .tc b) = V (Proc.devRef .tc b) :=
  after_of_writes_sub _ V condOps_writes ((by decide +kernel : ∀ b ∈ still, b ∉ condOps_W) b hb)

theorem atK_still (m : (ℓ : Loc nD τ sig) → Buf (Elt Ideal) ℓ) (c : Dev nD) : ∀ k, atK m k c (Proc.devRef .tc b) = E m c (Proc.devRef .tc b)
  | 0 => congrFun (E_eq m c) _
  | k + 1 => (body_still hb _).trans ((cond_still hb _).trans (atK_still m c k))

end Still

variable (m : (ℓ : Loc nD τ sig) → Buf (Elt Ideal) ℓ) (c : Dev nD)

/-- What the arrays hold when the loop is left. -/
def L : Valuation τ sig (Elt Ideal) := after condOps (atK m 16 c)

theorem L_still {b : Ref sig .tc} (hb : b ∈ still) : L m c (Proc.devRef .tc b) = E m c (Proc.devRef .tc b) :=
  (cond_still hb _).trans (atK_still hb m c 16)

theorem L_walk {b : Ref sig .tc} (hb : b ∈ carriedRefs) : L m c (Proc.devRef .tc b) = (STEP^[16] (E m c)) (Proc.devRef .tc b) := by
  rw [← E_eq]
  exact (cond_keeps _ b hb).trans (atK_agree m c 16 b hb)

/-- The sixteen steps, from the arrays before the loop. -/
theorem walked : At (E m c) (STEP^[16] (E m c)) 16 := at_iter (E m c) (E_faces m c) (E_rays m c) (E_count m c) 16 (by omega)

/-- Each number of the result. -/
theorem value_at (r : Fin 2048) (s : Fin 64) (i : Fin 3) :
    Answer (fun t i => m (c, Proc.devRef .tc main_arg2) (ix2 t i)) (meshOf (fun j i => m (c, Proc.devRef .tc main_arg3) (ix2 j i)) (fun j f => m (c, Proc.devRef .tc main_arg4) (ix2 j f)) (fun j f => m (c, Proc.devRef .tc main_arg5) (ix2 j f)))
      (fun i => m (c, Proc.devRef .tc main_arg0) (ix2 r i)) (fun i => m (c, Proc.devRef .tc main_arg1) (ix2 r i)) i (spaced m c (ix1 s))
      (finalContents condOps preI bodyI postI 16 m c (Proc.devRef .tc main_v88) (ix3 r s i)) := by
  have e : finalContents condOps preI bodyI postI 16 m c = Z (L m c) := Z_eq _
  have hq : rray (E m c) r = ⟨E m c (Proc.devRef .tc main_v45_9) (ix1 r), fun i => m (c, Proc.devRef .tc main_arg0) (ix2 r i), fun i => m (c, Proc.devRef .tc main_arg1) (ix2 r i)⟩ := by
    unfold rray rword rpos rdir
    rw [E_pos, E_dir]
  have w := walked m c
  refine ⟨E m c (Proc.devRef .tc main_v45_9) (ix1 r), found_at m c r, ?_⟩
  rw [e, ← E_mesh, ← hq]
  have hz : asked (L m c) (ix2 r s) = spaced m c (ix1 s) := (congrFun (L_still m c (b := main_v14) (by decide)) _).trans (E_z m c r s)
  rw [← hz]
  exact sample_at (L m c) r s (dist (rmesh (E m c)) (rray (E m c) r)) (fun i j => (path (rmesh (E m c)) (rray (E m c) r) j).pos i)
    (come_at (L m c) r _ _ fun j => (congrFun (L_walk m c (b := main_v45_13) (by decide)) _).trans (w.gaps j r j.isLt))
    (place_at (L m c) r _ _ (fun i => (congrFun (L_still m c (b := main_arg0) (by decide)) _).trans (by rw [E_arg0, hq]))
      fun j i => (congrFun (L_walk m c (b := main_v45_12) (by decide)) _).trans (w.places j r i j.isLt)) i

end Cert.ReferenceIdeal.Hand
-- ==== Proof.Value.lean ====
/- Both programs' results are the same answers, where the walk's two tables hold cells' numbers. -/
module

public import proofs.«01_k».proof.Defs
public import proofs.«01_k».proof.Proof.Gen.Pre_in_range
public import proofs.«01_k».proof.Proof.IdealValue
public import proofs.«01_k».proof.Proof.RefValue
import Idealize.ShloMosaic.Lib.StableHlo.RunRead
import Idealize.ShloMosaic.Lib.StableHlo.ReadAt
@[expose] public section
set_option maxRecDepth 8192
set_option maxHeartbeats 4000000
noncomputable section
namespace Cert.Proof
open Idealize Idealize.ShloMosaic Idealize.ShloMosaic.Pointwise
open Cert.Walk Idealize.ShloMosaic.Tactic

section Range

open Cert.Pre_in_range Cert.Pre_in_range.Gen

/-- A word that reads as a number from zero to below 4096 is one of the 4096 numbers' words. -/
theorem word_of (w : BitVec 32) (h0 : (0#32).sle w = true) (h1 : w.slt 4096#32 = true) : ∃ n : Fin 4096, w = BitVec.ofNat 32 n.val := by
  rw [BitVec.sle_iff_toInt_le] at h0
  rw [BitVec.slt_iff_toInt_lt] at h1
  have e0 : (0#32 : BitVec 32).toInt = 0 := by decide
  have e1 : (4096#32 : BitVec 32).toInt = 4096 := by decide
  have hv := BitVec.toInt_eq_toNat_cond w
  have hl := w.isLt
  refine ⟨⟨w.toNat, ?_⟩, ?_⟩
  · split at hv <;> omega
  · rw [BitVec.ofNat_toNat, BitVec.setWidth_eq]

/-- A table whose entries all pass the test holds cells' numbers. -/
theorem entries (x : IVec S4096x4 32)
    (h : Host.reduce IntOp.andi (andi (cmpi .sge x (broadcastInDim S4096x4 ![] bcast_S_S4096x4 (constantI S_ 32 0#32))) (cmpi .slt x (broadcastInDim S4096x4 ![] bcast_S_S4096x4 (constantI S_ 32 4096#32))))
      (constantI S_ 1 1#1) reducesTo_S4096x4_S_d0_1 h_S_ ix0 = 1#1) (j : Fin 4096) (f : Fin 4) : ∃ n : Fin 4096, x (ix2 j f) = BitVec.ofNat 32 n.val := by
  rw [Host.reduce_eq_fold] at h
  have e := (fold_andi _ _).1 h (ix2 j f) (Finset.mem_filter.2 ⟨Finset.mem_univ _, funext fun a => a.elim0⟩)
  obtain ⟨a, b⟩ := (andi_iff _ _).1 e
  have a' : BitVec.ofBool ((0#32).sle (x (ix2 j f))) = 1#1 := a
  have b' : BitVec.ofBool ((x (ix2 j f)).slt 4096#32) = 1#1 := b
  refine word_of _ ?_ ?_
  · cases h : (0#32).sle (x (ix2 j f))
    · rw [h] at a'; exact absurd a' (by decide)
    · rfl
  · cases h : (x (ix2 j f)).slt 4096#32
    · rw [h] at b'; exact absurd b' (by decide)
    · rfl

/-- The mesh of tables that pass the test is well-formed. -/
theorem mesh_ok (m : (ℓ : Loc Cert.KernelIdeal.nD Cert.KernelIdeal.τ Cert.KernelIdeal.sig) → Buf (Elt Ideal) ℓ)
    (h : Cert.Pre_KernelIdeal_in_range (hPre_in_range := Cert.Pre_in_range.Gen.facts) m) (c : Dev Cert.KernelIdeal.nD) : (Cert.KernelIdeal.Hand.kmesh m c).Ok := by
  have e := congrFun (h c) ix0
  obtain ⟨a, b⟩ := (andi_iff _ _).1 e
  exact ⟨entries _ a, entries _ b⟩

end Range

/-- Both programs space the distances alike. -/
theorem spaced_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (s : Fin 64) :
    (Cert.KernelIdeal.Hand.spaced m c (ix1 s) : EReal) = Cert.ReferenceIdeal.Hand.spaced m' c (ix1 s) := by
  have hA : (StableHlo.upto [KernelIdeal.Gen.hostOps0, KernelIdeal.Gen.hostOps0_1, KernelIdeal.Gen.hostOps0_2].flatten (fun b => m (c, b)) 26 (Proc.tc.devRef KernelIdeal.main_call0_v15) : Vec Ideal Cert.KernelIdeal.S63 .f32)
      = StableHlo.upto [ReferenceIdeal.Gen.hostOps0, ReferenceIdeal.Gen.hostOps0_1, ReferenceIdeal.Gen.hostOps0_2, ReferenceIdeal.Gen.hostOps0_3, ReferenceIdeal.Gen.hostOps0_4, ReferenceIdeal.Gen.hostOps0_5, ReferenceIdeal.Gen.hostOps0_6].flatten
        (fun b => m' (c, b)) 24 (Proc.tc.devRef ReferenceIdeal.main_call0_v15) := by
    after_reads_simp
    simp -implicitDefEqProofs only [StableHlo.TRef.toBuf, StableHlo.TRef.ofBuf, cast_cast, cast_eq, id_eq]
    rfl
  have hB : (StableHlo.upto [KernelIdeal.Gen.hostOps0, KernelIdeal.Gen.hostOps0_1, KernelIdeal.Gen.hostOps0_2].flatten (fun b => m (c, b)) 26 (Proc.tc.devRef KernelIdeal.main_call0_v16) : Vec Ideal Cert.KernelIdeal.S1 .f32)
      = StableHlo.upto [ReferenceIdeal.Gen.hostOps0, ReferenceIdeal.Gen.hostOps0_1, ReferenceIdeal.Gen.hostOps0_2, ReferenceIdeal.Gen.hostOps0_3, ReferenceIdeal.Gen.hostOps0_4, ReferenceIdeal.Gen.hostOps0_5, ReferenceIdeal.Gen.hostOps0_6].flatten
        (fun b => m' (c, b)) 24 (Proc.tc.devRef ReferenceIdeal.main_call0_v16) := by
    after_reads_simp
  unfold Cert.KernelIdeal.Hand.spaced Cert.ReferenceIdeal.Hand.spaced Cert.KernelIdeal.Gen.V Cert.KernelIdeal.Gen.V0 Cert.ReferenceIdeal.Hand.E
  after_reads_at
  rw [hA, hB]

section Run

open Idealize.SL.Sem

/-- The reference's number is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (ok : (Cert.KernelIdeal.Hand.kmesh m c).Ok)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3))
    (h4 : m' (c, Proc.devRef .tc Cert.ReferenceIdeal.main_arg4) = m (c, Proc.devRef .tc Cert.KernelIdeal.main_arg4))
    (h5 : m' (c, Proc.devRef .tc Cert.ReferenceIdeal.main_arg5) = m (c, Proc.devRef .tc Cert.KernelIdeal.main_arg5)) :
    StableHlo.finalContents Cert.ReferenceIdeal.Value.condOps Cert.ReferenceIdeal.Value.preI Cert.ReferenceIdeal.Value.bodyI Cert.ReferenceIdeal.Value.postI 16 m' c (Proc.devRef .tc Cert.ReferenceIdeal.main_v88)
      = Pipeline.afterTail₀ Cert.KernelIdeal.cfgs (Cert.KernelIdeal.Hand.dats m) 0 (Cert.KernelIdeal.Gen.V0 m) [Cert.KernelIdeal.Gen.hostOps1] c Cert.KernelIdeal.main_v16 := by
  refine funext fun (j : Cert.KernelIdeal.S2048x64x3.Idx) => ?_
  obtain ⟨r, s, i, rfl⟩ : ∃ (r : Fin 2048) (s : Fin 64) (i : Fin 3), j = ix3 r s i :=
    ⟨j 0, j 1, j 2, funext fun a => by rcases (by decide : ∀ a : Fin 3, a = 0 ∨ a = 1 ∨ a = 2) a with rfl | rfl | rfl <;> rfl⟩
  have a := Cert.ReferenceIdeal.Hand.value_at m' c r s i
  rw [h0, h1, h2, h3, h4, h5, ← spaced_eq m m' c s] at a
  exact Answer.unique a (Cert.KernelIdeal.Hand.value_at m c ok r s i)

end Run

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RefRun
public import proofs.«01_k».proof.Proof.Value
public import proofs.«01_k».proof.Proof.Gen.Pre_in_range
public import proofs.«01_k».proof.Proof.IdealFrame
public import proofs.«01_k».proof.Proof.FloatFrame
public import Idealize.ShloMosaic.Lib.Claim
public import Idealize.ShloMosaic.Lib.Quiescent

@[expose] public section

noncomputable section

namespace Cert.Proof

open Idealize.ShloMosaic Idealize.SL.Sem Cert.Kernel

/-- The kernel at the machine's floats runs, keeps its arguments and ends with every counter at zero. -/
theorem frame_k : Cert.quiescent_Kernel (hKernel := Cert.Kernel.Gen.facts) := fun m ρ _ =>
  θ_run_and (Cert.Kernel.Gen.frame_of m ρ (Cert.Kernel.Hand.dats m) (Cert.Kernel.Hand.A_eq m)
    ((θ_run _ _ _).mono (fun _ h => h.1) (Cert.Kernel.Hand.run_main m ρ)))
    ((θ_run _ _ _).mono (fun _ h => h.2) (Cert.Kernel.Hand.run_main m ρ))

/-- The kernel over the extended reals likewise. -/
theorem frame_ki : Cert.quiescent_KernelIdeal (hKernelIdeal := Cert.KernelIdeal.Gen.facts) := fun m ρ _ =>
  θ_run_and (Cert.KernelIdeal.Gen.frame_of m ρ (Cert.KernelIdeal.Hand.dats m) (Cert.KernelIdeal.Hand.A_eq m)
    ((θ_run _ _ _).mono (fun _ h => h.1) (Cert.KernelIdeal.Hand.run_main m ρ)))
    ((θ_run _ _ _).mono (fun _ h => h.2) (Cert.KernelIdeal.Hand.run_main m ρ))

/-- The reference's arguments are as they were: no stretch writes one. -/
theorem args_ri {F : FTy → Type} [FloatOps F] (m : (ℓ : Loc Cert.ReferenceIdeal.nD Cert.ReferenceIdeal.τ Cert.ReferenceIdeal.sig) → Buf (Elt F) ℓ)
    (r : PUnit × MemSt Cert.ReferenceIdeal.nD Cert.ReferenceIdeal.τ Cert.ReferenceIdeal.sig (Elt F))
    (h : ∀ (c : Dev Cert.ReferenceIdeal.nD) (b : Ref Cert.ReferenceIdeal.sig .tc), (Proc.devRef .tc b : DevRef Cert.ReferenceIdeal.τ Cert.ReferenceIdeal.sig).isScoped = false →
      r.2.mem ((c.tc : Thread Cert.ReferenceIdeal.nD Cert.ReferenceIdeal.τ).loc b) = StableHlo.finalContents Cert.ReferenceIdeal.Value.condOps Cert.ReferenceIdeal.Value.preI Cert.ReferenceIdeal.Value.bodyI Cert.ReferenceIdeal.Value.postI 16 m c (Proc.devRef .tc b))
    (c : Dev Cert.ReferenceIdeal.nD) (b : Ref Cert.ReferenceIdeal.sig .tc) (hb : b ∈ Cert.ReferenceIdeal.Hand.args) :
    r.2.mem ((c.tc : Thread Cert.ReferenceIdeal.nD Cert.ReferenceIdeal.τ).loc b) = m ((c.tc : Thread Cert.ReferenceIdeal.nD Cert.ReferenceIdeal.τ).loc b) :=
  (h c b ((by decide +kernel : ∀ b ∈ Cert.ReferenceIdeal.Hand.args, (Proc.devRef .tc b : DevRef Cert.ReferenceIdeal.τ Cert.ReferenceIdeal.sig).isScoped = false) b hb)).trans
    (Cert.ReferenceIdeal.Hand.final_keep hb m c)

/-- The reference likewise: it declares no semaphore. -/
theorem frame_ri : Cert.quiescent_ReferenceIdeal (hReferenceIdeal := Cert.ReferenceIdeal.Gen.facts) := fun m ρ _ =>
  (θ_run _ _ _).mono (fun r h => ⟨fun c => ⟨args_ri m r h c _ (by decide), args_ri m r h c _ (by decide), args_ri m r h c _ (by decide), args_ri m r h c _ (by decide),
    args_ri m r h c _ (by decide), args_ri m r h c _ (by decide)⟩, sem_eq_zero_of_no_sems rfl _⟩) (Cert.ReferenceIdeal.Value.run_fold m ρ)

/-- Over the extended reals the kernel ends with the reference's result, where the two tables hold cells' numbers. -/
theorem value : Cert.algebraic_KernelIdeal_ReferenceIdeal_pre_in_range (hKernelIdeal := Cert.KernelIdeal.Gen.facts) (hReferenceIdeal := Cert.ReferenceIdeal.Gen.facts)
    (hPre_in_range := Cert.Pre_in_range.Gen.facts) := fun m g m' g' pre hargs =>
  ⟨fun c => Pipeline.afterTail₀ Cert.KernelIdeal.cfgs (Cert.KernelIdeal.Hand.dats m) 0 (Cert.KernelIdeal.Gen.V0 m) [Cert.KernelIdeal.Gen.hostOps1] c Cert.KernelIdeal.main_v16,
    (θ_run _ _ _).mono (fun _ h c => ⟨(h.2.1 c).2 Cert.KernelIdeal.main_v16 (Pipeline.mem_restRefs_of _ (by decide) (by decide)), h.1 c⟩)
      (θ_run_and (Cert.KernelIdeal.Gen.frame_of m g (Cert.KernelIdeal.Hand.dats m) (Cert.KernelIdeal.Hand.A_eq m)
        ((θ_run _ _ _).mono (fun _ h => h.1) (Cert.KernelIdeal.Hand.run_main m g))) (Cert.KernelIdeal.Hand.run_main m g)),
    (θ_run _ _ _).mono (fun r h c => ⟨(h c Cert.ReferenceIdeal.main_v88 (by decide)).trans
        (same m m' c (mesh_ok m pre c) (hargs c).1 (hargs c).2.1 (hargs c).2.2.1 (hargs c).2.2.2.1 (hargs c).2.2.2.2.1 (hargs c).2.2.2.2.2),
      args_ri m' r h c _ (by decide), args_ri m' r h c _ (by decide), args_ri m' r h c _ (by decide), args_ri m' r h c _ (by decide),
      args_ri m' r h c _ (by decide), args_ri m' r h c _ (by decide)⟩) (Cert.ReferenceIdeal.Value.run_fold m' g')⟩

theorem claim : Cert.Claim :=
  ⟨Cert.Kernel.Gen.facts, Cert.KernelIdeal.Gen.facts, Cert.ReferenceIdeal.Gen.facts, Cert.Pre_in_range.Gen.facts,
    frame_k, frame_ki, fun m ρ _ => frame_ki m ρ trivial, frame_ri, fun m ρ _ => frame_ri m ρ trivial, trivial, value⟩

end Cert.Proof

end
